-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InProjT (m : (ℓ : Loc Cert.InProjT.nD Cert.InProjT.τ Cert.InProjT.sig) → Buf (Elt Bits) ℓ) : Prop :=
  True

def Pre_InProjTIdeal (m : (ℓ : Loc Cert.InProjTIdeal.nD Cert.InProjTIdeal.τ Cert.InProjTIdeal.sig) → Buf (Elt Ideal) ℓ) : Prop :=
  True

def Pre_InProjTRefIdeal (m : (ℓ : Loc Cert.InProjTRefIdeal.nD Cert.InProjTRefIdeal.τ Cert.InProjTRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnRefIdeal (m : (ℓ : Loc Cert.XattnRefIdeal.nD Cert.XattnRefIdeal.τ Cert.XattnRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_HgrnRefIdeal (m : (ℓ : Loc Cert.HgrnRefIdeal.nD Cert.HgrnRefIdeal.τ Cert.HgrnRefIdeal.sig) → Buf (Elt Ideal) ℓ) : Prop :=
  True

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressRefIdeal (m : (ℓ : Loc Cert.CompressRefIdeal.nD Cert.CompressRefIdeal.τ Cert.CompressRefIdeal.sig) → Buf (Elt Ideal) ℓ) : Prop :=
  True

def Pre_CmpSelect (m : (ℓ : Loc Cert.CmpSelect.nD Cert.CmpSelect.τ Cert.CmpSelect.sig) → Buf (Elt Bits) ℓ) : Prop :=
  True

def Pre_CmpSelectIdeal (m : (ℓ : Loc Cert.CmpSelectIdeal.nD Cert.CmpSelectIdeal.τ Cert.CmpSelectIdeal.sig) → Buf (Elt Ideal) ℓ) : Prop :=
  True

def Pre_CmpSelectRefIdeal (m : (ℓ : Loc Cert.CmpSelectRefIdeal.nD Cert.CmpSelectRefIdeal.τ Cert.CmpSelectRefIdeal.sig) → Buf (Elt Ideal) ℓ) : Prop :=
  True

def Pre_Sparse (m : (ℓ : Loc Cert.Sparse.nD Cert.Sparse.τ Cert.Sparse.sig) → Buf (Elt Bits) ℓ) : Prop :=
  True

def Pre_SparseIdeal (m : (ℓ : Loc Cert.SparseIdeal.nD Cert.SparseIdeal.τ Cert.SparseIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_InProjT [hInProjT : Cert.InProjT.Facts] : Prop :=
  ∀ (m : (ℓ : Loc Cert.InProjT.nD Cert.InProjT.τ Cert.InProjT.sig) → Buf (Elt Bits) ℓ) (g : Dev Cert.InProjT.nD → PrngReg), Pre_InProjT m →
    θ_run (Cert.InProjT.defs (F := Bits)) (onTc (τ := Cert.InProjT.τ) (Cert.InProjT.main (F := Bits))) ⟨m, fun _ => 0, g⟩ (fun r => (∀ c : Dev Cert.InProjT.nD,
      r.2.mem ((c.tc : Thread Cert.InProjT.nD Cert.InProjT.τ).loc Cert.InProjT.main_arg0) = m ((c.tc : Thread Cert.InProjT.nD Cert.InProjT.τ).loc Cert.InProjT.main_arg0)
      ∧ r.2.mem ((c.tc : Thread Cert.InProjT.nD Cert.InProjT.τ).loc Cert.InProjT.main_arg1) = m ((c.tc : Thread Cert.InProjT.nD Cert.InProjT.τ).loc Cert.InProjT.main_arg1)
      ∧ r.2.mem ((c.tc : Thread Cert.InProjT.nD Cert.InProjT.τ).loc Cert.InProjT.main_arg2) = m ((c.tc : Thread Cert.InProjT.nD Cert.InProjT.τ).loc Cert.InProjT.main_arg2))
      ∧ r.2.sem = fun _ => 0)

def quiescent_InProjTIdeal [hInProjTIdeal : Cert.InProjTIdeal.Facts] : Prop :=
  ∀ (m : (ℓ : Loc Cert.InProjTIdeal.nD Cert.InProjTIdeal.τ Cert.InProjTIdeal.sig) → Buf (Elt Ideal) ℓ) (g : Dev Cert.InProjTIdeal.nD → PrngReg), Pre_InProjTIdeal m →
    θ_run (Cert.InProjTIdeal.defs (F := Ideal)) (onTc (τ := Cert.InProjTIdeal.τ) (Cert.InProjTIdeal.main (F := Ideal))) ⟨m, fun _ => 0, g⟩ (fun r => (∀ c : Dev Cert.InProjTIdeal.nD,
      r.2.mem ((c.tc : Thread Cert.InProjTIdeal.nD Cert.InProjTIdeal.τ).loc Cert.InProjTIdeal.main_arg0) = m ((c.tc : Thread Cert.InProjTIdeal.nD Cert.InProjTIdeal.τ).loc Cert.InProjTIdeal.main_arg0)
      ∧ r.2.mem ((c.tc : Thread Cert.InProjTIdeal.nD Cert.InProjTIdeal.τ).loc Cert.InProjTIdeal.main_arg1) = m ((c.tc : Thread Cert.InProjTIdeal.nD Cert.InProjTIdeal.τ).loc Cert.InProjTIdeal.main_arg1)
      ∧ r.2.mem ((c.tc : Thread Cert.InProjTIdeal.nD Cert.InProjTIdeal.τ).loc Cert.InProjTIdeal.main_arg2) = m ((c.tc : Thread Cert.InProjTIdeal.nD Cert.InProjTIdeal.τ).loc Cert.InProjTIdeal.main_arg2))
      ∧ r.2.sem = fun _ => 0)

def quiescent_InProjTRefIdeal [hInProjTRefIdeal : Cert.InProjTRefIdeal.Facts] : Prop :=
  ∀ (m : (ℓ : Loc Cert.InProjTRefIdeal.nD Cert.InProjTRefIdeal.τ Cert.InProjTRefIdeal.sig) → Buf (Elt Ideal) ℓ) (g : Dev Cert.InProjTRefIdeal.nD → PrngReg), Pre_InProjTRefIdeal m →
    θ_run (Cert.InProjTRefIdeal.defs (F := Ideal)) (onTc (τ := Cert.InProjTRefIdeal.τ) (Cert.InProjTRefIdeal.main (F := Ideal))) ⟨m, fun _ => 0, g⟩ (fun r => (∀ c : Dev Cert.InProjTRefIdeal.nD,
      r.2.mem ((c.tc : Thread Cert.InProjTRefIdeal.nD Cert.InProjTRefIdeal.τ).loc Cert.InProjTRefIdeal.main_arg0) = m ((c.tc : Thread Cert.InProjTRefIdeal.nD Cert.InProjTRefIdeal.τ).loc Cert.InProjTRefIdeal.main_arg0)
      ∧ r.2.mem ((c.tc : Thread Cert.InProjTRefIdeal.nD Cert.InProjTRefIdeal.τ).loc Cert.InProjTRefIdeal.main_arg1) = m ((c.tc : Thread Cert.InProjTRefIdeal.nD Cert.InProjTRefIdeal.τ).loc Cert.InProjTRefIdeal.main_arg1)
      ∧ r.2.mem ((c.tc : Thread Cert.InProjTRefIdeal.nD Cert.InProjTRefIdeal.τ).loc Cert.InProjTRefIdeal.main_arg2) = m ((c.tc : Thread Cert.InProjTRefIdeal.nD Cert.InProjTRefIdeal.τ).loc Cert.InProjTRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2)
      ∧ r.2.mem ((c.tc : Thread Cert.Xattn.nD Cert.Xattn.τ).loc Cert.Xattn.main_arg3) = m ((c.tc : Thread Cert.Xattn.nD Cert.Xattn.τ).loc Cert.Xattn.main_arg3)
      ∧ r.2.mem ((c.tc : Thread Cert.Xattn.nD Cert.Xattn.τ).loc Cert.Xattn.main_arg4) = m ((c.tc : Thread Cert.Xattn.nD Cert.Xattn.τ).loc Cert.Xattn.main_arg4)
      ∧ r.2.mem ((c.tc : Thread Cert.Xattn.nD Cert.Xattn.τ).loc Cert.Xattn.main_arg5) = m ((c.tc : Thread Cert.Xattn.nD Cert.Xattn.τ).loc Cert.Xattn.main_arg5))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4)
      ∧ r.2.mem ((c.tc : Thread Cert.XattnRefIdeal.nD Cert.XattnRefIdeal.τ).loc Cert.XattnRefIdeal.main_arg5) = m ((c.tc : Thread Cert.XattnRefIdeal.nD Cert.XattnRefIdeal.τ).loc Cert.XattnRefIdeal.main_arg5))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2))
      ∧ r.2.sem = fun _ => 0)

def quiescent_HgrnRefIdeal [hHgrnRefIdeal : Cert.HgrnRefIdeal.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3)
      ∧ r.2.mem ((c.tc : Thread Cert.Compress.nD Cert.Compress.τ).loc Cert.Compress.main_arg4) = m ((c.tc : Thread Cert.Compress.nD Cert.Compress.τ).loc Cert.Compress.main_arg4)
      ∧ r.2.mem ((c.tc : Thread Cert.Compress.nD Cert.Compress.τ).loc Cert.Compress.main_arg5) = m ((c.tc : Thread Cert.Compress.nD Cert.Compress.τ).loc Cert.Compress.main_arg5)
      ∧ r.2.mem ((c.tc : Thread Cert.Compress.nD Cert.Compress.τ).loc Cert.Compress.main_arg6) = m ((c.tc : Thread Cert.Compress.nD Cert.Compress.τ).loc Cert.Compress.main_arg6))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
      ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
      ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
      ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6))
      ∧ r.2.sem = fun _ => 0)

def quiescent_CompressRefIdeal [hCompressRefIdeal : Cert.CompressRefIdeal.Facts] : Prop :=
  ∀ (m : (ℓ : Loc Cert.CompressRefIdeal.nD Cert.CompressRefIdeal.τ Cert.CompressRefIdeal.sig) → Buf (Elt Ideal) ℓ) (g : Dev Cert.CompressRefIdeal.nD → PrngReg), Pre_CompressRefIdeal m →
    θ_run (Cert.CompressRefIdeal.defs (F := Ideal)) (onTc (τ := Cert.CompressRefIdeal.τ) (Cert.CompressRefIdeal.main (F := Ideal))) ⟨m, fun _ => 0, g⟩ (fun r => (∀ c : Dev Cert.CompressRefIdeal.nD,
      r.2.mem ((c.tc : Thread Cert.CompressRefIdeal.nD Cert.CompressRefIdeal.τ).loc Cert.CompressRefIdeal.main_arg0) = m ((c.tc : Thread Cert.CompressRefIdeal.nD Cert.CompressRefIdeal.τ).loc Cert.CompressRefIdeal.main_arg0)
      ∧ r.2.mem ((c.tc : Thread Cert.CompressRefIdeal.nD Cert.CompressRefIdeal.τ).loc Cert.CompressRefIdeal.main_arg1) = m ((c.tc : Thread Cert.CompressRefIdeal.nD Cert.CompressRefIdeal.τ).loc Cert.CompressRefIdeal.main_arg1)
      ∧ r.2.mem ((c.tc : Thread Cert.CompressRefIdeal.nD Cert.CompressRefIdeal.τ).loc Cert.CompressRefIdeal.main_arg2) = m ((c.tc : Thread Cert.CompressRefIdeal.nD Cert.CompressRefIdeal.τ).loc Cert.CompressRefIdeal.main_arg2)
      ∧ r.2.mem ((c.tc : Thread Cert.CompressRefIdeal.nD Cert.CompressRefIdeal.τ).loc Cert.CompressRefIdeal.main_arg3) = m ((c.tc : Thread Cert.CompressRefIdeal.nD Cert.CompressRefIdeal.τ).loc Cert.CompressRefIdeal.main_arg3)
      ∧ r.2.mem ((c.tc : Thread Cert.CompressRefIdeal.nD Cert.CompressRefIdeal.τ).loc Cert.CompressRefIdeal.main_arg4) = m ((c.tc : Thread Cert.CompressRefIdeal.nD Cert.CompressRefIdeal.τ).loc Cert.CompressRefIdeal.main_arg4)
      ∧ r.2.mem ((c.tc : Thread Cert.CompressRefIdeal.nD Cert.CompressRefIdeal.τ).loc Cert.CompressRefIdeal.main_arg5) = m ((c.tc : Thread Cert.CompressRefIdeal.nD Cert.CompressRefIdeal.τ).loc Cert.CompressRefIdeal.main_arg5)
      ∧ r.2.mem ((c.tc : Thread Cert.CompressRefIdeal.nD Cert.CompressRefIdeal.τ).loc Cert.CompressRefIdeal.main_arg6) = m ((c.tc : Thread Cert.CompressRefIdeal.nD Cert.CompressRefIdeal.τ).loc Cert.CompressRefIdeal.main_arg6))
      ∧ r.2.sem = fun _ => 0)

def quiescent_CmpSelect [hCmpSelect : Cert.CmpSelect.Facts] : Prop :=
  ∀ (m : (ℓ : Loc Cert.CmpSelect.nD Cert.CmpSelect.τ Cert.CmpSelect.sig) → Buf (Elt Bits) ℓ) (g : Dev Cert.CmpSelect.nD → PrngReg), Pre_CmpSelect m →
    θ_run (Cert.CmpSelect.defs (F := Bits)) (onTc (τ := Cert.CmpSelect.τ) (Cert.CmpSelect.main (F := Bits))) ⟨m, fun _ => 0, g⟩ (fun r => (∀ c : Dev Cert.CmpSelect.nD,
      r.2.mem ((c.tc : Thread Cert.CmpSelect.nD Cert.CmpSelect.τ).loc Cert.CmpSelect.main_arg0) = m ((c.tc : Thread Cert.CmpSelect.nD Cert.CmpSelect.τ).loc Cert.CmpSelect.main_arg0)
      ∧ r.2.mem ((c.tc : Thread Cert.CmpSelect.nD Cert.CmpSelect.τ).loc Cert.CmpSelect.main_arg1) = m ((c.tc : Thread Cert.CmpSelect.nD Cert.CmpSelect.τ).loc Cert.CmpSelect.main_arg1)
      ∧ r.2.mem ((c.tc : Thread Cert.CmpSelect.nD Cert.CmpSelect.τ).loc Cert.CmpSelect.main_arg2) = m ((c.tc : Thread Cert.CmpSelect.nD Cert.CmpSelect.τ).loc Cert.CmpSelect.main_arg2)
      ∧ r.2.mem ((c.tc : Thread Cert.CmpSelect.nD Cert.CmpSelect.τ).loc Cert.CmpSelect.main_arg3) = m ((c.tc : Thread Cert.CmpSelect.nD Cert.CmpSelect.τ).loc Cert.CmpSelect.main_arg3)
      ∧ r.2.mem ((c.tc : Thread Cert.CmpSelect.nD Cert.CmpSelect.τ).loc Cert.CmpSelect.main_arg4) = m ((c.tc : Thread Cert.CmpSelect.nD Cert.CmpSelect.τ).loc Cert.CmpSelect.main_arg4))
      ∧ r.2.sem = fun _ => 0)

def quiescent_CmpSelectIdeal [hCmpSelectIdeal : Cert.CmpSelectIdeal.Facts] : Prop :=
  ∀ (m : (ℓ : Loc Cert.CmpSelectIdeal.nD Cert.CmpSelectIdeal.τ Cert.CmpSelectIdeal.sig) → Buf (Elt Ideal) ℓ) (g : Dev Cert.CmpSelectIdeal.nD → PrngReg), Pre_CmpSelectIdeal m →
    θ_run (Cert.CmpSelectIdeal.defs (F := Ideal)) (onTc (τ := Cert.CmpSelectIdeal.τ) (Cert.CmpSelectIdeal.main (F := Ideal))) ⟨m, fun _ => 0, g⟩ (fun r => (∀ c : Dev Cert.CmpSelectIdeal.nD,
      r.2.mem ((c.tc : Thread Cert.CmpSelectIdeal.nD Cert.CmpSelectIdeal.τ).loc Cert.CmpSelectIdeal.main_arg0) = m ((c.tc : Thread Cert.CmpSelectIdeal.nD Cert.CmpSelectIdeal.τ).loc Cert.CmpSelectIdeal.main_arg0)
      ∧ r.2.mem ((c.tc : Thread Cert.CmpSelectIdeal.nD Cert.CmpSelectIdeal.τ).loc Cert.CmpSelectIdeal.main_arg1) = m ((c.tc : Thread Cert.CmpSelectIdeal.nD Cert.CmpSelectIdeal.τ).loc Cert.CmpSelectIdeal.main_arg1)
      ∧ r.2.mem ((c.tc : Thread Cert.CmpSelectIdeal.nD Cert.CmpSelectIdeal.τ).loc Cert.CmpSelectIdeal.main_arg2) = m ((c.tc : Thread Cert.CmpSelectIdeal.nD Cert.CmpSelectIdeal.τ).loc Cert.CmpSelectIdeal.main_arg2)
      ∧ r.2.mem ((c.tc : Thread Cert.CmpSelectIdeal.nD Cert.CmpSelectIdeal.τ).loc Cert.CmpSelectIdeal.main_arg3) = m ((c.tc : Thread Cert.CmpSelectIdeal.nD Cert.CmpSelectIdeal.τ).loc Cert.CmpSelectIdeal.main_arg3)
      ∧ r.2.mem ((c.tc : Thread Cert.CmpSelectIdeal.nD Cert.CmpSelectIdeal.τ).loc Cert.CmpSelectIdeal.main_arg4) = m ((c.tc : Thread Cert.CmpSelectIdeal.nD Cert.CmpSelectIdeal.τ).loc Cert.CmpSelectIdeal.main_arg4))
      ∧ r.2.sem = fun _ => 0)

def quiescent_CmpSelectRefIdeal [hCmpSelectRefIdeal : Cert.CmpSelectRefIdeal.Facts] : Prop :=
  ∀ (m : (ℓ : Loc Cert.CmpSelectRefIdeal.nD Cert.CmpSelectRefIdeal.τ Cert.CmpSelectRefIdeal.sig) → Buf (Elt Ideal) ℓ) (g : Dev Cert.CmpSelectRefIdeal.nD → PrngReg), Pre_CmpSelectRefIdeal m →
    θ_run (Cert.CmpSelectRefIdeal.defs (F := Ideal)) (onTc (τ := Cert.CmpSelectRefIdeal.τ) (Cert.CmpSelectRefIdeal.main (F := Ideal))) ⟨m, fun _ => 0, g⟩ (fun r => (∀ c : Dev Cert.CmpSelectRefIdeal.nD,
      r.2.mem ((c.tc : Thread Cert.CmpSelectRefIdeal.nD Cert.CmpSelectRefIdeal.τ).loc Cert.CmpSelectRefIdeal.main_arg0) = m ((c.tc : Thread Cert.CmpSelectRefIdeal.nD Cert.CmpSelectRefIdeal.τ).loc Cert.CmpSelectRefIdeal.main_arg0)
      ∧ r.2.mem ((c.tc : Thread Cert.CmpSelectRefIdeal.nD Cert.CmpSelectRefIdeal.τ).loc Cert.CmpSelectRefIdeal.main_arg1) = m ((c.tc : Thread Cert.CmpSelectRefIdeal.nD Cert.CmpSelectRefIdeal.τ).loc Cert.CmpSelectRefIdeal.main_arg1)
      ∧ r.2.mem ((c.tc : Thread Cert.CmpSelectRefIdeal.nD Cert.CmpSelectRefIdeal.τ).loc Cert.CmpSelectRefIdeal.main_arg2) = m ((c.tc : Thread Cert.CmpSelectRefIdeal.nD Cert.CmpSelectRefIdeal.τ).loc Cert.CmpSelectRefIdeal.main_arg2)
      ∧ r.2.mem ((c.tc : Thread Cert.CmpSelectRefIdeal.nD Cert.CmpSelectRefIdeal.τ).loc Cert.CmpSelectRefIdeal.main_arg3) = m ((c.tc : Thread Cert.CmpSelectRefIdeal.nD Cert.CmpSelectRefIdeal.τ).loc Cert.CmpSelectRefIdeal.main_arg3)
      ∧ r.2.mem ((c.tc : Thread Cert.CmpSelectRefIdeal.nD Cert.CmpSelectRefIdeal.τ).loc Cert.CmpSelectRefIdeal.main_arg4) = m ((c.tc : Thread Cert.CmpSelectRefIdeal.nD Cert.CmpSelectRefIdeal.τ).loc Cert.CmpSelectRefIdeal.main_arg4))
      ∧ r.2.sem = fun _ => 0)

def quiescent_Sparse [hSparse : Cert.Sparse.Facts] : Prop :=
  ∀ (m : (ℓ : Loc Cert.Sparse.nD Cert.Sparse.τ Cert.Sparse.sig) → Buf (Elt Bits) ℓ) (g : Dev Cert.Sparse.nD → PrngReg), Pre_Sparse m →
    θ_run (Cert.Sparse.defs (F := Bits)) (onTc (τ := Cert.Sparse.τ) (Cert.Sparse.main (F := Bits))) ⟨m, fun _ => 0, g⟩ (fun r => (∀ c : Dev Cert.Sparse.nD,
      r.2.mem ((c.tc : Thread Cert.Sparse.nD Cert.Sparse.τ).loc Cert.Sparse.main_arg0) = m ((c.tc : Thread Cert.Sparse.nD Cert.Sparse.τ).loc Cert.Sparse.main_arg0)
      ∧ r.2.mem ((c.tc : Thread Cert.Sparse.nD Cert.Sparse.τ).loc Cert.Sparse.main_arg1) = m ((c.tc : Thread Cert.Sparse.nD Cert.Sparse.τ).loc Cert.Sparse.main_arg1)
      ∧ r.2.mem ((c.tc : Thread Cert.Sparse.nD Cert.Sparse.τ).loc Cert.Sparse.main_arg2) = m ((c.tc : Thread Cert.Sparse.nD Cert.Sparse.τ).loc Cert.Sparse.main_arg2)
      ∧ r.2.mem ((c.tc : Thread Cert.Sparse.nD Cert.Sparse.τ).loc Cert.Sparse.main_arg3) = m ((c.tc : Thread Cert.Sparse.nD Cert.Sparse.τ).loc Cert.Sparse.main_arg3)
      ∧ r.2.mem ((c.tc : Thread Cert.Sparse.nD Cert.Sparse.τ).loc Cert.Sparse.main_arg4) = m ((c.tc : Thread Cert.Sparse.nD Cert.Sparse.τ).loc Cert.Sparse.main_arg4)
      ∧ r.2.mem ((c.tc : Thread Cert.Sparse.nD Cert.Sparse.τ).loc Cert.Sparse.main_arg5) = m ((c.tc : Thread Cert.Sparse.nD Cert.Sparse.τ).loc Cert.Sparse.main_arg5))
      ∧ r.2.sem = fun _ => 0)

def quiescent_SparseIdeal [hSparseIdeal : Cert.SparseIdeal.Facts] : Prop :=
  ∀ (m : (ℓ : Loc Cert.SparseIdeal.nD Cert.SparseIdeal.τ Cert.SparseIdeal.sig) → Buf (Elt Ideal) ℓ) (g : Dev Cert.SparseIdeal.nD → PrngReg), Pre_SparseIdeal m →
    θ_run (Cert.SparseIdeal.defs (F := Ideal)) (onTc (τ := Cert.SparseIdeal.τ) (Cert.SparseIdeal.main (F := Ideal))) ⟨m, fun _ => 0, g⟩ (fun r => (∀ c : Dev Cert.SparseIdeal.nD,
      r.2.mem ((c.tc : Thread Cert.SparseIdeal.nD Cert.SparseIdeal.τ).loc Cert.SparseIdeal.main_arg0) = m ((c.tc : Thread Cert.SparseIdeal.nD Cert.SparseIdeal.τ).loc Cert.SparseIdeal.main_arg0)
      ∧ r.2.mem ((c.tc : Thread Cert.SparseIdeal.nD Cert.SparseIdeal.τ).loc Cert.SparseIdeal.main_arg1) = m ((c.tc : Thread Cert.SparseIdeal.nD Cert.SparseIdeal.τ).loc Cert.SparseIdeal.main_arg1)
      ∧ r.2.mem ((c.tc : Thread Cert.SparseIdeal.nD Cert.SparseIdeal.τ).loc Cert.SparseIdeal.main_arg2) = m ((c.tc : Thread Cert.SparseIdeal.nD Cert.SparseIdeal.τ).loc Cert.SparseIdeal.main_arg2)
      ∧ r.2.mem ((c.tc : Thread Cert.SparseIdeal.nD Cert.SparseIdeal.τ).loc Cert.SparseIdeal.main_arg3) = m ((c.tc : Thread Cert.SparseIdeal.nD Cert.SparseIdeal.τ).loc Cert.SparseIdeal.main_arg3)
      ∧ r.2.mem ((c.tc : Thread Cert.SparseIdeal.nD Cert.SparseIdeal.τ).loc Cert.SparseIdeal.main_arg4) = m ((c.tc : Thread Cert.SparseIdeal.nD Cert.SparseIdeal.τ).loc Cert.SparseIdeal.main_arg4)
      ∧ r.2.mem ((c.tc : Thread Cert.SparseIdeal.nD Cert.SparseIdeal.τ).loc Cert.SparseIdeal.main_arg5) = m ((c.tc : Thread Cert.SparseIdeal.nD Cert.SparseIdeal.τ).loc Cert.SparseIdeal.main_arg5))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v32) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v14) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_InProjT_InProjTIdeal : Prop :=
  True

def algebraic_InProjTIdeal_InProjTRefIdeal [hInProjTIdeal : Cert.InProjTIdeal.Facts] [hInProjTRefIdeal : Cert.InProjTRefIdeal.Facts] : Prop :=
  ∀ (m : (ℓ : Loc Cert.InProjTIdeal.nD Cert.InProjTIdeal.τ Cert.InProjTIdeal.sig) → Buf (Elt Ideal) ℓ) (g : Dev Cert.InProjTIdeal.nD → PrngReg)
    (m' : (ℓ : Loc Cert.InProjTRefIdeal.nD Cert.InProjTRefIdeal.τ Cert.InProjTRefIdeal.sig) → Buf (Elt Ideal) ℓ) (g' : Dev Cert.InProjTRefIdeal.nD → PrngReg), Pre_InProjTIdeal m →
    (∀ c : Dev Cert.InProjTIdeal.nD,
      m' ((c.tc : Thread Cert.InProjTRefIdeal.nD Cert.InProjTRefIdeal.τ).loc Cert.InProjTRefIdeal.main_arg0) = m ((c.tc : Thread Cert.InProjTIdeal.nD Cert.InProjTIdeal.τ).loc Cert.InProjTIdeal.main_arg0)
      ∧ m' ((c.tc : Thread Cert.InProjTRefIdeal.nD Cert.InProjTRefIdeal.τ).loc Cert.InProjTRefIdeal.main_arg1) = m ((c.tc : Thread Cert.InProjTIdeal.nD Cert.InProjTIdeal.τ).loc Cert.InProjTIdeal.main_arg1)
      ∧ m' ((c.tc : Thread Cert.InProjTRefIdeal.nD Cert.InProjTRefIdeal.τ).loc Cert.InProjTRefIdeal.main_arg2) = m ((c.tc : Thread Cert.InProjTIdeal.nD Cert.InProjTIdeal.τ).loc Cert.InProjTIdeal.main_arg2)) →
    ∃ (v0 : (c : Dev Cert.InProjTIdeal.nD) → Buf (Elt Ideal) ((c.tc : Thread Cert.InProjTIdeal.nD Cert.InProjTIdeal.τ).loc Cert.InProjTIdeal.main_v0_0)) (v1 : (c : Dev Cert.InProjTIdeal.nD) → Buf (Elt Ideal) ((c.tc : Thread Cert.InProjTIdeal.nD Cert.InProjTIdeal.τ).loc Cert.InProjTIdeal.main_v0_1)),
      θ_run (Cert.InProjTIdeal.defs (F := Ideal)) (onTc (τ := Cert.InProjTIdeal.τ) (Cert.InProjTIdeal.main (F := Ideal))) ⟨m, fun _ => 0, g⟩ (fun r => ∀ c : Dev Cert.InProjTIdeal.nD,
          r.2.mem ((c.tc : Thread Cert.InProjTIdeal.nD Cert.InProjTIdeal.τ).loc Cert.InProjTIdeal.main_v0_0) = v0 c
          ∧ r.2.mem ((c.tc : Thread Cert.InProjTIdeal.nD Cert.InProjTIdeal.τ).loc Cert.InProjTIdeal.main_v0_1) = v1 c
          ∧ r.2.mem ((c.tc : Thread Cert.InProjTIdeal.nD Cert.InProjTIdeal.τ).loc Cert.InProjTIdeal.main_arg0) = m ((c.tc : Thread Cert.InProjTIdeal.nD Cert.InProjTIdeal.τ).loc Cert.InProjTIdeal.main_arg0)
          ∧ r.2.mem ((c.tc : Thread Cert.InProjTIdeal.nD Cert.InProjTIdeal.τ).loc Cert.InProjTIdeal.main_arg1) = m ((c.tc : Thread Cert.InProjTIdeal.nD Cert.InProjTIdeal.τ).loc Cert.InProjTIdeal.main_arg1)
          ∧ r.2.mem ((c.tc : Thread Cert.InProjTIdeal.nD Cert.InProjTIdeal.τ).loc Cert.InProjTIdeal.main_arg2) = m ((c.tc : Thread Cert.InProjTIdeal.nD Cert.InProjTIdeal.τ).loc Cert.InProjTIdeal.main_arg2))
      ∧ θ_run (Cert.InProjTRefIdeal.defs (F := Ideal)) (onTc (τ := Cert.InProjTRefIdeal.τ) (Cert.InProjTRefIdeal.main (F := Ideal))) ⟨m', fun _ => 0, g'⟩ (fun r => ∀ c : Dev Cert.InProjTRefIdeal.nD,
          r.2.mem ((c.tc : Thread Cert.InProjTRefIdeal.nD Cert.InProjTRefIdeal.τ).loc Cert.InProjTRefIdeal.main_v19) = v0 c
          ∧ r.2.mem ((c.tc : Thread Cert.InProjTRefIdeal.nD Cert.InProjTRefIdeal.τ).loc Cert.InProjTRefIdeal.main_v20) = v1 c
          ∧ r.2.mem ((c.tc : Thread Cert.InProjTRefIdeal.nD Cert.InProjTRefIdeal.τ).loc Cert.InProjTRefIdeal.main_arg0) = m' ((c.tc : Thread Cert.InProjTRefIdeal.nD Cert.InProjTRefIdeal.τ).loc Cert.InProjTRefIdeal.main_arg0)
          ∧ r.2.mem ((c.tc : Thread Cert.InProjTRefIdeal.nD Cert.InProjTRefIdeal.τ).loc Cert.InProjTRefIdeal.main_arg1) = m' ((c.tc : Thread Cert.InProjTRefIdeal.nD Cert.InProjTRefIdeal.τ).loc Cert.InProjTRefIdeal.main_arg1)
          ∧ r.2.mem ((c.tc : Thread Cert.InProjTRefIdeal.nD Cert.InProjTRefIdeal.τ).loc Cert.InProjTRefIdeal.main_arg2) = m' ((c.tc : Thread Cert.InProjTRefIdeal.nD Cert.InProjTRefIdeal.τ).loc Cert.InProjTRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v27) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Xattn_XattnIdeal : Prop :=
  IdealRules.named_const.Statement Cert.XattnIdeal.κ "scale" .f32 0x3DB504F3#32 (((Real.sqrt 128)⁻¹ : ℝ) : EReal)

def algebraic_XattnIdeal_XattnRefIdeal [hXattnIdeal : Cert.XattnIdeal.Facts] [hXattnRefIdeal : Cert.XattnRefIdeal.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)
      ∧ m' ((c.tc : Thread Cert.XattnRefIdeal.nD Cert.XattnRefIdeal.τ).loc Cert.XattnRefIdeal.main_arg3) = m ((c.tc : Thread Cert.XattnIdeal.nD Cert.XattnIdeal.τ).loc Cert.XattnIdeal.main_arg3)
      ∧ m' ((c.tc : Thread Cert.XattnRefIdeal.nD Cert.XattnRefIdeal.τ).loc Cert.XattnRefIdeal.main_arg4) = m ((c.tc : Thread Cert.XattnIdeal.nD Cert.XattnIdeal.τ).loc Cert.XattnIdeal.main_arg4)
      ∧ m' ((c.tc : Thread Cert.XattnRefIdeal.nD Cert.XattnRefIdeal.τ).loc Cert.XattnRefIdeal.main_arg5) = m ((c.tc : Thread Cert.XattnIdeal.nD Cert.XattnIdeal.τ).loc Cert.XattnIdeal.main_arg5)) →
    ∃ (v0 : (c : Dev Cert.XattnIdeal.nD) → Buf (Elt Ideal) ((c.tc : Thread Cert.XattnIdeal.nD Cert.XattnIdeal.τ).loc Cert.XattnIdeal.main_v0)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v0) = v0 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
          ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
          ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
          ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v38) = v0 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2)
          ∧ r.2.mem ((c.tc : Thread Cert.XattnRefIdeal.nD Cert.XattnRefIdeal.τ).loc Cert.XattnRefIdeal.main_arg3) = m' ((c.tc : Thread Cert.XattnRefIdeal.nD Cert.XattnRefIdeal.τ).loc Cert.XattnRefIdeal.main_arg3)
          ∧ r.2.mem ((c.tc : Thread Cert.XattnRefIdeal.nD Cert.XattnRefIdeal.τ).loc Cert.XattnRefIdeal.main_arg4) = m' ((c.tc : Thread Cert.XattnRefIdeal.nD Cert.XattnRefIdeal.τ).loc Cert.XattnRefIdeal.main_arg4)
          ∧ r.2.mem ((c.tc : Thread Cert.XattnRefIdeal.nD Cert.XattnRefIdeal.τ).loc Cert.XattnRefIdeal.main_arg5) = m' ((c.tc : Thread Cert.XattnRefIdeal.nD Cert.XattnRefIdeal.τ).loc Cert.XattnRefIdeal.main_arg5))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v0_0)) (v1 : (c : Dev Cert.MemKvIdeal.nD) → Buf (Elt Ideal) ((c.tc : Thread Cert.MemKvIdeal.nD Cert.MemKvIdeal.τ).loc Cert.MemKvIdeal.main_v0_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0_0) = v0 c
          ∧ r.2.mem ((c.tc : Thread Cert.MemKvIdeal.nD Cert.MemKvIdeal.τ).loc Cert.MemKvIdeal.main_v0_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v19) = v0 c
          ∧ r.2.mem ((c.tc : Thread Cert.MemKvRefIdeal.nD Cert.MemKvRefIdeal.τ).loc Cert.MemKvRefIdeal.main_v20) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_Hgrn_HgrnIdeal : Prop :=
  True

def algebraic_HgrnIdeal_HgrnRefIdeal [hHgrnIdeal : Cert.HgrnIdeal.Facts] [hHgrnRefIdeal : Cert.HgrnRefIdeal.Facts] : Prop :=
  ∀ (m : (ℓ : Loc Cert.HgrnIdeal.nD Cert.HgrnIdeal.τ Cert.HgrnIdeal.sig) → Buf (Elt Ideal) ℓ) (g : Dev Cert.HgrnIdeal.nD → PrngReg)
    (m' : (ℓ : Loc Cert.HgrnRefIdeal.nD Cert.HgrnRefIdeal.τ Cert.HgrnRefIdeal.sig) → Buf (Elt Ideal) ℓ) (g' : Dev Cert.HgrnRefIdeal.nD → PrngReg), Pre_HgrnIdeal m →
    (∀ c : Dev Cert.HgrnIdeal.nD,
      m' ((c.tc : Thread Cert.HgrnRefIdeal.nD Cert.HgrnRefIdeal.τ).loc Cert.HgrnRefIdeal.main_arg0) = m ((c.tc : Thread Cert.HgrnIdeal.nD Cert.HgrnIdeal.τ).loc Cert.HgrnIdeal.main_arg0)
      ∧ m' ((c.tc : Thread Cert.HgrnRefIdeal.nD Cert.HgrnRefIdeal.τ).loc Cert.HgrnRefIdeal.main_arg1) = m ((c.tc : Thread Cert.HgrnIdeal.nD Cert.HgrnIdeal.τ).loc Cert.HgrnIdeal.main_arg1)
      ∧ m' ((c.tc : Thread Cert.HgrnRefIdeal.nD Cert.HgrnRefIdeal.τ).loc Cert.HgrnRefIdeal.main_arg2) = m ((c.tc : Thread Cert.HgrnIdeal.nD Cert.HgrnIdeal.τ).loc Cert.HgrnIdeal.main_arg2)) →
    ∃ (v0 : (c : Dev Cert.HgrnIdeal.nD) → Buf (Elt Ideal) ((c.tc : Thread Cert.HgrnIdeal.nD Cert.HgrnIdeal.τ).loc Cert.HgrnIdeal.main_v0)),
      θ_run (Cert.HgrnIdeal.defs (F := Ideal)) (onTc (τ := Cert.HgrnIdeal.τ) (Cert.HgrnIdeal.main (F := Ideal))) ⟨m, fun _ => 0, g⟩ (fun r => ∀ c : Dev Cert.HgrnIdeal.nD,
          r.2.mem ((c.tc : Thread Cert.HgrnIdeal.nD Cert.HgrnIdeal.τ).loc Cert.HgrnIdeal.main_v0) = v0 c
          ∧ r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
          ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
          ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2))
      ∧ θ_run (Cert.HgrnRefIdeal.defs (F := Ideal)) (onTc (τ := Cert.HgrnRefIdeal.τ) (Cert.HgrnRefIdeal.main (F := Ideal))) ⟨m', fun _ => 0, g'⟩ (fun r => ∀ c : Dev Cert.HgrnRefIdeal.nD,
          r.2.mem ((c.tc : Thread Cert.HgrnRefIdeal.nD Cert.HgrnRefIdeal.τ).loc Cert.HgrnRefIdeal.main_v113) = v0 c
          ∧ r.2.mem ((c.tc : Thread Cert.HgrnRefIdeal.nD Cert.HgrnRefIdeal.τ).loc Cert.HgrnRefIdeal.main_arg0) = m' ((c.tc : Thread Cert.HgrnRefIdeal.nD Cert.HgrnRefIdeal.τ).loc Cert.HgrnRefIdeal.main_arg0)
          ∧ r.2.mem ((c.tc : Thread Cert.HgrnRefIdeal.nD Cert.HgrnRefIdeal.τ).loc Cert.HgrnRefIdeal.main_arg1) = m' ((c.tc : Thread Cert.HgrnRefIdeal.nD Cert.HgrnRefIdeal.τ).loc Cert.HgrnRefIdeal.main_arg1)
          ∧ r.2.mem ((c.tc : Thread Cert.HgrnRefIdeal.nD Cert.HgrnRefIdeal.τ).loc Cert.HgrnRefIdeal.main_arg2) = m' ((c.tc : Thread Cert.HgrnRefIdeal.nD Cert.HgrnRefIdeal.τ).loc Cert.HgrnRefIdeal.main_arg2))

def preserves_Compress_CompressIdeal : Prop :=
  True

def algebraic_CompressIdeal_CompressRefIdeal [hCompressIdeal : Cert.CompressIdeal.Facts] [hCompressRefIdeal : Cert.CompressRefIdeal.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressRefIdeal.nD Cert.CompressRefIdeal.τ Cert.CompressRefIdeal.sig) → Buf (Elt Ideal) ℓ) (g' : Dev Cert.CompressRefIdeal.nD → PrngReg), Pre_CompressIdeal m →
    (∀ c : Dev Cert.CompressIdeal.nD,
      m' ((c.tc : Thread Cert.CompressRefIdeal.nD Cert.CompressRefIdeal.τ).loc Cert.CompressRefIdeal.main_arg0) = m ((c.tc : Thread Cert.CompressIdeal.nD Cert.CompressIdeal.τ).loc Cert.CompressIdeal.main_arg0)
      ∧ m' ((c.tc : Thread Cert.CompressRefIdeal.nD Cert.CompressRefIdeal.τ).loc Cert.CompressRefIdeal.main_arg1) = m ((c.tc : Thread Cert.CompressIdeal.nD Cert.CompressIdeal.τ).loc Cert.CompressIdeal.main_arg1)
      ∧ m' ((c.tc : Thread Cert.CompressRefIdeal.nD Cert.CompressRefIdeal.τ).loc Cert.CompressRefIdeal.main_arg2) = m ((c.tc : Thread Cert.CompressIdeal.nD Cert.CompressIdeal.τ).loc Cert.CompressIdeal.main_arg2)
      ∧ m' ((c.tc : Thread Cert.CompressRefIdeal.nD Cert.CompressRefIdeal.τ).loc Cert.CompressRefIdeal.main_arg3) = m ((c.tc : Thread Cert.CompressIdeal.nD Cert.CompressIdeal.τ).loc Cert.CompressIdeal.main_arg3)
      ∧ m' ((c.tc : Thread Cert.CompressRefIdeal.nD Cert.CompressRefIdeal.τ).loc Cert.CompressRefIdeal.main_arg4) = m ((c.tc : Thread Cert.CompressIdeal.nD Cert.CompressIdeal.τ).loc Cert.CompressIdeal.main_arg4)
      ∧ m' ((c.tc : Thread Cert.CompressRefIdeal.nD Cert.CompressRefIdeal.τ).loc Cert.CompressRefIdeal.main_arg5) = m ((c.tc : Thread Cert.CompressIdeal.nD Cert.CompressIdeal.τ).loc Cert.CompressIdeal.main_arg5)
      ∧ m' ((c.tc : Thread Cert.CompressRefIdeal.nD Cert.CompressRefIdeal.τ).loc Cert.CompressRefIdeal.main_arg6) = m ((c.tc : Thread Cert.CompressIdeal.nD Cert.CompressIdeal.τ).loc Cert.CompressIdeal.main_arg6)) →
    ∃ (v0 : (c : Dev Cert.CompressIdeal.nD) → Buf (Elt Ideal) ((c.tc : Thread Cert.CompressIdeal.nD Cert.CompressIdeal.τ).loc Cert.CompressIdeal.main_v0_0)) (v1 : (c : Dev Cert.CompressIdeal.nD) → Buf (Elt Ideal) ((c.tc : Thread Cert.CompressIdeal.nD Cert.CompressIdeal.τ).loc Cert.CompressIdeal.main_v0_1)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v0_0) = v0 c
          ∧ r.2.mem ((c.tc : Thread Cert.CompressIdeal.nD Cert.CompressIdeal.τ).loc Cert.CompressIdeal.main_v0_1) = v1 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
          ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
          ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
          ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6))
      ∧ θ_run (Cert.CompressRefIdeal.defs (F := Ideal)) (onTc (τ := Cert.CompressRefIdeal.τ) (Cert.CompressRefIdeal.main (F := Ideal))) ⟨m', fun _ => 0, g'⟩ (fun r => ∀ c : Dev Cert.CompressRefIdeal.nD,
          r.2.mem ((c.tc : Thread Cert.CompressRefIdeal.nD Cert.CompressRefIdeal.τ).loc Cert.CompressRefIdeal.main_v19) = v0 c
          ∧ r.2.mem ((c.tc : Thread Cert.CompressRefIdeal.nD Cert.CompressRefIdeal.τ).loc Cert.CompressRefIdeal.main_v38) = v1 c
          ∧ r.2.mem ((c.tc : Thread Cert.CompressRefIdeal.nD Cert.CompressRefIdeal.τ).loc Cert.CompressRefIdeal.main_arg0) = m' ((c.tc : Thread Cert.CompressRefIdeal.nD Cert.CompressRefIdeal.τ).loc Cert.CompressRefIdeal.main_arg0)
          ∧ r.2.mem ((c.tc : Thread Cert.CompressRefIdeal.nD Cert.CompressRefIdeal.τ).loc Cert.CompressRefIdeal.main_arg1) = m' ((c.tc : Thread Cert.CompressRefIdeal.nD Cert.CompressRefIdeal.τ).loc Cert.CompressRefIdeal.main_arg1)
          ∧ r.2.mem ((c.tc : Thread Cert.CompressRefIdeal.nD Cert.CompressRefIdeal.τ).loc Cert.CompressRefIdeal.main_arg2) = m' ((c.tc : Thread Cert.CompressRefIdeal.nD Cert.CompressRefIdeal.τ).loc Cert.CompressRefIdeal.main_arg2)
          ∧ r.2.mem ((c.tc : Thread Cert.CompressRefIdeal.nD Cert.CompressRefIdeal.τ).loc Cert.CompressRefIdeal.main_arg3) = m' ((c.tc : Thread Cert.CompressRefIdeal.nD Cert.CompressRefIdeal.τ).loc Cert.CompressRefIdeal.main_arg3)
          ∧ r.2.mem ((c.tc : Thread Cert.CompressRefIdeal.nD Cert.CompressRefIdeal.τ).loc Cert.CompressRefIdeal.main_arg4) = m' ((c.tc : Thread Cert.CompressRefIdeal.nD Cert.CompressRefIdeal.τ).loc Cert.CompressRefIdeal.main_arg4)
          ∧ r.2.mem ((c.tc : Thread Cert.CompressRefIdeal.nD Cert.CompressRefIdeal.τ).loc Cert.CompressRefIdeal.main_arg5) = m' ((c.tc : Thread Cert.CompressRefIdeal.nD Cert.CompressRefIdeal.τ).loc Cert.CompressRefIdeal.main_arg5)
          ∧ r.2.mem ((c.tc : Thread Cert.CompressRefIdeal.nD Cert.CompressRefIdeal.τ).loc Cert.CompressRefIdeal.main_arg6) = m' ((c.tc : Thread Cert.CompressRefIdeal.nD Cert.CompressRefIdeal.τ).loc Cert.CompressRefIdeal.main_arg6))

def preserves_CmpSelect_CmpSelectIdeal : Prop :=
  True

def algebraic_CmpSelectIdeal_CmpSelectRefIdeal [hCmpSelectIdeal : Cert.CmpSelectIdeal.Facts] [hCmpSelectRefIdeal : Cert.CmpSelectRefIdeal.Facts] : Prop :=
  ∀ (m : (ℓ : Loc Cert.CmpSelectIdeal.nD Cert.CmpSelectIdeal.τ Cert.CmpSelectIdeal.sig) → Buf (Elt Ideal) ℓ) (g : Dev Cert.CmpSelectIdeal.nD → PrngReg)
    (m' : (ℓ : Loc Cert.CmpSelectRefIdeal.nD Cert.CmpSelectRefIdeal.τ Cert.CmpSelectRefIdeal.sig) → Buf (Elt Ideal) ℓ) (g' : Dev Cert.CmpSelectRefIdeal.nD → PrngReg), Pre_CmpSelectIdeal m →
    (∀ c : Dev Cert.CmpSelectIdeal.nD,
      m' ((c.tc : Thread Cert.CmpSelectRefIdeal.nD Cert.CmpSelectRefIdeal.τ).loc Cert.CmpSelectRefIdeal.main_arg0) = m ((c.tc : Thread Cert.CmpSelectIdeal.nD Cert.CmpSelectIdeal.τ).loc Cert.CmpSelectIdeal.main_arg0)
      ∧ m' ((c.tc : Thread Cert.CmpSelectRefIdeal.nD Cert.CmpSelectRefIdeal.τ).loc Cert.CmpSelectRefIdeal.main_arg1) = m ((c.tc : Thread Cert.CmpSelectIdeal.nD Cert.CmpSelectIdeal.τ).loc Cert.CmpSelectIdeal.main_arg1)
      ∧ m' ((c.tc : Thread Cert.CmpSelectRefIdeal.nD Cert.CmpSelectRefIdeal.τ).loc Cert.CmpSelectRefIdeal.main_arg2) = m ((c.tc : Thread Cert.CmpSelectIdeal.nD Cert.CmpSelectIdeal.τ).loc Cert.CmpSelectIdeal.main_arg2)
      ∧ m' ((c.tc : Thread Cert.CmpSelectRefIdeal.nD Cert.CmpSelectRefIdeal.τ).loc Cert.CmpSelectRefIdeal.main_arg3) = m ((c.tc : Thread Cert.CmpSelectIdeal.nD Cert.CmpSelectIdeal.τ).loc Cert.CmpSelectIdeal.main_arg3)
      ∧ m' ((c.tc : Thread Cert.CmpSelectRefIdeal.nD Cert.CmpSelectRefIdeal.τ).loc Cert.CmpSelectRefIdeal.main_arg4) = m ((c.tc : Thread Cert.CmpSelectIdeal.nD Cert.CmpSelectIdeal.τ).loc Cert.CmpSelectIdeal.main_arg4)) →
    ∃ (v0 : (c : Dev Cert.CmpSelectIdeal.nD) → Buf (Elt Ideal) ((c.tc : Thread Cert.CmpSelectIdeal.nD Cert.CmpSelectIdeal.τ).loc Cert.CmpSelectIdeal.main_v0_0)) (v1 : (c : Dev Cert.CmpSelectIdeal.nD) → Buf (Elt Ideal) ((c.tc : Thread Cert.CmpSelectIdeal.nD Cert.CmpSelectIdeal.τ).loc Cert.CmpSelectIdeal.main_v0_1)),
      θ_run (Cert.CmpSelectIdeal.defs (F := Ideal)) (onTc (τ := Cert.CmpSelectIdeal.τ) (Cert.CmpSelectIdeal.main (F := Ideal))) ⟨m, fun _ => 0, g⟩ (fun r => ∀ c : Dev Cert.CmpSelectIdeal.nD,
          r.2.mem ((c.tc : Thread Cert.CmpSelectIdeal.nD Cert.CmpSelectIdeal.τ).loc Cert.CmpSelectIdeal.main_v0_0) = v0 c
          ∧ r.2.mem ((c.tc : Thread Cert.CmpSelectIdeal.nD Cert.CmpSelectIdeal.τ).loc Cert.CmpSelectIdeal.main_v0_1) = v1 c
          ∧ r.2.mem ((c.tc : Thread Cert.CmpSelectIdeal.nD Cert.CmpSelectIdeal.τ).loc Cert.CmpSelectIdeal.main_arg0) = m ((c.tc : Thread Cert.CmpSelectIdeal.nD Cert.CmpSelectIdeal.τ).loc Cert.CmpSelectIdeal.main_arg0)
          ∧ r.2.mem ((c.tc : Thread Cert.CmpSelectIdeal.nD Cert.CmpSelectIdeal.τ).loc Cert.CmpSelectIdeal.main_arg1) = m ((c.tc : Thread Cert.CmpSelectIdeal.nD Cert.CmpSelectIdeal.τ).loc Cert.CmpSelectIdeal.main_arg1)
          ∧ r.2.mem ((c.tc : Thread Cert.CmpSelectIdeal.nD Cert.CmpSelectIdeal.τ).loc Cert.CmpSelectIdeal.main_arg2) = m ((c.tc : Thread Cert.CmpSelectIdeal.nD Cert.CmpSelectIdeal.τ).loc Cert.CmpSelectIdeal.main_arg2)
          ∧ r.2.mem ((c.tc : Thread Cert.CmpSelectIdeal.nD Cert.CmpSelectIdeal.τ).loc Cert.CmpSelectIdeal.main_arg3) = m ((c.tc : Thread Cert.CmpSelectIdeal.nD Cert.CmpSelectIdeal.τ).loc Cert.CmpSelectIdeal.main_arg3)
          ∧ r.2.mem ((c.tc : Thread Cert.CmpSelectIdeal.nD Cert.CmpSelectIdeal.τ).loc Cert.CmpSelectIdeal.main_arg4) = m ((c.tc : Thread Cert.CmpSelectIdeal.nD Cert.CmpSelectIdeal.τ).loc Cert.CmpSelectIdeal.main_arg4))
      ∧ θ_run (Cert.CmpSelectRefIdeal.defs (F := Ideal)) (onTc (τ := Cert.CmpSelectRefIdeal.τ) (Cert.CmpSelectRefIdeal.main (F := Ideal))) ⟨m', fun _ => 0, g'⟩ (fun r => ∀ c : Dev Cert.CmpSelectRefIdeal.nD,
          r.2.mem ((c.tc : Thread Cert.CmpSelectRefIdeal.nD Cert.CmpSelectRefIdeal.τ).loc Cert.CmpSelectRefIdeal.main_v87) = v0 c
          ∧ r.2.mem ((c.tc : Thread Cert.CmpSelectRefIdeal.nD Cert.CmpSelectRefIdeal.τ).loc Cert.CmpSelectRefIdeal.main_v89) = v1 c
          ∧ r.2.mem ((c.tc : Thread Cert.CmpSelectRefIdeal.nD Cert.CmpSelectRefIdeal.τ).loc Cert.CmpSelectRefIdeal.main_arg0) = m' ((c.tc : Thread Cert.CmpSelectRefIdeal.nD Cert.CmpSelectRefIdeal.τ).loc Cert.CmpSelectRefIdeal.main_arg0)
          ∧ r.2.mem ((c.tc : Thread Cert.CmpSelectRefIdeal.nD Cert.CmpSelectRefIdeal.τ).loc Cert.CmpSelectRefIdeal.main_arg1) = m' ((c.tc : Thread Cert.CmpSelectRefIdeal.nD Cert.CmpSelectRefIdeal.τ).loc Cert.CmpSelectRefIdeal.main_arg1)
          ∧ r.2.mem ((c.tc : Thread Cert.CmpSelectRefIdeal.nD Cert.CmpSelectRefIdeal.τ).loc Cert.CmpSelectRefIdeal.main_arg2) = m' ((c.tc : Thread Cert.CmpSelectRefIdeal.nD Cert.CmpSelectRefIdeal.τ).loc Cert.CmpSelectRefIdeal.main_arg2)
          ∧ r.2.mem ((c.tc : Thread Cert.CmpSelectRefIdeal.nD Cert.CmpSelectRefIdeal.τ).loc Cert.CmpSelectRefIdeal.main_arg3) = m' ((c.tc : Thread Cert.CmpSelectRefIdeal.nD Cert.CmpSelectRefIdeal.τ).loc Cert.CmpSelectRefIdeal.main_arg3)
          ∧ r.2.mem ((c.tc : Thread Cert.CmpSelectRefIdeal.nD Cert.CmpSelectRefIdeal.τ).loc Cert.CmpSelectRefIdeal.main_arg4) = m' ((c.tc : Thread Cert.CmpSelectRefIdeal.nD Cert.CmpSelectRefIdeal.τ).loc Cert.CmpSelectRefIdeal.main_arg4))

def preserves_Sparse_SparseIdeal : Prop :=
  IdealRules.named_const.Statement Cert.SparseIdeal.κ "mask" .f32 0xF149F2CA#32 ⊥

def Claim : Prop :=
  ∃ (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hInProjT : Cert.InProjT.Facts) (hInProjTIdeal : Cert.InProjTIdeal.Facts) (hInProjTRefIdeal : Cert.InProjTRefIdeal.Facts) (hMerge : Cert.Merge.Facts) (hMergeIdeal : Cert.MergeIdeal.Facts) (hMergeRefIdeal : Cert.MergeRefIdeal.Facts) (hXattn : Cert.Xattn.Facts) (hXattnIdeal : Cert.XattnIdeal.Facts) (hXattnRefIdeal : Cert.XattnRefIdeal.Facts) (hMemKv : Cert.MemKv.Facts) (hMemKvIdeal : Cert.MemKvIdeal.Facts) (hMemKvRefIdeal : Cert.MemKvRefIdeal.Facts) (hHgrn : Cert.Hgrn.Facts) (hHgrnIdeal : Cert.HgrnIdeal.Facts) (hHgrnRefIdeal : Cert.HgrnRefIdeal.Facts) (hCompress : Cert.Compress.Facts) (hCompressIdeal : Cert.CompressIdeal.Facts) (hCompressRefIdeal : Cert.CompressRefIdeal.Facts) (hCmpSelect : Cert.CmpSelect.Facts) (hCmpSelectIdeal : Cert.CmpSelectIdeal.Facts) (hCmpSelectRefIdeal : Cert.CmpSelectRefIdeal.Facts) (hSparse : Cert.Sparse.Facts) (hSparseIdeal : Cert.SparseIdeal.Facts),
    quiescent_Ffn (hFfn := hFfn)
    ∧ quiescent_FfnIdeal (hFfnIdeal := hFfnIdeal)
    ∧ quiescent_FfnRefIdeal (hFfnRefIdeal := hFfnRefIdeal)
    ∧ quiescent_InProj (hInProj := hInProj)
    ∧ quiescent_InProjIdeal (hInProjIdeal := hInProjIdeal)
    ∧ quiescent_InProjRefIdeal (hInProjRefIdeal := hInProjRefIdeal)
    ∧ quiescent_InProjT (hInProjT := hInProjT)
    ∧ quiescent_InProjTIdeal (hInProjTIdeal := hInProjTIdeal)
    ∧ quiescent_InProjTRefIdeal (hInProjTRefIdeal := hInProjTRefIdeal)
    ∧ quiescent_Merge (hMerge := hMerge)
    ∧ quiescent_MergeIdeal (hMergeIdeal := hMergeIdeal)
    ∧ quiescent_MergeRefIdeal (hMergeRefIdeal := hMergeRefIdeal)
    ∧ quiescent_Xattn (hXattn := hXattn)
    ∧ quiescent_XattnIdeal (hXattnIdeal := hXattnIdeal)
    ∧ quiescent_XattnRefIdeal (hXattnRefIdeal := hXattnRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Hgrn (hHgrn := hHgrn)
    ∧ quiescent_HgrnIdeal (hHgrnIdeal := hHgrnIdeal)
    ∧ quiescent_HgrnRefIdeal (hHgrnRefIdeal := hHgrnRefIdeal)
    ∧ quiescent_Compress (hCompress := hCompress)
    ∧ quiescent_CompressIdeal (hCompressIdeal := hCompressIdeal)
    ∧ quiescent_CompressRefIdeal (hCompressRefIdeal := hCompressRefIdeal)
    ∧ quiescent_CmpSelect (hCmpSelect := hCmpSelect)
    ∧ quiescent_CmpSelectIdeal (hCmpSelectIdeal := hCmpSelectIdeal)
    ∧ quiescent_CmpSelectRefIdeal (hCmpSelectRefIdeal := hCmpSelectRefIdeal)
    ∧ quiescent_Sparse (hSparse := hSparse)
    ∧ quiescent_SparseIdeal (hSparseIdeal := hSparseIdeal)
    ∧ preserves_Ffn_FfnIdeal
    ∧ algebraic_FfnIdeal_FfnRefIdeal (hFfnIdeal := hFfnIdeal) (hFfnRefIdeal := hFfnRefIdeal)
    ∧ preserves_InProj_InProjIdeal
    ∧ algebraic_InProjIdeal_InProjRefIdeal (hInProjIdeal := hInProjIdeal) (hInProjRefIdeal := hInProjRefIdeal)
    ∧ preserves_InProjT_InProjTIdeal
    ∧ algebraic_InProjTIdeal_InProjTRefIdeal (hInProjTIdeal := hInProjTIdeal) (hInProjTRefIdeal := hInProjTRefIdeal)
    ∧ preserves_Merge_MergeIdeal
    ∧ algebraic_MergeIdeal_MergeRefIdeal (hMergeIdeal := hMergeIdeal) (hMergeRefIdeal := hMergeRefIdeal)
    ∧ preserves_Xattn_XattnIdeal
    ∧ algebraic_XattnIdeal_XattnRefIdeal (hXattnIdeal := hXattnIdeal) (hXattnRefIdeal := hXattnRefIdeal)
    ∧ preserves_MemKv_MemKvIdeal
    ∧ algebraic_MemKvIdeal_MemKvRefIdeal (hMemKvIdeal := hMemKvIdeal) (hMemKvRefIdeal := hMemKvRefIdeal)
    ∧ preserves_Hgrn_HgrnIdeal
    ∧ algebraic_HgrnIdeal_HgrnRefIdeal (hHgrnIdeal := hHgrnIdeal) (hHgrnRefIdeal := hHgrnRefIdeal)
    ∧ preserves_Compress_CompressIdeal
    ∧ algebraic_CompressIdeal_CompressRefIdeal (hCompressIdeal := hCompressIdeal) (hCompressRefIdeal := hCompressRefIdeal)
    ∧ preserves_CmpSelect_CmpSelectIdeal
    ∧ algebraic_CmpSelectIdeal_CmpSelectRefIdeal (hCmpSelectIdeal := hCmpSelectIdeal) (hCmpSelectRefIdeal := hCmpSelectRefIdeal)
    ∧ preserves_Sparse_SparseIdeal
-- ==== Ffn.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 7
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1x1024, .f32⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x1, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== InProj.lean ====
abbrev S16384x1024 : Shape := ⟨2, ![16384, 1024]⟩
abbrev S1x1024 : Shape := ⟨2, ![1, 1024]⟩
abbrev S1024x7168 : Shape := ⟨2, ![1024, 7168]⟩
abbrev S16384x7168 : Shape := ⟨2, ![16384, 7168]⟩
abbrev S512x1024 : Shape := ⟨2, ![512, 1024]⟩
abbrev S1024x3584 : Shape := ⟨2, ![1024, 3584]⟩
abbrev S512x3584 : Shape := ⟨2, ![512, 3584]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x7168, .bf16⟩
  | .hbm, ⟨3, _⟩ => ⟨S16384x7168, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3584, .bf16⟩
  | .local _ .vmem, ⟨4, _⟩ => ⟨S1024x3584, .bf16⟩
  | .local _ .vmem, ⟨5, _⟩ => ⟨S512x3584, .bf16⟩
  | .local _ .vmem, ⟨6, _⟩ => ⟨S512x3584, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S16384x1024 : Shape := ⟨2, ![16384, 1024]⟩
abbrev S1x1024 : Shape := ⟨2, ![1, 1024]⟩
abbrev S1024x7168 : Shape := ⟨2, ![1024, 7168]⟩
abbrev S_ : Shape := ⟨0, ![]⟩
abbrev S16384 : Shape := ⟨1, ![16384]⟩
abbrev S16384x1 : Shape := ⟨2, ![16384, 1]⟩
abbrev S16384x7168 : Shape := ⟨2, ![16384, 7168]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x7168, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S1024x7168, .f32⟩
  | .hbm, ⟨19, _⟩ => ⟨S16384x7168, .f32⟩
  | .hbm, ⟨20, _⟩ => ⟨S16384x7168, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== InProjT.lean ====
abbrev S8x2048x1024 : Shape := ⟨3, ![8, 2048, 1024]⟩
abbrev S1x1024 : Shape := ⟨2, ![1, 1024]⟩
abbrev S1600x1024 : Shape := ⟨2, ![1600, 1024]⟩
abbrev S8x16x1536x128 : Shape := ⟨4, ![8, 16, 1536, 128]⟩
abbrev S8x16x64x128 : Shape := ⟨4, ![8, 16, 64, 128]⟩
abbrev S1x512x1024 : Shape := ⟨3, ![1, 512, 1024]⟩
abbrev S1x4x1536x128 : Shape := ⟨4, ![1, 4, 1536, 128]⟩
abbrev S1x4x64x128 : Shape := ⟨4, ![1, 4, 64, 128]⟩
abbrev S512x1024 : Shape := ⟨2, ![512, 1024]⟩
abbrev S512 : Shape := ⟨1, ![512]⟩
abbrev S512x1 : Shape := ⟨2, ![512, 1]⟩
abbrev S1600x512 : Shape := ⟨2, ![1600, 512]⟩
abbrev S1536x128 : Shape := ⟨2, ![1536, 128]⟩
abbrev S1x1x1536x128 : Shape := ⟨4, ![1, 1, 1536, 128]⟩
abbrev S64x128 : Shape := ⟨2, ![64, 128]⟩
abbrev S1x1x64x128 : Shape := ⟨4, ![1, 1, 64, 128]⟩

abbrev nBuf : Space → Nat
  | .hbm => 5
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1600x1024, .bf16⟩
  | .hbm, ⟨3, _⟩ => ⟨S8x16x1536x128, .bf16⟩
  | .hbm, ⟨4, _⟩ => ⟨S8x16x64x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1600x1024, .bf16⟩
  | .local _ .vmem, ⟨4, _⟩ => ⟨S1x4x1536x128, .bf16⟩
  | .local _ .vmem, ⟨5, _⟩ => ⟨S1x4x1536x128, .bf16⟩
  | .local _ .vmem, ⟨6, _⟩ => ⟨S1x4x64x128, .f32⟩
  | .local _ .vmem, ⟨7, _⟩ => ⟨S1x4x64x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1600x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4x1536x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjTRefIdeal.lean ====
abbrev S8x2048x1024 : Shape := ⟨3, ![8, 2048, 1024]⟩
abbrev S1x1024 : Shape := ⟨2, ![1, 1024]⟩
abbrev S1600x1024 : Shape := ⟨2, ![1600, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x1600 : Shape := ⟨2, ![1024, 1600]⟩
abbrev S8x2048x1600 : Shape := ⟨3, ![8, 2048, 1600]⟩
abbrev S8x16x128x1600 : Shape := ⟨4, ![8, 16, 128, 1600]⟩
abbrev S8x16x1600x128 : Shape := ⟨4, ![8, 16, 1600, 128]⟩
abbrev S8x16x1536x128 : Shape := ⟨4, ![8, 16, 1536, 128]⟩
abbrev S8x16x64x128 : Shape := ⟨4, ![8, 16, 64, 128]⟩

abbrev nBuf : Space → Nat
  | .hbm => 27
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1600x1024, .bf16⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S1600x1024, .f32⟩
  | .hbm, ⟨20, _⟩ => ⟨S1024x1600, .f32⟩
  | .hbm, ⟨21, _⟩ => ⟨S8x2048x1600, .f32⟩
  | .hbm, ⟨22, _⟩ => ⟨S8x16x128x1600, .f32⟩
  | .hbm, ⟨23, _⟩ => ⟨S8x16x1600x128, .f32⟩
  | .hbm, ⟨24, _⟩ => ⟨S8x16x1536x128, .f32⟩
  | .hbm, ⟨25, _⟩ => ⟨S8x16x1536x128, .bf16⟩
  | .hbm, ⟨26, _⟩ => ⟨S8x16x64x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Merge.lean ====
abbrev S16384x1024 : Shape := ⟨2, ![16384, 1024]⟩
abbrev S16384x7168 : Shape := ⟨2, ![16384, 7168]⟩
abbrev S1024x1024 : Shape := ⟨2, ![1024, 1024]⟩
abbrev S512x1024 : Shape := ⟨2, ![512, 1024]⟩

abbrev nBuf : Space → Nat
  | .hbm => 8
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S16384x7168, .bf16⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S16384x1024 : Shape := ⟨2, ![16384, 1024]⟩
abbrev S16384x7168 : Shape := ⟨2, ![16384, 7168]⟩
abbrev S1024x1024 : Shape := ⟨2, ![1024, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S16384x7168, .bf16⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S16384x1024, .bf16⟩
  | .hbm, ⟨8, _⟩ => ⟨S16384x1024, .f32⟩
  | .hbm, ⟨9, _⟩ => ⟨S16384x1024, .bf16⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S1024x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S1024x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S1024x1024, .f32⟩
  | .hbm, ⟨37, _⟩ => ⟨S16384x1024, .f32⟩
  | .hbm, ⟨38, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Xattn.lean ====
abbrev S8x2048x1024 : Shape := ⟨3, ![8, 2048, 1024]⟩
abbrev S1x1024 : Shape := ⟨2, ![1, 1024]⟩
abbrev S1024x512 : Shape := ⟨2, ![1024, 512]⟩
abbrev S8x512x256 : Shape := ⟨3, ![8, 512, 256]⟩
abbrev S8x256x512 : Shape := ⟨3, ![8, 256, 512]⟩
abbrev S512x1024 : Shape := ⟨2, ![512, 1024]⟩
abbrev S1x512x1024 : Shape := ⟨3, ![1, 512, 1024]⟩
abbrev S1x512x256 : Shape := ⟨3, ![1, 512, 256]⟩
abbrev S1x256x512 : Shape := ⟨3, ![1, 256, 512]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S1x128x256 : Shape := ⟨3, ![1, 128, 256]⟩
abbrev S128x256 : Shape := ⟨2, ![128, 256]⟩
abbrev S512x256 : Shape := ⟨2, ![512, 256]⟩
abbrev S1x256x128 : Shape := ⟨3, ![1, 256, 128]⟩
abbrev S256x128 : Shape := ⟨2, ![256, 128]⟩

abbrev nBuf : Space → Nat
  | .hbm => 7
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1024x512, .bf16⟩
  | .hbm, ⟨3, _⟩ => ⟨S8x512x256, .bf16⟩
  | .hbm, ⟨4, _⟩ => ⟨S8x256x512, .bf16⟩
  | .hbm, ⟨5, _⟩ => ⟨S512x1024, .bf16⟩
  | .hbm, ⟨6, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x512, .bf16⟩
  | .local _ .vmem, ⟨4, _⟩ => ⟨S1x512x256, .bf16⟩
  | .local _ .vmem, ⟨5, _⟩ => ⟨S1x512x256, .bf16⟩
  | .local _ .vmem, ⟨6, _⟩ => ⟨S1x256x512, .bf16⟩
  | .local _ .vmem, ⟨7, _⟩ => ⟨S1x256x512, .bf16⟩
  | .local _ .vmem, ⟨8, _⟩ => ⟨S512x1024, .bf16⟩
  | .local _ .vmem, ⟨9, _⟩ => ⟨S1x512x1024, .f32⟩
  | .local _ .vmem, ⟨10, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== XattnIdeal.lean ====
variable {F : FTy → Type} [FloatOps F] [Named F]
def κ : String → Option EReal := fun
  | "scale" => some (((Real.sqrt 128)⁻¹ : ℝ) : EReal)
  | _ => none
-- ==== XattnRefIdeal.lean ====
abbrev S8x2048x1024 : Shape := ⟨3, ![8, 2048, 1024]⟩
abbrev S1x1024 : Shape := ⟨2, ![1, 1024]⟩
abbrev S1024x512 : Shape := ⟨2, ![1024, 512]⟩
abbrev S8x512x256 : Shape := ⟨3, ![8, 512, 256]⟩
abbrev S8x256x512 : Shape := ⟨3, ![8, 256, 512]⟩
abbrev S512x1024 : Shape := ⟨2, ![512, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x512 : Shape := ⟨3, ![8, 2048, 512]⟩
abbrev S8x2048x4x128 : Shape := ⟨4, ![8, 2048, 4, 128]⟩
abbrev S8x4x128x256 : Shape := ⟨4, ![8, 4, 128, 256]⟩
abbrev S8x256x4x128 : Shape := ⟨4, ![8, 256, 4, 128]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1024x512, .bf16⟩
  | .hbm, ⟨3, _⟩ => ⟨S8x512x256, .bf16⟩
  | .hbm, ⟨4, _⟩ => ⟨S8x256x512, .bf16⟩
  | .hbm, ⟨5, _⟩ => ⟨S512x1024, .bf16⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S1024x512, .f32⟩
  | .hbm, ⟨23, _⟩ => ⟨S8x2048x512, .f32⟩
  | .hbm, ⟨24, _⟩ => ⟨S8x2048x4x128, .f32⟩
  | .hbm, ⟨25, _⟩ => ⟨S_, .f32⟩
  | .hbm, ⟨26, _⟩ => ⟨S_, .f32⟩
  | .hbm, ⟨27, _⟩ => ⟨S8x2048x4x128, .f32⟩
  | .hbm, ⟨28, _⟩ => ⟨S8x2048x4x128, .f32⟩
  | .hbm, ⟨29, _⟩ => ⟨S8x512x256, .f32⟩
  | .hbm, ⟨30, _⟩ => ⟨S8x4x128x256, .f32⟩
  | .hbm, ⟨31, _⟩ => ⟨S8x256x512, .f32⟩
  | .hbm, ⟨32, _⟩ => ⟨S8x256x4x128, .f32⟩
  | .hbm, ⟨33, _⟩ => ⟨S8x4x2048x256, .f32⟩
  | .hbm, ⟨34, _⟩ => ⟨S_, .f32⟩
  | .hbm, ⟨35, _⟩ => ⟨S8x4x2048, .f32⟩
  | .hbm, ⟨36, _⟩ => ⟨S8x4x2048x1, .f32⟩
  | .hbm, ⟨37, _⟩ => ⟨S8x4x2048x256, .f32⟩
  | .hbm, ⟨38, _⟩ => ⟨S8x4x2048x256, .f32⟩
  | .hbm, ⟨39, _⟩ => ⟨S8x4x2048x256, .f32⟩
  | .hbm, ⟨40, _⟩ => ⟨S_, .f32⟩
  | .hbm, ⟨41, _⟩ => ⟨S8x4x2048, .f32⟩
  | .hbm, ⟨42, _⟩ => ⟨S8x4x2048x1, .f32⟩
  | .hbm, ⟨43, _⟩ => ⟨S8x4x2048x256, .f32⟩
  | .hbm, ⟨44, _⟩ => ⟨S8x4x2048x256, .f32⟩
  | .hbm, ⟨45, _⟩ => ⟨S8x4x128x2048, .f32⟩
  | .hbm, ⟨46, _⟩ => ⟨S8x2048x4x128, .f32⟩
  | .hbm, ⟨47, _⟩ => ⟨S8x2048x512, .f32⟩
  | .hbm, ⟨48, _⟩ => ⟨S512x1024, .f32⟩
  | .hbm, ⟨49, _⟩ => ⟨S8x2048x1024, .f32⟩
  | .hbm, ⟨50, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== MemKv.lean ====
abbrev S8x256x1024 : Shape := ⟨3, ![8, 256, 1024]⟩
abbrev S1x1024 : Shape := ⟨2, ![1, 1024]⟩
abbrev S512x1024 : Shape := ⟨2, ![512, 1024]⟩
abbrev S1024x512 : Shape := ⟨2, ![1024, 512]⟩
abbrev S8x512x256 : Shape := ⟨3, ![8, 512, 256]⟩
abbrev S8x256x512 : Shape := ⟨3, ![8, 256, 512]⟩
abbrev S1x256x1024 : Shape := ⟨3, ![1, 256, 1024]⟩
abbrev S1x512x256 : Shape := ⟨3, ![1, 512, 256]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S512x256 : Shape := ⟨2, ![512, 256]⟩
abbrev S256x512 : Shape := ⟨2, ![256, 512]⟩

abbrev nBuf : Space → Nat
  | .hbm => 6
  | .vmem => 9
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S512x1024, .bf16⟩
  | .hbm, ⟨3, _⟩ => ⟨S1024x512, .bf16⟩
  | .hbm, ⟨4, _⟩ => ⟨S8x512x256, .bf16⟩
  | .hbm, ⟨5, _⟩ => ⟨S8x256x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S512x1024, .bf16⟩
  | .local _ .vmem, ⟨4, _⟩ => ⟨S1024x512, .bf16⟩
  | .local _ .vmem, ⟨5, _⟩ => ⟨S1x512x256, .bf16⟩
  | .local _ .vmem, ⟨6, _⟩ => ⟨S1x512x256, .bf16⟩
  | .local _ .vmem, ⟨7, _⟩ => ⟨S1x256x512, .bf16⟩
  | .local _ .vmem, ⟨8, _⟩ => ⟨S1x256x512, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemKvRefIdeal.lean ====
abbrev S8x256x1024 : Shape := ⟨3, ![8, 256, 1024]⟩
abbrev S1x1024 : Shape := ⟨2, ![1, 1024]⟩
abbrev S512x1024 : Shape := ⟨2, ![512, 1024]⟩
abbrev S1024x512 : Shape := ⟨2, ![1024, 512]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x512 : Shape := ⟨3, ![8, 256, 512]⟩
abbrev S8x512x256 : Shape := ⟨3, ![8, 512, 256]⟩

abbrev nBuf : Space → Nat
  | .hbm => 28
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S512x1024, .bf16⟩
  | .hbm, ⟨3, _⟩ => ⟨S1024x512, .bf16⟩
  | .hbm, ⟨4, _⟩ => ⟨S8x256x1024, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x1024, .f32⟩
  | .hbm, ⟨16, _⟩ => ⟨S8x256x1024, .f32⟩
  | .hbm, ⟨17, _⟩ => ⟨S1x1x1024, .f32⟩
  | .hbm, ⟨18, _⟩ => ⟨S8x256x1024, .f32⟩
  | .hbm, ⟨19, _⟩ => ⟨S8x256x1024, .f32⟩
  | .hbm, ⟨20, _⟩ => ⟨S512x1024, .f32⟩
  | .hbm, ⟨21, _⟩ => ⟨S1024x512, .f32⟩
  | .hbm, ⟨22, _⟩ => ⟨S8x256x512, .f32⟩
  | .hbm, ⟨23, _⟩ => ⟨S1024x512, .f32⟩
  | .hbm, ⟨24, _⟩ => ⟨S8x256x512, .f32⟩
  | .hbm, ⟨25, _⟩ => ⟨S8x512x256, .f32⟩
  | .hbm, ⟨26, _⟩ => ⟨S8x512x256, .bf16⟩
  | .hbm, ⟨27, _⟩ => ⟨S8x256x512, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Hgrn.lean ====
abbrev S8x2048x7168 : Shape := ⟨3, ![8, 2048, 7168]⟩
abbrev S1x1024 : Shape := ⟨2, ![1, 1024]⟩
abbrev S1x128 : Shape := ⟨2, ![1, 128]⟩
abbrev S8x2048x1024 : Shape := ⟨3, ![8, 2048, 1024]⟩
abbrev S1x2048x512 : Shape := ⟨3, ![1, 2048, 512]⟩
abbrev S1x2048x128 : Shape := ⟨3, ![1, 2048, 128]⟩
abbrev S64x64 : Shape := ⟨2, ![64, 64]⟩
abbrev S128x128 : Shape := ⟨2, ![128, 128]⟩
abbrev S1x64x128 : Shape := ⟨3, ![1, 64, 128]⟩
abbrev S64x128 : Shape := ⟨2, ![64, 128]⟩
abbrev S64 : Shape := ⟨1, ![64]⟩
abbrev S64x1 : Shape := ⟨2, ![64, 1]⟩

abbrev nBuf : Space → Nat
  | .hbm => 4
  | .vmem => 7
  | .smem => 0
  | _ => 0

abbrev bufTy : (tb : Table) → Fin (tcTables nBuf tb) → BufTy
  | .hbm, ⟨0, _⟩ => ⟨S8x2048x7168, .bf16⟩
  | .hbm, ⟨1, _⟩ => ⟨S1x1024, .f32⟩
  | .hbm, ⟨2, _⟩ => ⟨S1x128, .f32⟩
  | .hbm, ⟨3, _⟩ => ⟨S8x2048x1024, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x2048x128, .bf16⟩
  | .local _ .vmem, ⟨6, _⟩ => ⟨S1x2048x128, .bf16⟩
  | _, _ => ⟨S8x2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32 : BitVec 32 := 0#32
  let c32_i32 : BitVec 32 := 32#32
  let v8 : BitVec 32 := Scalar.addi c0_i32 c32_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c64_i32 : BitVec 32 := 64#32
  let v10 : BitVec 32 := Scalar.muli arg6 c64_i32
  v10
def k0_off1 (k0_t1 : Fin k0_t1_loop.trips) : Fin 3 → Nat :=
  let c0_4 : Index := 0#32
  let c0_i32 : BitVec 32 := 0#32
  let c1_i32 : BitVec 32 := 1#32
  let arg6 : BitVec 32 := Scf.iv c0_i32 c1_i32 k0_t1
  let c64_i32 : BitVec 32 := 64#32
  let v10 : BitVec 32 := Scalar.muli arg6 c64_i32
  let v11 : BitVec 32 := v10
  let v12 : Index := Scalar.indexCast v11
  let c0_5 : Index := 0#32
  ![0, v12.toNat, 0]
def k0_off2 (k0_t1 : Fin k0_t1_loop.trips) : Fin 3 → Nat :=
  let c0_6 : Index := 0#32
  let c0_i32 : BitVec 32 := 0#32
  let c1_i32 : BitVec 32 := 1#32
  let arg6 : BitVec 32 := Scf.iv c0_i32 c1_i32 k0_t1
  let c64_i32 : BitVec 32 := 64#32
  let v10 : BitVec 32 := Scalar.muli arg6 c64_i32
  let v11 : BitVec 32 := v10
  let v16 : Index := Scalar.indexCast v11
  let c128 : Index := 128#32
  ![0, v16.toNat, 128]
def k0_off3 (k0_t1 : Fin k0_t1_loop.trips) : Fin 3 → Nat :=
  let c0_7 : Index := 0#32
  let c0_i32 : BitVec 32 := 0#32
  let c1_i32 : BitVec 32 := 1#32
  let arg6 : BitVec 32 := Scf.iv c0_i32 c1_i32 k0_t1
  let c64_i32 : BitVec 32 := 64#32
  let v10 : BitVec 32 := Scalar.muli arg6 c64_i32
  let v11 : BitVec 32 := v10
  let v20 : Index := Scalar.indexCast v11
  let c256 : Index := 256#32
  ![0, v20.toNat, 256]
def k0_off4 (k0_t1 : Fin k0_t1_loop.trips) : Fin 3 → Nat :=
  let c0_8 : Index := 0#32
  let c0_i32 : BitVec 32 := 0#32
  let c1_i32 : BitVec 32 := 1#32
  let arg6 : BitVec 32 := Scf.iv c0_i32 c1_i32 k0_t1
  let c64_i32 : BitVec 32 := 64#32
  let v10 : BitVec 32 := Scalar.muli arg6 c64_i32
  let v11 : BitVec 32 := v10
  let v23 : Index := Scalar.indexCast v11
  let c384 : Index := 384#32
  ![0, v23.toNat, 384]
def k0_off5 (k0_t1 : Fin k0_t1_loop.trips) : Fin 3 → Nat :=
  let c0_30 : Index := 0#32
  let c0_i32 : BitVec 32 := 0#32
  let c1_i32 : BitVec 32 := 1#32
  let arg6 : BitVec 32 := Scf.iv c0_i32 c1_i32 k0_t1
  let c64_i32 : BitVec 32 := 64#32
  let v10 : BitVec 32 := Scalar.muli arg6 c64_i32
  let v11 : BitVec 32 := v10
  let v101 : Index := Scalar.indexCast v11
  let c0_31 : Index := 0#32
  ![0, v101.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== HgrnRefIdeal.lean ====
abbrev S8x2048x7168 : Shape := ⟨3, ![8, 2048, 7168]⟩
abbrev S1x1024 : Shape := ⟨2, ![1, 1024]⟩
abbrev S1x128 : Shape := ⟨2, ![1, 128]⟩
abbrev S1x8x1x1x128 : Shape := ⟨5, ![1, 8, 1, 1, 128]⟩
abbrev S_ : Shape := ⟨0, ![]⟩
abbrev S8x2048x4096 : Shape := ⟨3, ![8, 2048, 4096]⟩
abbrev S8x32x64x8x4x128 : Shape := ⟨6, ![8, 32, 64, 8, 4, 128]⟩
abbrev S8x32x64x8x1x128 : Shape := ⟨6, ![8, 32, 64, 8, 1, 128]⟩
abbrev S8x32x64x8x128 : Shape := ⟨5, ![8, 32, 64, 8, 128]⟩
abbrev S8x8x32x64x128 : Shape := ⟨5, ![8, 8, 32, 64, 128]⟩
abbrev S8x8x32x1x128 : Shape := ⟨5, ![8, 8, 32, 1, 128]⟩
abbrev S32x8x8x128x128 : Shape := ⟨5, ![32, 8, 8, 128, 128]⟩
abbrev S8x8x32x128 : Shape := ⟨4, ![8, 8, 32, 128]⟩
abbrev S32x8x8x128 : Shape := ⟨4, ![32, 8, 8, 128]⟩
abbrev S32x8x8x128x1 : Shape := ⟨5, ![32, 8, 8, 128, 1]⟩
abbrev S8x8x128x128 : Shape := ⟨4, ![8, 8, 128, 128]⟩
abbrev S32 : Shape := ⟨1, ![32]⟩
abbrev S32x1x1x1x1 : Shape := ⟨5, ![32, 1, 1, 1, 1]⟩
abbrev S1x8x8x128x1 : Shape := ⟨5, ![1, 8, 8, 128, 1]⟩
abbrev S8x8x128x1 : Shape := ⟨4, ![8, 8, 128, 1]⟩
abbrev S1x8x8x128x128 : Shape := ⟨5, ![1, 8, 8, 128, 128]⟩
abbrev S64x64 : Shape := ⟨2, ![64, 64]⟩
abbrev S8x8x32x64x64 : Shape := ⟨5, ![8, 8, 32, 64, 64]⟩
abbrev S8x8x32x64 : Shape := ⟨4, ![8, 8, 32, 64]⟩
abbrev S8x8x32x64x1 : Shape := ⟨5, ![8, 8, 32, 64, 1]⟩
abbrev S1x1x1x1x128 : Shape := ⟨5, ![1, 1, 1, 1, 128]⟩
abbrev S8x2048x1024 : Shape := ⟨3, ![8, 2048, 1024]⟩

abbrev nBuf : Space → Nat
  | .hbm => 212
  | .vmem => 0
  | .smem => 0
  | _ => 0

abbrev hbmTy0_0 (i : Nat) : BufTy := match i % 128 with
  | 0 => ⟨S8x2048x7168, .bf16⟩
  | 1 => ⟨S1x1024, .f32⟩
  | 2 => ⟨S1x128, .f32⟩
  | 3 => ⟨S1x8x1x1x128, .f32⟩
  | 4 => ⟨S_, .f32⟩
  | 5 => ⟨S1x8x1x1x128, .f32⟩
  | 6 => ⟨S1x8x1x1x128, .f32⟩
  | 7 => ⟨S8x2048x4096, .bf16⟩
  | 8 => ⟨S8x2048x4096, .f32⟩
  | 9 => ⟨S8x32x64x8x4x128, .f32⟩
  | 10 => ⟨S8x32x64x8x1x128, .f32⟩
  | 11 => ⟨S8x32x64x8x128, .f32⟩
  | 12 => ⟨S8x8x32x64x128, .f32⟩
  | 13 => ⟨S8x8x32x64x128, .f32⟩
  | 14 => ⟨S8x8x32x64x128, .f32⟩
  | 15 => ⟨S_, .f32⟩
  | 16 => ⟨S8x8x32x64x128, .f32⟩
  | 17 => ⟨S8x8x32x64x128, .f32⟩
  | 18 => ⟨S_, .f32⟩
  | 19 => ⟨S8x8x32x64x128, .f32⟩
  | 20 => ⟨S8x8x32x64x128, .f32⟩
  | 21 => ⟨S8x8x32x64x128, .f32⟩
  | 22 => ⟨S8x8x32x64x128, .f32⟩
  | 23 => ⟨S8x8x32x64x128, .f32⟩
  | 24 => ⟨S8x8x32x64x128, .f32⟩
  | 25 => ⟨S8x8x32x64x128, .f32⟩
  | 26 => ⟨S_, .f32⟩
  | 27 => ⟨S_, .f32⟩
  | 28 => ⟨S8x8x32x64x128, .f32⟩
  | 29 => ⟨S8x8x32x1x128, .f32⟩
  | 30 => ⟨S_, .f32⟩
  | 31 => ⟨S8x8x32x64x128, .f32⟩
  | 32 => ⟨S8x8x32x64x128, .f32⟩
  | 33 => ⟨S8x8x32x64x128, .f32⟩
  | 34 => ⟨S8x8x32x64x128, .f32⟩
  | 35 => ⟨S8x8x32x64x128, .f32⟩
  | 36 => ⟨S8x8x32x64x128, .f32⟩
  | 37 => ⟨S8x2048x4096, .bf16⟩
  | 38 => ⟨S8x2048x4096, .f32⟩
  | 39 => ⟨S8x32x64x8x4x128, .f32⟩
  | 40 => ⟨S8x32x64x8x1x128, .f32⟩
  | 41 => ⟨S8x32x64x8x128, .f32⟩
  | 42 => ⟨S8x8x32x64x128, .f32⟩
  | 43 => ⟨S32x8x8x128x128, .f32⟩
  | 44 => ⟨S8x8x32x128, .f32⟩
  | 45 => ⟨S8x8x32x128, .f32⟩
  | 46 => ⟨S32x8x8x128, .f32⟩
  | 47 => ⟨S32x8x8x128x1, .f32⟩
  | 48 => ⟨S_, .f32⟩
  | 49 => ⟨S8x8x128x128, .f32⟩
  | 50 => ⟨S_, .f32⟩
  | 51 => ⟨S32x8x8x128x128, .f32⟩
  | 52 => ⟨S_, .i32⟩
  | 53 => ⟨S_, .i32⟩
  | 54 => ⟨S32x8x8x128x1, .f32⟩
  | 55 => ⟨S32x8x8x128x128, .f32⟩
  | 56 => ⟨S_, .i32⟩
  | 57 => ⟨S_, .i32⟩
  | 58 => ⟨S8x8x128x128, .f32⟩
  | 59 => ⟨S32x8x8x128x128, .f32⟩
  | 60 => ⟨S_, .i32⟩
  | 61 => ⟨S_, .i1⟩
  | 62 => ⟨S_, .i32⟩
  | 63 => ⟨S_, .i32⟩
  | 64 => ⟨S32, .i32⟩
  | 65 => ⟨S32x1x1x1x1, .i32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S1x8x8x128x1, .f32⟩
  | 77 => ⟨S8x8x128x1, .f32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .i32⟩
  | 88 => ⟨S1x8x8x128x128, .f32⟩
  | 89 => ⟨S8x8x128x128, .f32⟩
  | 90 => ⟨S8x8x128x128, .f32⟩
  | 91 => ⟨S8x8x128x128, .f32⟩
  | 92 => ⟨S8x8x128x128, .f32⟩
  | 93 => ⟨S_, .i32⟩
  | 94 => ⟨S32x1x1x1x1, .i32⟩
  | 95 => ⟨S32x1x1x1x1, .i1⟩
  | 96 => ⟨S1x8x8x128x128, .f32⟩
  | 97 => ⟨S32x8x8x128x128, .i1⟩
  | 98 => ⟨S32x8x8x128x128, .f32⟩
  | 99 => ⟨S32x8x8x128x128, .f32⟩
  | 100 => ⟨S_, .i32⟩
  | 101 => ⟨S_, .i32⟩
  | 102 => ⟨S1x8x1x1x128, .f32⟩
  | 103 => ⟨S_, .f32⟩
  | 104 => ⟨S1x8x1x1x128, .f32⟩
  | 105 => ⟨S1x8x1x1x128, .f32⟩
  | 106 => ⟨S8x2048x4096, .bf16⟩
  | 107 => ⟨S8x2048x4096, .f32⟩
  | 108 => ⟨S8x32x64x8x4x128, .f32⟩
  | 109 => ⟨S8x32x64x8x1x128, .f32⟩
  | 110 => ⟨S8x32x64x8x128, .f32⟩
  | 111 => ⟨S8x8x32x64x128, .f32⟩
  | 112 => ⟨S8x8x32x64x128, .f32⟩
  | 113 => ⟨S8x8x32x64x128, .f32⟩
  | 114 => ⟨S_, .f32⟩
  | 115 => ⟨S8x8x32x64x128, .f32⟩
  | 116 => ⟨S8x8x32x64x128, .f32⟩
  | 117 => ⟨S_, .f32⟩
  | 118 => ⟨S8x8x32x64x128, .f32⟩
  | 119 => ⟨S8x8x32x64x128, .f32⟩
  | 120 => ⟨S8x8x32x64x128, .f32⟩
  | 121 => ⟨S8x8x32x64x128, .f32⟩
  | 122 => ⟨S8x8x32x64x128, .f32⟩
  | 123 => ⟨S8x8x32x64x128, .f32⟩
  | 124 => ⟨S8x8x32x64x128, .f32⟩
  | 125 => ⟨S_, .f32⟩
  | 126 => ⟨S_, .f32⟩
  | 127 => ⟨S8x8x32x64x128, .f32⟩
  | _ => ⟨S8x2048x7168, .bf16⟩

abbrev hbmTy0_1 (i : Nat) : BufTy := match i % 128 with
  | 0 => ⟨S8x2048x4096, .bf16⟩
  | 1 => ⟨S8x2048x4096, .f32⟩
  | 2 => ⟨S8x32x64x8x4x128, .f32⟩
  | 3 => ⟨S8x32x64x8x1x128, .f32⟩
  | 4 => ⟨S8x32x64x8x128, .f32⟩
  | 5 => ⟨S8x8x32x64x128, .f32⟩
  | 6 => ⟨S8x8x32x64x128, .f32⟩
  | 7 => ⟨S8x8x32x64x128, .f32⟩
  | 8 => ⟨S_, .f32⟩
  | 9 => ⟨S8x8x32x64x128, .f32⟩
  | 10 => ⟨S8x8x32x64x128, .f32⟩
  | 11 => ⟨S_, .f32⟩
  | 12 => ⟨S8x8x32x64x128, .f32⟩
  | 13 => ⟨S8x8x32x64x128, .f32⟩
  | 14 => ⟨S8x8x32x64x128, .f32⟩
  | 15 => ⟨S8x8x32x64x128, .f32⟩
  | 16 => ⟨S8x8x32x64x128, .f32⟩
  | 17 => ⟨S_, .f32⟩
  | 18 => ⟨S8x8x32x64x128, .f32⟩
  | 19 => ⟨S8x8x32x64x128, .f32⟩
  | 20 => ⟨S8x8x32x64x128, .f32⟩
  | 21 => ⟨S8x8x32x64x128, .f32⟩
  | 22 => ⟨S8x8x32x64x128, .f32⟩
  | 23 => ⟨S_, .i1⟩
  | 24 => ⟨S64x64, .i1⟩
  | 25 => ⟨S64x64, .i32⟩
  | 26 => ⟨S_, .i32⟩
  | 27 => ⟨S64x64, .i32⟩
  | 28 => ⟨S64x64, .i32⟩
  | 29 => ⟨S64x64, .i32⟩
  | 30 => ⟨S64x64, .i1⟩
  | 31 => ⟨S_, .i1⟩
  | 32 => ⟨S64x64, .i1⟩
  | 33 => ⟨S64x64, .i1⟩
  | 34 => ⟨S8x8x32x64x64, .f32⟩
  | 35 => ⟨S_, .f32⟩
  | 36 => ⟨S_, .f32⟩
  | 37 => ⟨S8x8x32x64x64, .i1⟩
  | 38 => ⟨S8x8x32x64x64, .f32⟩
  | 39 => ⟨S8x8x32x64x64, .f32⟩
  | 40 => ⟨S8x2048x4096, .bf16⟩
  | 41 => ⟨S8x2048x4096, .f32⟩
  | 42 => ⟨S8x32x64x8x4x128, .f32⟩
  | 43 => ⟨S8x32x64x8x1x128, .f32⟩
  | 44 => ⟨S8x32x64x8x128, .f32⟩
  | 45 => ⟨S8x8x32x64x128, .f32⟩
  | 46 => ⟨S8x8x32x64x128, .f32⟩
  | 47 => ⟨S8x8x32x64x128, .f32⟩
  | 48 => ⟨S8x8x32x64x128, .f32⟩
  | 49 => ⟨S8x8x32x64x128, .f32⟩
  | 50 => ⟨S_, .f32⟩
  | 51 => ⟨S8x8x32x64, .f32⟩
  | 52 => ⟨S8x8x32x64x1, .f32⟩
  | 53 => ⟨S_, .f32⟩
  | 54 => ⟨S8x8x32x64x1, .f32⟩
  | 55 => ⟨S8x8x32x64x1, .f32⟩
  | 56 => ⟨S_, .f32⟩
  | 57 => ⟨S8x8x32x64x1, .f32⟩
  | 58 => ⟨S8x8x32x64x1, .f32⟩
  | 59 => ⟨S8x8x32x64x1, .f32⟩
  | 60 => ⟨S8x8x32x64x128, .f32⟩
  | 61 => ⟨S8x8x32x64x128, .f32⟩
  | 62 => ⟨S1x1x1x1x128, .f32⟩
  | 63 => ⟨S8x8x32x64x128, .f32⟩
  | 64 => ⟨S8x8x32x64x128, .f32⟩
  | 65 => ⟨S8x2048x4096, .bf16⟩
  | 66 => ⟨S8x2048x4096, .f32⟩
  | 67 => ⟨S8x32x64x8x4x128, .f32⟩
  | 68 => ⟨S8x32x64x8x1x128, .f32⟩
  | 69 => ⟨S8x32x64x8x128, .f32⟩
  | 70 => ⟨S8x8x32x64x128, .f32⟩
  | 71 => ⟨S8x8x32x64x128, .f32⟩
  | 72 => ⟨S8x8x32x64x128, .f32⟩
  | 73 => ⟨S_, .f32⟩
  | 74 => ⟨S8x8x32x64x128, .f32⟩
  | 75 => ⟨S8x8x32x64x128, .f32⟩
  | 76 => ⟨S_, .f32⟩
  | 77 => ⟨S8x8x32x64x128, .f32⟩
  | 78 => ⟨S8x8x32x64x128, .f32⟩
  | 79 => ⟨S8x8x32x64x128, .f32⟩
  | 80 => ⟨S8x8x32x64x128, .f32⟩
  | 81 => ⟨S8x32x64x8x128, .f32⟩
  | 82 => ⟨S8x2048x1024, .f32⟩
  | 83 => ⟨S8x2048x1024, .bf16⟩
  | _ => ⟨S8x2048x7168, .bf16⟩

abbrev hbmTy (i : Nat) : BufTy := match i / 128 with
  | 0 => hbmTy0_0 i
  | 1 => hbmTy0_1 i
  | _ => ⟨S8x2048x7168, .bf16⟩

abbrev bufTy : (tb : Table) → Fin (tcTables nBuf tb) → BufTy
  | .hbm, ⟨i, _⟩ => hbmTy i
  | _, _ => ⟨S8x2048x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call0_call0_cst : Ref sig .tc := ⟨.hbm, 26, rfl⟩
abbrev main_call0_call0_v0 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_c : Ref sig .tc := ⟨.hbm, 52, rfl⟩
abbrev main_c_5 : Ref sig .tc := ⟨.hbm, 53, rfl⟩
abbrev main_v41_0 : Ref sig .tc := ⟨.hbm, 54, rfl⟩
abbrev main_v41_1 : Ref sig .tc := ⟨.hbm, 55, rfl⟩
abbrev main_v41_2 : Ref sig .tc := ⟨.hbm, 56, rfl⟩
abbrev main_v41_3 : Ref sig .tc := ⟨.hbm, 57, rfl⟩
abbrev main_v41_4 : Ref sig .tc := ⟨.hbm, 58, rfl⟩
abbrev main_v41_5 : Ref sig .tc := ⟨.hbm, 59, rfl⟩
abbrev main_while0c_c_20 : Ref sig .tc := ⟨.hbm, 60, rfl⟩
abbrev main_while0c_v114 : Ref sig .tc := ⟨.hbm, 61, rfl⟩
abbrev main_while0b_c_20 : Ref sig .tc := ⟨.hbm, 62, rfl⟩
abbrev main_while0b_v114 : Ref sig .tc := ⟨.hbm, 63, rfl⟩
abbrev main_while0b_v115 : Ref sig .tc := ⟨.hbm, 64, rfl⟩
abbrev main_while0b_v116 : Ref sig .tc := ⟨.hbm, 65, rfl⟩
abbrev main_while0b_call1_c : Ref sig .tc := ⟨.hbm, 66, rfl⟩
abbrev main_while0b_call1_v0 : Ref sig .tc := ⟨.hbm, 67, rfl⟩
abbrev main_while0b_call1_v1 : Ref sig .tc := ⟨.hbm, 68, rfl⟩
abbrev main_while0b_call1_c_0 : Ref sig .tc := ⟨.hbm, 69, rfl⟩
abbrev main_while0b_call1_v2 : Ref sig .tc := ⟨.hbm, 70, rfl⟩
abbrev main_while0b_call1_v3 : Ref sig .tc := ⟨.hbm, 71, rfl⟩
abbrev main_while0b_call1_c_1 : Ref sig .tc := ⟨.hbm, 72, rfl⟩
abbrev main_while0b_call1_c_2 : Ref sig .tc := ⟨.hbm, 73, rfl⟩
abbrev main_while0b_call1_c_3 : Ref sig .tc := ⟨.hbm, 74, rfl⟩
abbrev main_while0b_call1_c_4 : Ref sig .tc := ⟨.hbm, 75, rfl⟩
abbrev main_while0b_call1_v4 : Ref sig .tc := ⟨.hbm, 76, rfl⟩
abbrev main_while0b_v117 : Ref sig .tc := ⟨.hbm, 77, rfl⟩
abbrev main_while0b_call2_c : Ref sig .tc := ⟨.hbm, 78, rfl⟩
abbrev main_while0b_call2_v0 : Ref sig .tc := ⟨.hbm, 79, rfl⟩
abbrev main_while0b_call2_v1 : Ref sig .tc := ⟨.hbm, 80, rfl⟩
abbrev main_while0b_call2_c_0 : Ref sig .tc := ⟨.hbm, 81, rfl⟩
abbrev main_while0b_call2_v2 : Ref sig .tc := ⟨.hbm, 82, rfl⟩
abbrev main_while0b_call2_v3 : Ref sig .tc := ⟨.hbm, 83, rfl⟩
abbrev main_while0b_call2_c_1 : Ref sig .tc := ⟨.hbm, 84, rfl⟩
abbrev main_while0b_call2_c_2 : Ref sig .tc := ⟨.hbm, 85, rfl⟩
abbrev main_while0b_call2_c_3 : Ref sig .tc := ⟨.hbm, 86, rfl⟩
abbrev main_while0b_call2_c_4 : Ref sig .tc := ⟨.hbm, 87, rfl⟩
abbrev main_while0b_call2_v4 : Ref sig .tc := ⟨.hbm, 88, rfl⟩
abbrev main_while0b_v118 : Ref sig .tc := ⟨.hbm, 89, rfl⟩
abbrev main_while0b_v119 : Ref sig .tc := ⟨.hbm, 90, rfl⟩
abbrev main_while0b_v120 : Ref sig .tc := ⟨.hbm, 91, rfl⟩
abbrev main_while0b_v121 : Ref sig .tc := ⟨.hbm, 92, rfl⟩
abbrev main_while0b_v122 : Ref sig .tc := ⟨.hbm, 93, rfl⟩
abbrev main_while0b_v123 : Ref sig .tc := ⟨.hbm, 94, rfl⟩
abbrev main_while0b_v124 : Ref sig .tc := ⟨.hbm, 95, rfl⟩
abbrev main_while0b_v125 : Ref sig .tc := ⟨.hbm, 96, rfl⟩
abbrev main_while0b_call3_v0 : Ref sig .tc := ⟨.hbm, 97, rfl⟩
abbrev main_while0b_call3_v1 : Ref sig .tc := ⟨.hbm, 98, rfl⟩
abbrev main_while0b_v126 : Ref sig .tc := ⟨.hbm, 99, rfl⟩
abbrev main_while0b_c_21 : Ref sig .tc := ⟨.hbm, 100, rfl⟩
abbrev main_while0b_v127 : Ref sig .tc := ⟨.hbm, 101, rfl⟩
abbrev main_v42 : Ref sig .tc := ⟨.hbm, 102, rfl⟩
abbrev main_cst_6 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_cst_7 : Ref sig .tc := ⟨.hbm, 114, rfl⟩
abbrev main_v53 : Ref sig .tc := ⟨.hbm, 115, rfl⟩
abbrev main_v54 : Ref sig .tc := ⟨.hbm, 116, rfl⟩
abbrev main_cst_8 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_call4_call0_cst : Ref sig .tc := ⟨.hbm, 125, rfl⟩
abbrev main_call4_call0_v0 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_call5_v0 : Ref sig .tc := ⟨.hbm, 134, rfl⟩
abbrev main_call5_v1 : Ref sig .tc := ⟨.hbm, 135, rfl⟩
abbrev main_call5_cst : Ref sig .tc := ⟨.hbm, 136, rfl⟩
abbrev main_call5_v2 : Ref sig .tc := ⟨.hbm, 137, rfl⟩
abbrev main_call5_v3 : Ref sig .tc := ⟨.hbm, 138, rfl⟩
abbrev main_call5_cst_0 : Ref sig .tc := ⟨.hbm, 139, rfl⟩
abbrev main_call5_v4 : Ref sig .tc := ⟨.hbm, 140, rfl⟩
abbrev main_call5_v5 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_cst_9 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_c_10 : Ref sig .tc := ⟨.hbm, 151, rfl⟩
abbrev main_v77 : Ref sig .tc := ⟨.hbm, 152, rfl⟩
abbrev main_call6_v0 : Ref sig .tc := ⟨.hbm, 153, rfl⟩
abbrev main_call6_c : Ref sig .tc := ⟨.hbm, 154, rfl⟩
abbrev main_call6_v1 : Ref sig .tc := ⟨.hbm, 155, rfl⟩
abbrev main_call6_v2 : Ref sig .tc := ⟨.hbm, 156, rfl⟩
abbrev main_call6_v3 : Ref sig .tc := ⟨.hbm, 157, rfl⟩
abbrev main_call6_v4 : Ref sig .tc := ⟨.hbm, 158, rfl⟩
abbrev main_call6_c_0 : Ref sig .tc := ⟨.hbm, 159, rfl⟩
abbrev main_call6_v5 : Ref sig .tc := ⟨.hbm, 160, rfl⟩
abbrev main_v78 : Ref sig .tc := ⟨.hbm, 161, rfl⟩
abbrev main_v79 : Ref sig .tc := ⟨.hbm, 162, rfl⟩
abbrev main_cst_11 : Ref sig .tc := ⟨.hbm, 163, rfl⟩
abbrev main_call7_v0 : Ref sig .tc := ⟨.hbm, 164, rfl⟩
abbrev main_call7_v1 : Ref sig .tc := ⟨.hbm, 165, rfl⟩
abbrev main_call7_v2 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_v83 : Ref sig .tc := ⟨.hbm, 170, rfl⟩
abbrev main_v84 : Ref sig .tc := ⟨.hbm, 171, rfl⟩
abbrev main_v85 : Ref sig .tc := ⟨.hbm, 172, rfl⟩
abbrev main_v86 : Ref sig .tc := ⟨.hbm, 173, rfl⟩
abbrev main_v87 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩
abbrev main_cst_12 : Ref sig .tc := ⟨.hbm, 178, rfl⟩
abbrev main_v91 : Ref sig .tc := ⟨.hbm, 179, rfl⟩
abbrev main_v92 : Ref sig .tc := ⟨.hbm, 180, rfl⟩
abbrev main_cst_13 : Ref sig .tc := ⟨.hbm, 181, rfl⟩
abbrev main_v93 : Ref sig .tc := ⟨.hbm, 182, rfl⟩
abbrev main_v94 : Ref sig .tc := ⟨.hbm, 183, rfl⟩
abbrev main_cst_14 : Ref sig .tc := ⟨.hbm, 184, rfl⟩
abbrev main_v95 : Ref sig .tc := ⟨.hbm, 185, rfl⟩
abbrev main_v96 : Ref sig .tc := ⟨.hbm, 186, rfl⟩
abbrev main_v97 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_v101 : Ref sig .tc := ⟨.hbm, 191, rfl⟩
abbrev main_v102 : Ref sig .tc := ⟨.hbm, 192, rfl⟩
abbrev main_v103 : Ref sig .tc := ⟨.hbm, 193, rfl⟩
abbrev main_v104 : Ref sig .tc := ⟨.hbm, 194, rfl⟩
abbrev main_v105 : Ref sig .tc := ⟨.hbm, 195, rfl⟩
abbrev main_v106 : Ref sig .tc := ⟨.hbm, 196, rfl⟩
abbrev main_v107 : Ref sig .tc := ⟨.hbm, 197, rfl⟩
abbrev main_v108 : Ref sig .tc := ⟨.hbm, 198, rfl⟩
abbrev main_call8_v0 : Ref sig .tc := ⟨.hbm, 199, rfl⟩
abbrev main_call8_v1 : Ref sig .tc := ⟨.hbm, 200, rfl⟩
abbrev main_call8_cst : Ref sig .tc := ⟨.hbm, 201, rfl⟩
abbrev main_call8_v2 : Ref sig .tc := ⟨.hbm, 202, rfl⟩
abbrev main_call8_v3 : Ref sig .tc := ⟨.hbm, 203, rfl⟩
abbrev main_call8_cst_0 : Ref sig .tc := ⟨.hbm, 204, rfl⟩
abbrev main_call8_v4 : Ref sig .tc := ⟨.hbm, 205, rfl⟩
abbrev main_call8_v5 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_v112 : Ref sig .tc := ⟨.hbm, 210, rfl⟩
abbrev main_v113 : Ref sig .tc := ⟨.hbm, 211, rfl⟩

abbrev nD : Nat := 1
abbrev τ : Topo := Topo.v7x

variable {F : FTy → Type} [FloatOps F]

abbrev main_while0_count : Scf.Loop 32 := ⟨0#32, 32#32, 1#32⟩
-- ==== Compress.lean ====
abbrev S8x2048x7168 : Shape := ⟨3, ![8, 2048, 7168]⟩
abbrev S32x64 : Shape := ⟨2, ![32, 64]⟩
abbrev S2048x128 : Shape := ⟨2, ![2048, 128]⟩
abbrev S128x64 : Shape := ⟨2, ![128, 64]⟩
abbrev S64x128 : Shape := ⟨2, ![64, 128]⟩
abbrev S8x4x128x64 : Shape := ⟨4, ![8, 4, 128, 64]⟩
abbrev S8x4x64x128 : Shape := ⟨4, ![8, 4, 64, 128]⟩
abbrev S1x2048x128 : Shape := ⟨3, ![1, 2048, 128]⟩
abbrev S1x1x128x64 : Shape := ⟨4, ![1, 1, 128, 64]⟩
abbrev S1x1x64x128 : Shape := ⟨4, ![1, 1, 64, 128]⟩
abbrev S2064x128 : Shape := ⟨2, ![2064, 128]⟩
abbrev S128x2048 : Shape := ⟨2, ![128, 2048]⟩
abbrev S16x128 : Shape := ⟨2, ![16, 128]⟩
abbrev S128x128 : Shape := ⟨2, ![128, 128]⟩
abbrev S1x64 : Shape := ⟨2, ![1, 64]⟩

abbrev nBuf : Space → Nat
  | .hbm => 9
  | .vmem => 15
  | .smem => 0
  | _ => 0

abbrev bufTy : (tb : Table) → Fin (tcTables nBuf tb) → BufTy
  | .hbm, ⟨0, _⟩ => ⟨S8x2048x7168, .bf16⟩
  | .hbm, ⟨1, _⟩ => ⟨S32x64, .f32⟩
  | .hbm, ⟨2, _⟩ => ⟨S32x64, .f32⟩
  | .hbm, ⟨3, _⟩ => ⟨S2048x128, .bf16⟩
  | .hbm, ⟨4, _⟩ => ⟨S2048x128, .bf16⟩
  | .hbm, ⟨5, _⟩ => ⟨S128x64, .bf16⟩
  | .hbm, ⟨6, _⟩ => ⟨S64x128, .bf16⟩
  | .hbm, ⟨7, _⟩ => ⟨S8x4x128x64, .f32⟩
  | .hbm, ⟨8, _⟩ => ⟨S8x4x64x128, .f32⟩
  | .local _ .vmem, ⟨0, _⟩ => ⟨S1x2048x128, .bf16⟩
  | .local _ .vmem, ⟨1, _⟩ => ⟨S1x2048x128, .bf16⟩
  | .local _ .vmem, ⟨2, _⟩ => ⟨S32x64, .f32⟩
  | .local _ .vmem, ⟨3, _⟩ => ⟨S32x64, .f32⟩
  | .local _ .vmem, ⟨4, _⟩ => ⟨S2048x128, .bf16⟩
  | .local _ .vmem, ⟨5, _⟩ => ⟨S2048x128, .bf16⟩
  | .local _ .vmem, ⟨6, _⟩ => ⟨S128x64, .bf16⟩
  | .local _ .vmem, ⟨7, _⟩ => ⟨S64x128, .bf16⟩
  | .local _ .vmem, ⟨8, _⟩ => ⟨S1x1x128x64, .f32⟩
  | .local _ .vmem, ⟨9, _⟩ => ⟨S1x1x128x64, .f32⟩
  | .local _ .vmem, ⟨10, _⟩ => ⟨S1x1x64x128, .f32⟩
  | .local _ .vmem, ⟨11, _⟩ => ⟨S1x1x64x128, .f32⟩
  | .local _ .vmem, ⟨12, _⟩ => ⟨S2064x128, .f32⟩
  | .local _ .vmem, ⟨13, _⟩ => ⟨S128x2048, .bf16⟩
  | .local _ .vmem, ⟨14, _⟩ => ⟨S128x2048, .bf16⟩
  | _, _ => ⟨S8x2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c32_i32 : BitVec 32 := 32#32
  let v1 : BitVec 32 := Scalar.addi c32_i32 v0
  let c0_i32 : BitVec 32 := 0#32
  let c0_i32_0 : BitVec 32 := 0#32
  ![arg0.toNat, c0_i32.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== CompressRefIdeal.lean ====
abbrev S8x2048x7168 : Shape := ⟨3, ![8, 2048, 7168]⟩
abbrev S32x64 : Shape := ⟨2, ![32, 64]⟩
abbrev S2048x128 : Shape := ⟨2, ![2048, 128]⟩
abbrev S128x64 : Shape := ⟨2, ![128, 64]⟩
abbrev S64x128 : Shape := ⟨2, ![64, 128]⟩
abbrev S8x2048x1024 : Shape := ⟨3, ![8, 2048, 1024]⟩
abbrev S8x2048x4x256 : Shape := ⟨4, ![8, 2048, 4, 256]⟩
abbrev S8x2048x4x64 : Shape := ⟨4, ![8, 2048, 4, 64]⟩
abbrev S_ : Shape := ⟨0, ![]⟩
abbrev S8x2064x4x64 : Shape := ⟨4, ![8, 2064, 4, 64]⟩
abbrev S8x129x16x4x64 : Shape := ⟨5, ![8, 129, 16, 4, 64]⟩
abbrev S8x128x16x4x64 : Shape := ⟨5, ![8, 128, 16, 4, 64]⟩
abbrev S8x128x32x4x64 : Shape := ⟨5, ![8, 128, 32, 4, 64]⟩
abbrev S32x1x64 : Shape := ⟨3, ![32, 1, 64]⟩
abbrev S1x1x32x1x64 : Shape := ⟨5, ![1, 1, 32, 1, 64]⟩
abbrev S8x4x128x32x64 : Shape := ⟨5, ![8, 4, 128, 32, 64]⟩
abbrev S8x4x128x2048 : Shape := ⟨4, ![8, 4, 128, 2048]⟩
abbrev S8x4x128x128 : Shape := ⟨4, ![8, 4, 128, 128]⟩
abbrev S8x4x128x64 : Shape := ⟨4, ![8, 4, 128, 64]⟩
abbrev S8x4x64x128 : Shape := ⟨4, ![8, 4, 64, 128]⟩

abbrev nBuf : Space → Nat
  | .hbm => 66
  | .vmem => 0
  | .smem => 0
  | _ => 0

abbrev bufTy : (tb : Table) → Fin (tcTables nBuf tb) → BufTy
  | .hbm, ⟨0, _⟩ => ⟨S8x2048x7168, .bf16⟩
  | .hbm, ⟨1, _⟩ => ⟨S32x64, .f32⟩
  | .hbm, ⟨2, _⟩ => ⟨S32x64, .f32⟩
  | .hbm, ⟨3, _⟩ => ⟨S2048x128, .bf16⟩
  | .hbm, ⟨4, _⟩ => ⟨S2048x128, .bf16⟩
  | .hbm, ⟨5, _⟩ => ⟨S128x64, .bf16⟩
  | .hbm, ⟨6, _⟩ => ⟨S64x128, .bf16⟩
  | .hbm, ⟨7, _⟩ => ⟨S8x2048x1024, .bf16⟩
  | .hbm, ⟨8, _⟩ => ⟨S8x2048x1024, .f32⟩
  | .hbm, ⟨9, _⟩ => ⟨S8x2048x4x256, .f32⟩
  | .hbm, ⟨10, _⟩ => ⟨S8x2048x4x64, .f32⟩
  | .hbm, ⟨11, _⟩ => ⟨S_, .i32⟩
  | .hbm, ⟨12, _⟩ => ⟨S_, .f32⟩
  | .hbm, ⟨13, _⟩ => ⟨S8x2064x4x64, .f32⟩
  | .hbm, ⟨14, _⟩ => ⟨S8x129x16x4x64, .f32⟩
  | .hbm, ⟨15, _⟩ => ⟨S8x128x16x4x64, .f32⟩
  | .hbm, ⟨16, _⟩ => ⟨S8x128x16x4x64, .f32⟩
  | .hbm, ⟨17, _⟩ => ⟨S8x128x32x4x64, .f32⟩
  | .hbm, ⟨18, _⟩ => ⟨S32x1x64, .f32⟩
  | .hbm, ⟨19, _⟩ => ⟨S1x1x32x1x64, .f32⟩
  | .hbm, ⟨20, _⟩ => ⟨S8x128x32x4x64, .f32⟩
  | .hbm, ⟨21, _⟩ => ⟨S8x128x32x4x64, .f32⟩
  | .hbm, ⟨22, _⟩ => ⟨S8x4x128x32x64, .f32⟩
  | .hbm, ⟨23, _⟩ => ⟨S8x4x128x2048, .f32⟩
  | .hbm, ⟨24, _⟩ => ⟨S2048x128, .f32⟩
  | .hbm, ⟨25, _⟩ => ⟨S8x4x128x128, .f32⟩
  | .hbm, ⟨26, _⟩ => ⟨S8x4x128x128, .f32⟩
  | .hbm, ⟨27, _⟩ => ⟨S8x4x128x128, .f32⟩
  | .hbm, ⟨28, _⟩ => ⟨S_, .f32⟩
  | .hbm, ⟨29, _⟩ => ⟨S8x4x128x128, .f32⟩
  | .hbm, ⟨30, _⟩ => ⟨S8x4x128x128, .f32⟩
  | .hbm, ⟨31, _⟩ => ⟨S_, .f32⟩
  | .hbm, ⟨32, _⟩ => ⟨S8x4x128x128, .f32⟩
  | .hbm, ⟨33, _⟩ => ⟨S8x4x128x128, .f32⟩
  | .hbm, ⟨34, _⟩ => ⟨S8x4x128x128, .f32⟩
  | .hbm, ⟨35, _⟩ => ⟨S128x64, .f32⟩
  | .hbm, ⟨36, _⟩ => ⟨S8x4x128x64, .f32⟩
  | .hbm, ⟨37, _⟩ => ⟨S8x2048x4x64, .f32⟩
  | .hbm, ⟨38, _⟩ => ⟨S128x64, .bf16⟩
  | .hbm, ⟨39, _⟩ => ⟨S_, .i32⟩
  | .hbm, ⟨40, _⟩ => ⟨S_, .f32⟩
  | .hbm, ⟨41, _⟩ => ⟨S8x2064x4x64, .f32⟩
  | .hbm, ⟨42, _⟩ => ⟨S8x129x16x4x64, .f32⟩
  | .hbm, ⟨43, _⟩ => ⟨S8x128x16x4x64, .f32⟩
  | .hbm, ⟨44, _⟩ => ⟨S8x128x16x4x64, .f32⟩
  | .hbm, ⟨45, _⟩ => ⟨S8x128x32x4x64, .f32⟩
  | .hbm, ⟨46, _⟩ => ⟨S32x1x64, .f32⟩
  | .hbm, ⟨47, _⟩ => ⟨S1x1x32x1x64, .f32⟩
  | .hbm, ⟨48, _⟩ => ⟨S8x128x32x4x64, .f32⟩
  | .hbm, ⟨49, _⟩ => ⟨S8x128x32x4x64, .f32⟩
  | .hbm, ⟨50, _⟩ => ⟨S8x4x128x32x64, .f32⟩
  | .hbm, ⟨51, _⟩ => ⟨S8x4x128x2048, .f32⟩
  | .hbm, ⟨52, _⟩ => ⟨S2048x128, .f32⟩
  | .hbm, ⟨53, _⟩ => ⟨S8x4x128x128, .f32⟩
  | .hbm, ⟨54, _⟩ => ⟨S8x4x128x128, .f32⟩
  | .hbm, ⟨55, _⟩ => ⟨S8x4x128x128, .f32⟩
  | .hbm, ⟨56, _⟩ => ⟨S_, .f32⟩
  | .hbm, ⟨57, _⟩ => ⟨S8x4x128x128, .f32⟩
  | .hbm, ⟨58, _⟩ => ⟨S8x4x128x128, .f32⟩
  | .hbm, ⟨59, _⟩ => ⟨S_, .f32⟩
  | .hbm, ⟨60, _⟩ => ⟨S8x4x128x128, .f32⟩
  | .hbm, ⟨61, _⟩ => ⟨S8x4x128x128, .f32⟩
  | .hbm, ⟨62, _⟩ => ⟨S8x4x128x128, .f32⟩
  | .hbm, ⟨63, _⟩ => ⟨S128x64, .f32⟩
  | .hbm, ⟨64, _⟩ => ⟨S8x4x128x64, .f32⟩
  | .hbm, ⟨65, _⟩ => ⟨S8x4x64x128, .f32⟩
  | _, _ => ⟨S8x2048x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_0 : Ref sig .tc := ⟨.hbm, 39, rfl⟩
abbrev main_call2_v0 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call3_v0 : Ref sig .tc := ⟨.hbm, 54, rfl⟩
abbrev main_call3_v1 : Ref sig .tc := ⟨.hbm, 55, rfl⟩
abbrev main_call3_cst : Ref sig .tc := ⟨.hbm, 56, rfl⟩
abbrev main_call3_v2 : Ref sig .tc := ⟨.hbm, 57, rfl⟩
abbrev main_call3_v3 : Ref sig .tc := ⟨.hbm, 58, rfl⟩
abbrev main_call3_cst_0 : Ref sig .tc := ⟨.hbm, 59, rfl⟩
abbrev main_call3_v4 : Ref sig .tc := ⟨.hbm, 60, rfl⟩
abbrev main_call3_v5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩

abbrev nD : Nat := 1
abbrev τ : Topo := Topo.v7x

variable {F : FTy → Type} [FloatOps F]
-- ==== CmpSelect.lean ====
abbrev S8x16x1536x128 : Shape := ⟨4, ![8, 16, 1536, 128]⟩
abbrev S8x4x128x64 : Shape := ⟨4, ![8, 4, 128, 64]⟩
abbrev S8x4x64x128 : Shape := ⟨4, ![8, 4, 64, 128]⟩
abbrev S4x4x1x1 : Shape := ⟨4, ![4, 4, 1, 1]⟩
abbrev S32x128 : Shape := ⟨2, ![32, 128]⟩
abbrev S8x16x1024x128 : Shape := ⟨4, ![8, 16, 1024, 128]⟩
abbrev S8x4x16x32x128 : Shape := ⟨5, ![8, 4, 16, 32, 128]⟩
abbrev S1x4x256x128 : Shape := ⟨4, ![1, 4, 256, 128]⟩
abbrev S1x1x128x64 : Shape := ⟨4, ![1, 1, 128, 64]⟩
abbrev S1x1x64x128 : Shape := ⟨4, ![1, 1, 64, 128]⟩
abbrev S1x4x1x1 : Shape := ⟨4, ![1, 4, 1, 1]⟩
abbrev S1x1x4x32x128 : Shape := ⟨5, ![1, 1, 4, 32, 128]⟩
abbrev S1x1x256x128 : Shape := ⟨4, ![1, 1, 256, 128]⟩
abbrev S256x128 : Shape := ⟨2, ![256, 128]⟩
abbrev S256x512 : Shape := ⟨2, ![256, 512]⟩
abbrev S128x64 : Shape := ⟨2, ![128, 64]⟩
abbrev S64x128 : Shape := ⟨2, ![64, 128]⟩
abbrev S128x512 : Shape := ⟨2, ![128, 512]⟩
abbrev S64x512 : Shape := ⟨2, ![64, 512]⟩
abbrev S1x1x1x1 : Shape := ⟨4, ![1, 1, 1, 1]⟩
abbrev S1x1 : Shape := ⟨2, ![1, 1]⟩
abbrev S512 : Shape := ⟨1, ![512]⟩
abbrev S1x512 : Shape := ⟨2, ![1, 512]⟩
abbrev S32x512 : Shape := ⟨2, ![32, 512]⟩
abbrev S1x1x1x32x128 : Shape := ⟨5, ![1, 1, 1, 32, 128]⟩

abbrev nBuf : Space → Nat
  | .hbm => 7
  | .vmem => 13
  | .smem => 0
  | _ => 0

abbrev bufTy : (tb : Table) → Fin (tcTables nBuf tb) → BufTy
  | .hbm, ⟨0, _⟩ => ⟨S8x16x1536x128, .bf16⟩
  | .hbm, ⟨1, _⟩ => ⟨S8x4x128x64, .f32⟩
  | .hbm, ⟨2, _⟩ => ⟨S8x4x64x128, .f32⟩
  | .hbm, ⟨3, _⟩ => ⟨S4x4x1x1, .f32⟩
  | .hbm, ⟨4, _⟩ => ⟨S32x128, .f32⟩
  | .hbm, ⟨5, _⟩ => ⟨S8x16x1024x128, .f32⟩
  | .hbm, ⟨6, _⟩ => ⟨S8x4x16x32x128, .f32⟩
  | .local _ .vmem, ⟨0, _⟩ => ⟨S1x4x256x128, .bf16⟩
  | .local _ .vmem, ⟨1, _⟩ => ⟨S1x4x256x128, .bf16⟩
  | .local _ .vmem, ⟨2, _⟩ => ⟨S1x1x128x64, .f32⟩
  | .local _ .vmem, ⟨3, _⟩ => ⟨S1x1x128x64, .f32⟩
  | .local _ .vmem, ⟨4, _⟩ => ⟨S1x1x64x128, .f32⟩
  | .local _ .vmem, ⟨5, _⟩ => ⟨S1x1x64x128, .f32⟩
  | .local _ .vmem, ⟨6, _⟩ => ⟨S1x4x1x1, .f32⟩
  | .local _ .vmem, ⟨7, _⟩ => ⟨S1x4x1x1, .f32⟩
  | .local _ .vmem, ⟨8, _⟩ => ⟨S32x128, .f32⟩
  | .local _ .vmem, ⟨9, _⟩ => ⟨S1x4x256x128, .f32⟩
  | .local _ .vmem, ⟨10, _⟩ => ⟨S1x4x256x128, .f32⟩
  | .local _ .vmem, ⟨11, _⟩ => ⟨S1x1x4x32x128, .f32⟩
  | .local _ .vmem, ⟨12, _⟩ => ⟨S1x1x4x32x128, .f32⟩
  | _, _ => ⟨S8x16x1536x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x4x32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== CmpSelectRefIdeal.lean ====
abbrev S8x16x1536x128 : Shape := ⟨4, ![8, 16, 1536, 128]⟩
abbrev S8x4x128x64 : Shape := ⟨4, ![8, 4, 128, 64]⟩
abbrev S8x4x64x128 : Shape := ⟨4, ![8, 4, 64, 128]⟩
abbrev S4x4x1x1 : Shape := ⟨4, ![4, 4, 1, 1]⟩
abbrev S32x128 : Shape := ⟨2, ![32, 128]⟩
abbrev S8x16x1024x128 : Shape := ⟨4, ![8, 16, 1024, 128]⟩
abbrev S8x16x4x4x64x128 : Shape := ⟨6, ![8, 16, 4, 4, 64, 128]⟩
abbrev S8x4x4x16x128x64 : Shape := ⟨6, ![8, 4, 4, 16, 128, 64]⟩
abbrev S8x4x4x2048x64 : Shape := ⟨5, ![8, 4, 4, 2048, 64]⟩
abbrev S2048 : Shape := ⟨1, ![2048]⟩
abbrev S128 : Shape := ⟨1, ![128]⟩
abbrev S2048x1 : Shape := ⟨2, ![2048, 1]⟩
abbrev S_ : Shape := ⟨0, ![]⟩
abbrev S1x128 : Shape := ⟨2, ![1, 128]⟩
abbrev S2048x128 : Shape := ⟨2, ![2048, 128]⟩
abbrev S8x4x4x2048x128 : Shape := ⟨5, ![8, 4, 4, 2048, 128]⟩
abbrev S1x1x2048x128 : Shape := ⟨4, ![1, 1, 2048, 128]⟩
abbrev S4x4x2048x128 : Shape := ⟨4, ![4, 4, 2048, 128]⟩
abbrev S1x4x4x2048x128 : Shape := ⟨5, ![1, 4, 4, 2048, 128]⟩
abbrev S8x4x4x2048 : Shape := ⟨4, ![8, 4, 4, 2048]⟩
abbrev S8x4x4x2048x1 : Shape := ⟨5, ![8, 4, 4, 2048, 1]⟩
abbrev S8x4x2048x128 : Shape := ⟨4, ![8, 4, 2048, 128]⟩
abbrev S8x4x2048x32 : Shape := ⟨4, ![8, 4, 2048, 32]⟩
abbrev S32 : Shape := ⟨1, ![32]⟩
abbrev S1x32 : Shape := ⟨2, ![1, 32]⟩
abbrev S2048x32 : Shape := ⟨2, ![2048, 32]⟩
abbrev S1x1x2048x32 : Shape := ⟨4, ![1, 1, 2048, 32]⟩
abbrev S8x4x2048x8 : Shape := ⟨4, ![8, 4, 2048, 8]⟩
abbrev S8x4x2048x8x1 : Shape := ⟨5, ![8, 4, 2048, 8, 1]⟩
abbrev S1x1x1x1x32 : Shape := ⟨5, ![1, 1, 1, 1, 32]⟩
abbrev S8x4x2048x8x32 : Shape := ⟨5, ![8, 4, 2048, 8, 32]⟩
abbrev S8x4x16x128x32 : Shape := ⟨5, ![8, 4, 16, 128, 32]⟩
abbrev S8x4x16x32x128 : Shape := ⟨5, ![8, 4, 16, 32, 128]⟩

abbrev nBuf : Space → Nat
  | .hbm => 150
  | .vmem => 0
  | .smem => 0
  | _ => 0

abbrev hbmTy0_0 (i : Nat) : BufTy := match i % 128 with
  | 0 => ⟨S8x16x1536x128, .bf16⟩
  | 1 => ⟨S8x4x128x64, .f32⟩
  | 2 => ⟨S8x4x64x128, .f32⟩
  | 3 => ⟨S4x4x1x1, .f32⟩
  | 4 => ⟨S32x128, .f32⟩
  | 5 => ⟨S8x16x1024x128, .bf16⟩
  | 6 => ⟨S8x16x1024x128, .f32⟩
  | 7 => ⟨S8x16x4x4x64x128, .f32⟩
  | 8 => ⟨S8x4x4x16x128x64, .f32⟩
  | 9 => ⟨S8x4x4x2048x64, .f32⟩
  | 10 => ⟨S2048, .i32⟩
  | 11 => ⟨S128, .i32⟩
  | 12 => ⟨S2048, .f32⟩
  | 13 => ⟨S2048x1, .f32⟩
  | 14 => ⟨S128, .f32⟩
  | 15 => ⟨S_, .f32⟩
  | 16 => ⟨S128, .f32⟩
  | 17 => ⟨S128, .f32⟩
  | 18 => ⟨S_, .f32⟩
  | 19 => ⟨S128, .f32⟩
  | 20 => ⟨S128, .f32⟩
  | 21 => ⟨S1x128, .f32⟩
  | 22 => ⟨S2048x128, .f32⟩
  | 23 => ⟨S2048x128, .f32⟩
  | 24 => ⟨S2048x128, .f32⟩
  | 25 => ⟨S8x4x4x2048x128, .f32⟩
  | 26 => ⟨S1x1x2048x128, .f32⟩
  | 27 => ⟨S4x4x2048x128, .f32⟩
  | 28 => ⟨S4x4x2048x128, .f32⟩
  | 29 => ⟨S4x4x2048x128, .f32⟩
  | 30 => ⟨S1x4x4x2048x128, .f32⟩
  | 31 => ⟨S8x4x4x2048x128, .f32⟩
  | 32 => ⟨S8x4x4x2048x128, .f32⟩
  | 33 => ⟨S1x128, .i32⟩
  | 34 => ⟨S_, .i32⟩
  | 35 => ⟨S1x128, .i32⟩
  | 36 => ⟨S1x128, .i32⟩
  | 37 => ⟨S_, .i32⟩
  | 38 => ⟨S1x128, .i32⟩
  | 39 => ⟨S1x128, .i32⟩
  | 40 => ⟨S2048x1, .i32⟩
  | 41 => ⟨S2048x128, .i32⟩
  | 42 => ⟨S2048x128, .i32⟩
  | 43 => ⟨S2048x128, .i1⟩
  | 44 => ⟨S_, .f32⟩
  | 45 => ⟨S_, .f32⟩
  | 46 => ⟨S8x4x4x2048x128, .i1⟩
  | 47 => ⟨S8x4x4x2048x128, .f32⟩
  | 48 => ⟨S8x4x4x2048x128, .f32⟩
  | 49 => ⟨S_, .f32⟩
  | 50 => ⟨S8x4x4x2048, .f32⟩
  | 51 => ⟨S8x4x4x2048x1, .f32⟩
  | 52 => ⟨S_, .f32⟩
  | 53 => ⟨S8x4x4x2048x1, .f32⟩
  | 54 => ⟨S8x4x4x2048x1, .i1⟩
  | 55 => ⟨S_, .f32⟩
  | 56 => ⟨S_, .f32⟩
  | 57 => ⟨S8x4x4x2048x1, .f32⟩
  | 58 => ⟨S8x4x4x2048x1, .f32⟩
  | 59 => ⟨S8x4x4x2048x128, .f32⟩
  | 60 => ⟨S8x4x4x2048x128, .f32⟩
  | 61 => ⟨S8x4x4x2048x128, .f32⟩
  | 62 => ⟨S_, .f32⟩
  | 63 => ⟨S8x4x4x2048, .f32⟩
  | 64 => ⟨S8x4x4x2048x1, .f32⟩
  | 65 => ⟨S_, .f32⟩
  | 66 => ⟨S8x4x4x2048x1, .f32⟩
  | 67 => ⟨S8x4x4x2048x1, .i1⟩
  | 68 => ⟨S_, .f32⟩
  | 69 => ⟨S_, .f32⟩
  | 70 => ⟨S8x4x4x2048x1, .f32⟩
  | 71 => ⟨S8x4x4x2048x1, .f32⟩
  | 72 => ⟨S8x4x4x2048x128, .f32⟩
  | 73 => ⟨S8x4x4x2048x128, .f32⟩
  | 74 => ⟨S8x4x4x2048x64, .f32⟩
  | 75 => ⟨S_, .f32⟩
  | 76 => ⟨S8x4x2048x128, .f32⟩
  | 77 => ⟨S8x4x2048x32, .f32⟩
  | 78 => ⟨S32, .i32⟩
  | 79 => ⟨S1x32, .i32⟩
  | 80 => ⟨S2048x1, .i32⟩
  | 81 => ⟨S_, .i32⟩
  | 82 => ⟨S_, .i32⟩
  | 83 => ⟨S2048x1, .i32⟩
  | 84 => ⟨S2048x1, .i32⟩
  | 85 => ⟨S2048x1, .i32⟩
  | 86 => ⟨S_, .i32⟩
  | 87 => ⟨S2048x1, .i32⟩
  | 88 => ⟨S2048x1, .i1⟩
  | 89 => ⟨S2048x1, .i32⟩
  | 90 => ⟨S2048x1, .i32⟩
  | 91 => ⟨S_, .i32⟩
  | 92 => ⟨S2048x1, .i32⟩
  | 93 => ⟨S2048x1, .i1⟩
  | 94 => ⟨S2048x1, .i1⟩
  | 95 => ⟨S_, .i32⟩
  | 96 => ⟨S2048x1, .i32⟩
  | 97 => ⟨S2048x1, .i32⟩
  | 98 => ⟨S2048x1, .i32⟩
  | 99 => ⟨S_, .i32⟩
  | 100 => ⟨S1x32, .i32⟩
  | 101 => ⟨S1x32, .i1⟩
  | 102 => ⟨S2048x32, .i32⟩
  | 103 => ⟨S2048x32, .i32⟩
  | 104 => ⟨S2048x32, .i1⟩
  | 105 => ⟨S2048x32, .i1⟩
  | 106 => ⟨S2048x32, .i1⟩
  | 107 => ⟨S_, .i32⟩
  | 108 => ⟨S2048x1, .i32⟩
  | 109 => ⟨S2048x1, .i32⟩
  | 110 => ⟨S2048x32, .i32⟩
  | 111 => ⟨S2048x32, .i32⟩
  | 112 => ⟨S2048x32, .i1⟩
  | 113 => ⟨S2048x32, .i1⟩
  | 114 => ⟨S_, .i32⟩
  | 115 => ⟨S1x32, .i32⟩
  | 116 => ⟨S1x32, .i32⟩
  | 117 => ⟨S2048x1, .i32⟩
  | 118 => ⟨S2048x32, .i32⟩
  | 119 => ⟨S2048x32, .i32⟩
  | 120 => ⟨S2048x32, .i1⟩
  | 121 => ⟨S_, .f32⟩
  | 122 => ⟨S_, .f32⟩
  | 123 => ⟨S2048x32, .f32⟩
  | 124 => ⟨S2048x32, .f32⟩
  | 125 => ⟨S2048x32, .f32⟩
  | 126 => ⟨S2048x32, .f32⟩
  | 127 => ⟨S1x1x2048x32, .f32⟩
  | _ => ⟨S8x16x1536x128, .bf16⟩

abbrev hbmTy0_1 (i : Nat) : BufTy := match i % 128 with
  | 0 => ⟨S8x4x2048x32, .f32⟩
  | 1 => ⟨S8x4x2048x32, .f32⟩
  | 2 => ⟨S_, .f32⟩
  | 3 => ⟨S_, .f32⟩
  | 4 => ⟨S8x4x2048x32, .i1⟩
  | 5 => ⟨S8x4x2048x32, .f32⟩
  | 6 => ⟨S8x4x2048x32, .f32⟩
  | 7 => ⟨S8x4x2048x8, .f32⟩
  | 8 => ⟨S8x4x2048x8, .i32⟩
  | 9 => ⟨S8x4x2048x8x1, .i32⟩
  | 10 => ⟨S1x1x1x1x32, .i32⟩
  | 11 => ⟨S8x4x2048x8x32, .i32⟩
  | 12 => ⟨S8x4x2048x8x32, .i32⟩
  | 13 => ⟨S8x4x2048x8x32, .i1⟩
  | 14 => ⟨S8x4x2048x8x32, .f32⟩
  | 15 => ⟨S_, .f32⟩
  | 16 => ⟨S8x4x2048x32, .f32⟩
  | 17 => ⟨S8x4x4x16x128x64, .f32⟩
  | 18 => ⟨S8x16x4x4x64x128, .f32⟩
  | 19 => ⟨S8x16x1024x128, .f32⟩
  | 20 => ⟨S8x4x16x128x32, .f32⟩
  | 21 => ⟨S8x4x16x32x128, .f32⟩
  | _ => ⟨S8x16x1536x128, .bf16⟩

abbrev hbmTy (i : Nat) : BufTy := match i / 128 with
  | 0 => hbmTy0_0 i
  | 1 => hbmTy0_1 i
  | _ => ⟨S8x16x1536x128, .bf16⟩

abbrev bufTy : (tb : Table) → Fin (tcTables nBuf tb) → BufTy
  | .hbm, ⟨i, _⟩ => hbmTy i
  | _, _ => ⟨S8x16x1536x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c : Ref sig .tc := ⟨.hbm, 34, rfl⟩
abbrev main_v27 : Ref sig .tc := ⟨.hbm, 35, rfl⟩
abbrev main_v28 : Ref sig .tc := ⟨.hbm, 36, rfl⟩
abbrev main_c_1 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_call1_v0 : Ref sig .tc := ⟨.hbm, 56, rfl⟩
abbrev main_call1_v1 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_call2_v0 : Ref sig .tc := ⟨.hbm, 69, rfl⟩
abbrev main_call2_v1 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_10 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_v5 : Ref sig .tc := ⟨.hbm, 87, rfl⟩
abbrev main_call3_v6 : Ref sig .tc := ⟨.hbm, 88, rfl⟩
abbrev main_call3_v7 : Ref sig .tc := ⟨.hbm, 89, rfl⟩
abbrev main_call3_v8 : Ref sig .tc := ⟨.hbm, 90, rfl⟩
abbrev main_call3_c : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_c_0 : Ref sig .tc := ⟨.hbm, 95, rfl⟩
abbrev main_call3_v12 : Ref sig .tc := ⟨.hbm, 96, rfl⟩
abbrev main_call3_v13 : Ref sig .tc := ⟨.hbm, 97, rfl⟩
abbrev main_v57 : Ref sig .tc := ⟨.hbm, 98, rfl⟩
abbrev main_c_11 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_c_12 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_c_13 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_cst_14 : Ref sig .tc := ⟨.hbm, 121, rfl⟩
abbrev main_cst_15 : Ref sig .tc := ⟨.hbm, 122, rfl⟩
abbrev main_call4_v0 : Ref sig .tc := ⟨.hbm, 123, rfl⟩
abbrev main_call4_v1 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_cst_16 : Ref sig .tc := ⟨.hbm, 130, rfl⟩
abbrev main_call5_v0 : Ref sig .tc := ⟨.hbm, 131, rfl⟩
abbrev main_call5_v1 : Ref sig .tc := ⟨.hbm, 132, rfl⟩
abbrev main_call5_v2 : Ref sig .tc := ⟨.hbm, 133, rfl⟩
abbrev main_v82 : Ref sig .tc := ⟨.hbm, 134, rfl⟩
abbrev main_values : Ref sig .tc := ⟨.hbm, 135, rfl⟩
abbrev main_indices : Ref sig .tc := ⟨.hbm, 136, rfl⟩
abbrev main_call6_v0 : Ref sig .tc := ⟨.hbm, 137, rfl⟩
abbrev main_call6_v1 : Ref sig .tc := ⟨.hbm, 138, rfl⟩
abbrev main_call6_v2 : Ref sig .tc := ⟨.hbm, 139, rfl⟩
abbrev main_call6_v3 : Ref sig .tc := ⟨.hbm, 140, rfl⟩
abbrev main_call6_v4 : Ref sig .tc := ⟨.hbm, 141, rfl⟩
abbrev main_v83 : Ref sig .tc := ⟨.hbm, 142, rfl⟩
abbrev main_cst_17 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩

abbrev nD : Nat := 1
abbrev τ : Topo := Topo.v7x

variable {F : FTy → Type} [FloatOps F]
-- ==== Sparse.lean ====
abbrev S8x16x1536x128 : Shape := ⟨4, ![8, 16, 1536, 128]⟩
abbrev S8x16x64x128 : Shape := ⟨4, ![8, 16, 64, 128]⟩
abbrev S8x2048x7168 : Shape := ⟨3, ![8, 2048, 7168]⟩
abbrev S8x16x1024x128 : Shape := ⟨4, ![8, 16, 1024, 128]⟩
abbrev S8x4x16x32x128 : Shape := ⟨5, ![8, 4, 16, 32, 128]⟩
abbrev S4x4x1x1 : Shape := ⟨4, ![4, 4, 1, 1]⟩
abbrev S8x2048x1024 : Shape := ⟨3, ![8, 2048, 1024]⟩
abbrev S1x1x256x128 : Shape := ⟨4, ![1, 1, 256, 128]⟩
abbrev S1x2048x128 : Shape := ⟨3, ![1, 2048, 128]⟩
abbrev S1x16x64x128 : Shape := ⟨4, ![1, 16, 64, 128]⟩
abbrev S1x1x16x128 : Shape := ⟨4, ![1, 1, 16, 128]⟩
abbrev S1x1x1x32x128 : Shape := ⟨5, ![1, 1, 1, 32, 128]⟩
abbrev S1x4x1x1 : Shape := ⟨4, ![1, 4, 1, 1]⟩
abbrev S1x128x256 : Shape := ⟨3, ![1, 128, 256]⟩
abbrev S256x128 : Shape := ⟨2, ![256, 128]⟩
abbrev S64x128 : Shape := ⟨2, ![64, 128]⟩
abbrev S64x512 : Shape := ⟨2, ![64, 512]⟩
abbrev S128x512 : Shape := ⟨2, ![128, 512]⟩
abbrev S1x1x1x1 : Shape := ⟨4, ![1, 1, 1, 1]⟩
abbrev S1x1 : Shape := ⟨2, ![1, 1]⟩
abbrev S1x128 : Shape := ⟨2, ![1, 128]⟩
abbrev S1x512 : Shape := ⟨2, ![1, 512]⟩
abbrev S1x128x128 : Shape := ⟨3, ![1, 128, 128]⟩
abbrev S128x128 : Shape := ⟨2, ![128, 128]⟩
abbrev S1x1x1x1x128 : Shape := ⟨5, ![1, 1, 1, 1, 128]⟩
abbrev S512 : Shape := ⟨1, ![512]⟩
abbrev S1x1x64x128 : Shape := ⟨4, ![1, 1, 64, 128]⟩
abbrev S16x128 : Shape := ⟨2, ![16, 128]⟩
abbrev S128x64 : Shape := ⟨2, ![128, 64]⟩
abbrev S128x256 : Shape := ⟨2, ![128, 256]⟩

abbrev nBuf : Space → Nat
  | .hbm => 7
  | .vmem => 18
  | .smem => 0
  | _ => 0

abbrev bufTy : (tb : Table) → Fin (tcTables nBuf tb) → BufTy
  | .hbm, ⟨0, _⟩ => ⟨S8x16x1536x128, .bf16⟩
  | .hbm, ⟨1, _⟩ => ⟨S8x16x64x128, .f32⟩
  | .hbm, ⟨2, _⟩ => ⟨S8x2048x7168, .bf16⟩
  | .hbm, ⟨3, _⟩ => ⟨S8x16x1024x128, .f32⟩
  | .hbm, ⟨4, _⟩ => ⟨S8x4x16x32x128, .f32⟩
  | .hbm, ⟨5, _⟩ => ⟨S4x4x1x1, .f32⟩
  | .hbm, ⟨6, _⟩ => ⟨S8x2048x1024, .bf16⟩
  | .local _ .vmem, ⟨0, _⟩ => ⟨S1x1x256x128, .bf16⟩
  | .local _ .vmem, ⟨1, _⟩ => ⟨S1x1x256x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x16x64x128, .bf16⟩
  | .local _ .vmem, ⟨5, _⟩ => ⟨S1x16x64x128, .bf16⟩
  | .local _ .vmem, ⟨6, _⟩ => ⟨S1x16x64x128, .bf16⟩
  | .local _ .vmem, ⟨7, _⟩ => ⟨S1x16x64x128, .bf16⟩
  | .local _ .vmem, ⟨8, _⟩ => ⟨S1x1x16x128, .f32⟩
  | .local _ .vmem, ⟨9, _⟩ => ⟨S1x1x16x128, .f32⟩
  | .local _ .vmem, ⟨10, _⟩ => ⟨S1x1x256x128, .f32⟩
  | .local _ .vmem, ⟨11, _⟩ => ⟨S1x1x256x128, .f32⟩
  | .local _ .vmem, ⟨12, _⟩ => ⟨S1x1x1x32x128, .f32⟩
  | .local _ .vmem, ⟨13, _⟩ => ⟨S1x1x1x32x128, .f32⟩
  | .local _ .vmem, ⟨14, _⟩ => ⟨S1x4x1x1, .f32⟩
  | .local _ .vmem, ⟨15, _⟩ => ⟨S1x4x1x1, .f32⟩
  | .local _ .vmem, ⟨16, _⟩ => ⟨S1x128x256, .bf16⟩
  | .local _ .vmem, ⟨17, _⟩ => ⟨S1x128x256, .bf16⟩
  | _, _ => ⟨S8x16x1536x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 4, 16], ![false, false, false]⟩

@[reducible] def k0_t1_loop (i : grid0.Coords) : Scf.Loop 32 :=
  let c0_i32_23 : BitVec 32 := 0#32
  let arg2 : BitVec 32 := BitVec.ofNat 32 (i 2).val
  let c1_i32_22 : BitVec 32 := 1#32
  let v49 : BitVec 32 := Scalar.addi arg2 c1_i32_22
  let v50 : BitVec 32 := Scalar.subi v49 c0_i32_23
  let c1_i32_24 : BitVec 32 := 1#32
  let v52 : BitVec 32 := Scalar.divsi v50 c1_i32_24
  let v53 : BitVec 32 := Scalar.muli v52 c1_i32_24
  let v54 : BitVec 32 := Scalar.addi c0_i32_23 v53
  let c1_i32_25 : BitVec 32 := 1#32
  ⟨c0_i32_23, v54, c1_i32_25⟩
def k0_mult1 (i : grid0.Coords) (k0_t1 : Fin (k0_t1_loop i).trips) : BitVec 32 :=
  let c0_i32_23 : BitVec 32 := 0#32
  let c1_i32_25 : BitVec 32 := 1#32
  let arg12 : BitVec 32 := Scf.iv c0_i32_23 c1_i32_25 k0_t1
  let c128_i32_46 : BitVec 32 := 128#32
  let v147 : BitVec 32 := Scalar.muli arg12 c128_i32_46
  v147
def k0_off1 (i : grid0.Coords) (k0_t1 : Fin (k0_t1_loop i).trips) : Fin 3 → Nat :=
  let c0_48 : Index := 0#32
  let c0_i32_23 : BitVec 32 := 0#32
  let c1_i32_25 : BitVec 32 := 1#32
  let arg12 : BitVec 32 := Scf.iv c0_i32_23 c1_i32_25 k0_t1
  let c128_i32_46 : BitVec 32 := 128#32
  let v147 : BitVec 32 := Scalar.muli arg12 c128_i32_46
  let v148 : BitVec 32 := v147
  let v153 : Index := Scalar.indexCast v148
  let c0_49 : Index := 0#32
  ![0, v153.toNat, 0]
def k0_off2 (i : grid0.Coords) (k0_t1 : Fin (k0_t1_loop i).trips) (c0_i32_51 : BitVec 32) : Fin 5 → Nat :=
  let c0_52 : Index := 0#32
  let c0_53 : Index := 0#32
  let c0_54 : Index := 0#32
  let c0_i32_23 : BitVec 32 := 0#32
  let c1_i32_25 : BitVec 32 := 1#32
  let arg12 : BitVec 32 := Scf.iv c0_i32_23 c1_i32_25 k0_t1
  let c2_i32 : BitVec 32 := 2#32
  let v161 : BitVec 32 := Scalar.muli arg12 c2_i32
  let v162 : BitVec 32 := Scalar.addi v161 c0_i32_51
  let v163 : Index := Scalar.indexCast v162
  let c0_55 : Index := 0#32
  ![0, 0, 0, v163.toNat, 0]
def k0_off3 (i : grid0.Coords) (k0_t1 : Fin (k0_t1_loop i).trips) : Fin 4 → Nat :=
  let c0_67 : Index := 0#32
  let c0_i32_23 : BitVec 32 := 0#32
  let c1_i32_25 : BitVec 32 := 1#32
  let arg12 : BitVec 32 := Scf.iv c0_i32_23 c1_i32_25 k0_t1
  let v199 : Index := Scalar.indexCast arg12
  let c0_68 : Index := 0#32
  let c0_69 : Index := 0#32
  ![0, v199.toNat, 0, 0]
@[reducible] def k0_t2_loop (i : grid0.Coords) : Scf.Loop 32 :=
  let c0_i32_23 : BitVec 32 := 0#32
  let arg2 : BitVec 32 := BitVec.ofNat 32 (i 2).val
  let c1_i32_22 : BitVec 32 := 1#32
  let v49 : BitVec 32 := Scalar.addi arg2 c1_i32_22
  let v50 : BitVec 32 := Scalar.subi v49 c0_i32_23
  let c1_i32_24 : BitVec 32 := 1#32
  let v52 : BitVec 32 := Scalar.divsi v50 c1_i32_24
  let v53 : BitVec 32 := Scalar.muli v52 c1_i32_24
  let v54 : BitVec 32 := Scalar.addi c0_i32_23 v53
  let v51 : BitVec 32 := Scalar.addi c0_i32_23 v50
  let c1_i32_26 : BitVec 32 := 1#32
  ⟨v54, v51, c1_i32_26⟩
def k0_mult2 (i : grid0.Coords) (k0_t2 : Fin (k0_t2_loop i).trips) : BitVec 32 :=
  let c0_i32_23 : BitVec 32 := 0#32
  let arg2 : BitVec 32 := BitVec.ofNat 32 (i 2).val
  let c1_i32_22 : BitVec 32 := 1#32
  let v49 : BitVec 32 := Scalar.addi arg2 c1_i32_22
  let v50 : BitVec 32 := Scalar.subi v49 c0_i32_23
  let c1_i32_24 : BitVec 32 := 1#32
  let v52 : BitVec 32 := Scalar.divsi v50 c1_i32_24
  let v53 : BitVec 32 := Scalar.muli v52 c1_i32_24
  let v54 : BitVec 32 := Scalar.addi c0_i32_23 v53
  let c1_i32_26 : BitVec 32 := 1#32
  let arg12 : BitVec 32 := Scf.iv v54 c1_i32_26 k0_t2
  let c128_i32_46 : BitVec 32 := 128#32
  let v147 : BitVec 32 := Scalar.muli arg12 c128_i32_46
  v147
def k0_off4 (i : grid0.Coords) (k0_t2 : Fin (k0_t2_loop i).trips) : Fin 3 → Nat :=
  let c0_48 : Index := 0#32
  let c0_i32_23 : BitVec 32 := 0#32
  let arg2 : BitVec 32 := BitVec.ofNat 32 (i 2).val
  let c1_i32_22 : BitVec 32 := 1#32
  let v49 : BitVec 32 := Scalar.addi arg2 c1_i32_22
  let v50 : BitVec 32 := Scalar.subi v49 c0_i32_23
  let c1_i32_24 : BitVec 32 := 1#32
  let v52 : BitVec 32 := Scalar.divsi v50 c1_i32_24
  let v53 : BitVec 32 := Scalar.muli v52 c1_i32_24
  let v54 : BitVec 32 := Scalar.addi c0_i32_23 v53
  let c1_i32_26 : BitVec 32 := 1#32
  let arg12 : BitVec 32 := Scf.iv v54 c1_i32_26 k0_t2
  let c128_i32_46 : BitVec 32 := 128#32
  let v147 : BitVec 32 := Scalar.muli arg12 c128_i32_46
  let v148 : BitVec 32 := v147
  let v153 : Index := Scalar.indexCast v148
  let c0_49 : Index := 0#32
  ![0, v153.toNat, 0]
def k0_off5 (i : grid0.Coords) (k0_t2 : Fin (k0_t2_loop i).trips) (c0_i32_51 : BitVec 32) : Fin 5 → Nat :=
  let c0_52 : Index := 0#32
  let c0_53 : Index := 0#32
  let c0_54 : Index := 0#32
  let c0_i32_23 : BitVec 32 := 0#32
  let arg2 : BitVec 32 := BitVec.ofNat 32 (i 2).val
  let c1_i32_22 : BitVec 32 := 1#32
  let v49 : BitVec 32 := Scalar.addi arg2 c1_i32_22
  let v50 : BitVec 32 := Scalar.subi v49 c0_i32_23
  let c1_i32_24 : BitVec 32 := 1#32
  let v52 : BitVec 32 := Scalar.divsi v50 c1_i32_24
  let v53 : BitVec 32 := Scalar.muli v52 c1_i32_24
  let v54 : BitVec 32 := Scalar.addi c0_i32_23 v53
  let c1_i32_26 : BitVec 32 := 1#32
  let arg12 : BitVec 32 := Scf.iv v54 c1_i32_26 k0_t2
  let c2_i32 : BitVec 32 := 2#32
  let v161 : BitVec 32 := Scalar.muli arg12 c2_i32
  let v162 : BitVec 32 := Scalar.addi v161 c0_i32_51
  let v163 : Index := Scalar.indexCast v162
  let c0_55 : Index := 0#32
  ![0, 0, 0, v163.toNat, 0]
def k0_off6 (i : grid0.Coords) (k0_t2 : Fin (k0_t2_loop i).trips) : Fin 4 → Nat :=
  let c0_67 : Index := 0#32
  let c0_i32_23 : BitVec 32 := 0#32
  let arg2 : BitVec 32 := BitVec.ofNat 32 (i 2).val
  let c1_i32_22 : BitVec 32 := 1#32
  let v49 : BitVec 32 := Scalar.addi arg2 c1_i32_22
  let v50 : BitVec 32 := Scalar.subi v49 c0_i32_23
  let c1_i32_24 : BitVec 32 := 1#32
  let v52 : BitVec 32 := Scalar.divsi v50 c1_i32_24
  let v53 : BitVec 32 := Scalar.muli v52 c1_i32_24
  let v54 : BitVec 32 := Scalar.addi c0_i32_23 v53
  let c1_i32_26 : BitVec 32 := 1#32
  let arg12 : BitVec 32 := Scf.iv v54 c1_i32_26 k0_t2
  let v199 : Index := Scalar.indexCast arg12
  let c0_68 : Index := 0#32
  let c0_69 : Index := 0#32
  ![0, v199.toNat, 0, 0]
@[reducible] def k0_t3_loop (i : grid0.Coords) : Scf.Loop 32 :=
  let arg2 : BitVec 32 := BitVec.ofNat 32 (i 2).val
  let c4_i32 : BitVec 32 := 4#32
  let v57 : BitVec 32 := Scalar.subi arg2 c4_i32
  let c0_i32_27 : BitVec 32 := 0#32
  let v58 : BitVec 32 := Scalar.maxsi v57 c0_i32_27
  let c1_i32_28 : BitVec 32 := 1#32
  let v59 : BitVec 32 := Scalar.addi arg2 c1_i32_28
  let v60 : BitVec 32 := Scalar.subi v59 v58
  let c1_i32_29 : BitVec 32 := 1#32
  let v62 : BitVec 32 := Scalar.divsi v60 c1_i32_29
  let v63 : BitVec 32 := Scalar.muli v62 c1_i32_29
  let v64 : BitVec 32 := Scalar.addi v58 v63
  let c1_i32_30 : BitVec 32 := 1#32
  ⟨v58, v64, c1_i32_30⟩
def k0_mult3 (i : grid0.Coords) (k0_t3 : Fin (k0_t3_loop i).trips) : BitVec 32 :=
  let arg2 : BitVec 32 := BitVec.ofNat 32 (i 2).val
  let c4_i32 : BitVec 32 := 4#32
  let v57 : BitVec 32 := Scalar.subi arg2 c4_i32
  let c0_i32_27 : BitVec 32 := 0#32
  let v58 : BitVec 32 := Scalar.maxsi v57 c0_i32_27
  let c1_i32_30 : BitVec 32 := 1#32
  let arg12 : BitVec 32 := Scf.iv v58 c1_i32_30 k0_t3
  let c128_i32_46 : BitVec 32 := 128#32
  let v147 : BitVec 32 := Scalar.muli arg12 c128_i32_46
  v147
def k0_off7 (i : grid0.Coords) (k0_t3 : Fin (k0_t3_loop i).trips) : Fin 3 → Nat :=
  let c0_48 : Index := 0#32
  let arg2 : BitVec 32 := BitVec.ofNat 32 (i 2).val
  let c4_i32 : BitVec 32 := 4#32
  let v57 : BitVec 32 := Scalar.subi arg2 c4_i32
  let c0_i32_27 : BitVec 32 := 0#32
  let v58 : BitVec 32 := Scalar.maxsi v57 c0_i32_27
  let c1_i32_30 : BitVec 32 := 1#32
  let arg12 : BitVec 32 := Scf.iv v58 c1_i32_30 k0_t3
  let c128_i32_46 : BitVec 32 := 128#32
  let v147 : BitVec 32 := Scalar.muli arg12 c128_i32_46
  let v148 : BitVec 32 := v147
  let v153 : Index := Scalar.indexCast v148
  let c0_49 : Index := 0#32
  ![0, v153.toNat, 0]
def k0_off8 (i : grid0.Coords) (k0_t3 : Fin (k0_t3_loop i).trips) : Fin 4 → Nat :=
  let c0_55 : Index := 0#32
  let arg2 : BitVec 32 := BitVec.ofNat 32 (i 2).val
  let c4_i32 : BitVec 32 := 4#32
  let v57 : BitVec 32 := Scalar.subi arg2 c4_i32
  let c0_i32_27 : BitVec 32 := 0#32
  let v58 : BitVec 32 := Scalar.maxsi v57 c0_i32_27
  let c1_i32_30 : BitVec 32 := 1#32
  let arg12 : BitVec 32 := Scf.iv v58 c1_i32_30 k0_t3
  let v182 : Index := Scalar.indexCast arg12
  let c0_56 : Index := 0#32
  let c0_57 : Index := 0#32
  ![0, v182.toNat, 0, 0]
@[reducible] def k0_t4_loop (i : grid0.Coords) : Scf.Loop 32 :=
  let arg2 : BitVec 32 := BitVec.ofNat 32 (i 2).val
  let c4_i32 : BitVec 32 := 4#32
  let v57 : BitVec 32 := Scalar.subi arg2 c4_i32
  let c0_i32_27 : BitVec 32 := 0#32
  let v58 : BitVec 32 := Scalar.maxsi v57 c0_i32_27
  let c1_i32_28 : BitVec 32 := 1#32
  let v59 : BitVec 32 := Scalar.addi arg2 c1_i32_28
  let v60 : BitVec 32 := Scalar.subi v59 v58
  let c1_i32_29 : BitVec 32 := 1#32
  let v62 : BitVec 32 := Scalar.divsi v60 c1_i32_29
  let v63 : BitVec 32 := Scalar.muli v62 c1_i32_29
  let v64 : BitVec 32 := Scalar.addi v58 v63
  let v61 : BitVec 32 := Scalar.addi v58 v60
  let c1_i32_31 : BitVec 32 := 1#32
  ⟨v64, v61, c1_i32_31⟩
def k0_mult4 (i : grid0.Coords) (k0_t4 : Fin (k0_t4_loop i).trips) : BitVec 32 :=
  let arg2 : BitVec 32 := BitVec.ofNat 32 (i 2).val
  let c4_i32 : BitVec 32 := 4#32
  let v57 : BitVec 32 := Scalar.subi arg2 c4_i32
  let c0_i32_27 : BitVec 32 := 0#32
  let v58 : BitVec 32 := Scalar.maxsi v57 c0_i32_27
  let c1_i32_28 : BitVec 32 := 1#32
  let v59 : BitVec 32 := Scalar.addi arg2 c1_i32_28
  let v60 : BitVec 32 := Scalar.subi v59 v58
  let c1_i32_29 : BitVec 32 := 1#32
  let v62 : BitVec 32 := Scalar.divsi v60 c1_i32_29
  let v63 : BitVec 32 := Scalar.muli v62 c1_i32_29
  let v64 : BitVec 32 := Scalar.addi v58 v63
  let c1_i32_31 : BitVec 32 := 1#32
  let arg12 : BitVec 32 := Scf.iv v64 c1_i32_31 k0_t4
  let c128_i32_46 : BitVec 32 := 128#32
  let v147 : BitVec 32 := Scalar.muli arg12 c128_i32_46
  v147
def k0_off9 (i : grid0.Coords) (k0_t4 : Fin (k0_t4_loop i).trips) : Fin 3 → Nat :=
  let c0_48 : Index := 0#32
  let arg2 : BitVec 32 := BitVec.ofNat 32 (i 2).val
  let c4_i32 : BitVec 32 := 4#32
  let v57 : BitVec 32 := Scalar.subi arg2 c4_i32
  let c0_i32_27 : BitVec 32 := 0#32
  let v58 : BitVec 32 := Scalar.maxsi v57 c0_i32_27
  let c1_i32_28 : BitVec 32 := 1#32
  let v59 : BitVec 32 := Scalar.addi arg2 c1_i32_28
  let v60 : BitVec 32 := Scalar.subi v59 v58
  let c1_i32_29 : BitVec 32 := 1#32
  let v62 : BitVec 32 := Scalar.divsi v60 c1_i32_29
  let v63 : BitVec 32 := Scalar.muli v62 c1_i32_29
  let v64 : BitVec 32 := Scalar.addi v58 v63
  let c1_i32_31 : BitVec 32 := 1#32
  let arg12 : BitVec 32 := Scf.iv v64 c1_i32_31 k0_t4
  let c128_i32_46 : BitVec 32 := 128#32
  let v147 : BitVec 32 := Scalar.muli arg12 c128_i32_46
  let v148 : BitVec 32 := v147
  let v153 : Index := Scalar.indexCast v148
  let c0_49 : Index := 0#32
  ![0, v153.toNat, 0]
def k0_off10 (i : grid0.Coords) (k0_t4 : Fin (k0_t4_loop i).trips) : Fin 4 → Nat :=
  let c0_55 : Index := 0#32
  let arg2 : BitVec 32 := BitVec.ofNat 32 (i 2).val
  let c4_i32 : BitVec 32 := 4#32
  let v57 : BitVec 32 := Scalar.subi arg2 c4_i32
  let c0_i32_27 : BitVec 32 := 0#32
  let v58 : BitVec 32 := Scalar.maxsi v57 c0_i32_27
  let c1_i32_28 : BitVec 32 := 1#32
  let v59 : BitVec 32 := Scalar.addi arg2 c1_i32_28
  let v60 : BitVec 32 := Scalar.subi v59 v58
  let c1_i32_29 : BitVec 32 := 1#32
  let v62 : BitVec 32 := Scalar.divsi v60 c1_i32_29
  let v63 : BitVec 32 := Scalar.muli v62 c1_i32_29
  let v64 : BitVec 32 := Scalar.addi v58 v63
  let c1_i32_31 : BitVec 32 := 1#32
  let arg12 : BitVec 32 := Scf.iv v64 c1_i32_31 k0_t4
  let v182 : Index := Scalar.indexCast arg12
  let c0_56 : Index := 0#32
  let c0_57 : Index := 0#32
  ![0, v182.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c33_i32 : BitVec 32 := 33#32
  let v1 : BitVec 32 := Scalar.addi c33_i32 v0
  let c0_i32 : BitVec 32 := 0#32
  let c0_i32_0 : BitVec 32 := 0#32
  ![arg0.toNat, c0_i32.toNat, v1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x64x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16x64x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x1x32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x4x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== SparseIdeal.lean ====
variable {F : FTy → Type} [FloatOps F] [Named F]
def κ : String → Option EReal := fun
  | "mask" => some ⊥
  | _ => none
-- ==== Proof.Formulas.lean ====
module

public import Idealize.ShloMosaic.Lib.Pipeline.ValueKit

/-! The layer's row formulas, as functions of plain rows of extended reals. -/

@[expose] public section

noncomputable section

open Idealize.ShloMosaic

namespace Cert.Layer

/-- A row of 1024 numbers divided by its root mean square and weighted by `g`. -/
def rms (a g : Fin 1024 → EReal) (k : Fin 1024) : EReal :=
  a k * Ideal.rsqrt (Ideal.div (∑ x, a x * a x) (Ideal.ofBits .f32 0x44800000#32) + Ideal.ofBits .f32 0x358637BD#32) * g k

/-- A row against one column of a matrix. -/
def dot {n : ℕ} (a w : Fin n → EReal) : EReal := ∑ x, a x * w x

/-- `z · σ(z)`. -/
def silu (z : EReal) : EReal := z * Ideal.div 1 (1 + Ideal.exp (-z))

end Cert.Layer
-- ==== Proof.FfnValue.lean ====
module

public import proofs.«01_k».proof.Proof.Gen.FfnIdeal.Frame
public import proofs.«01_k».proof.Proof.Gen.FfnIdeal.Value
public import proofs.«01_k».proof.Proof.Gen.FfnRefIdeal.Run
public import proofs.«01_k».proof.Proof.Formulas
public import proofs.«01_k».proof.Defs
public import proofs.«01_k».proof.Proof.Gen.FfnIdeal
public import proofs.«01_k».proof.Proof.Gen.FfnRefIdeal

/-! The feed-forward call: the kernel's result array is the reference's, entry by entry. The kernel adds the two
halves of the hidden axis one after the other; the reference contracts the whole axis at once. -/

@[expose] public section

set_option maxRecDepth 16384

noncomputable section

open Idealize.ShloMosaic Idealize.ShloMosaic.TcCoe Idealize.SL.Sem
open Idealize.ShloMosaic.Pipeline (Dat)

namespace Cert.Layer

/-- One gated hidden value of a normalised row. -/
def gated (a wg wu : Fin 1024 → EReal) : EReal := silu (dot a wg) * dot a wu

/-- The row after the feed-forward network is added to it. -/
def ffnRow (h g : Fin 1024 → EReal) (wg wu : Fin 1024 → Fin 2816 → EReal) (wd : Fin 2816 → Fin 1024 → EReal)
    (k : Fin 1024) : EReal :=
  h k + ∑ f, gated (rms h g) (fun x => wg x f) (fun x => wu x f) * wd f k

end Cert.Layer

namespace Cert.FfnIdeal.Layer

open Cert.FfnIdeal Cert.FfnIdeal.Gen Cert.Layer

variable (m : (ℓ : Loc nD τ sig) → Buf (Elt Ideal) ℓ)

/-- Where each window's block lies at grid point `t`. -/
theorem idx : ∀ t : Fin cfg0.N, win0_0.index t = ![t.val, 0] ∧ win0_1.index t = ![0, 0]
    ∧ win0_2.index t = ![0, 0] ∧ win0_3.index t = ![0, 0] ∧ win0_4.index t = ![0, 0]
    ∧ win0_5.index t = ![0, 0] ∧ win0_6.index t = ![t.val, 0] :=
  (by decide +kernel : ∀ t : Fin grid0.N, _)

/-- Entry `k` of the result, from the row `h` of the array and the weights. -/
def rowAt (h : Fin 1024 → EReal) (g : FVec Ideal S1x1024 .f32) (wg wu : FVec Ideal S1024x2816 .bf16)
    (wd : FVec Ideal S2816x1024 .bf16) (gf : FVec Ideal S1x1024 .f32) (k : Fin 1024) : EReal :=
  rms (ffnRow h (fun x => g (ix2 0 x)) (fun x f => wg (ix2 x f)) (fun x f => wu (ix2 x f))
    fun f x => wd (ix2 f x)) (fun x => gf (ix2 0 x)) k

/-- The layer's feed-forward result over whole arrays. -/
def G (X : FVec Ideal S16384x1024 .f32) (g : FVec Ideal S1x1024 .f32) (wg wu : FVec Ideal S1024x2816 .bf16)
    (wd : FVec Ideal S2816x1024 .bf16) (gf : FVec Ideal S1x1024 .f32) : FVec Ideal S16384x1024 .f32 := fun i =>
  rowAt (fun x => X (ix2 (i 0) x)) g wg wu wd gf (i 1)

theorem rowAt_congr {h h' : Fin 1024 → EReal} (g : FVec Ideal S1x1024 .f32) (wg wu : FVec Ideal S1024x2816 .bf16)
    (wd : FVec Ideal S2816x1024 .bf16) (gf : FVec Ideal S1x1024 .f32) {k k' : Fin 1024} (e : ∀ x, h x = h' x) (ek : k = k') :
    rowAt h g wg wu wd gf k = rowAt h' g wg wu wd gf k' := by
  rw [funext e, ek]

theorem ref_eq (m' : (ℓ : Loc Cert.FfnRefIdeal.nD Cert.FfnRefIdeal.τ Cert.FfnRefIdeal.sig) → Buf (Elt Ideal) ℓ)
    (c : Dev Cert.FfnRefIdeal.nD) :
    Cert.FfnRefIdeal.Value.res_main_v32 m' c = G (m' (c.tc.loc Cert.FfnRefIdeal.main_arg0)) (m' (c.tc.loc Cert.FfnRefIdeal.main_arg1))
      (m' (c.tc.loc Cert.FfnRefIdeal.main_arg2)) (m' (c.tc.loc Cert.FfnRefIdeal.main_arg3))
      (m' (c.tc.loc Cert.FfnRefIdeal.main_arg4)) (m' (c.tc.loc Cert.FfnRefIdeal.main_arg5)) := by
  funext i
  idx_vars i
  pointwise [Cert.FfnRefIdeal.Value.res_main_v32]
  rfl

/-- The payload the body stores at a block entry is the row formula over the blocks it reads. -/
theorem block_at (X : FVec Ideal S512x1024 .f32) (g : FVec Ideal S1x1024 .f32) (wg wu : FVec Ideal S1024x2816 .bf16)
    (wd : FVec Ideal S2816x1024 .bf16) (gf : FVec Ideal S1x1024 .f32) (r : Fin 512) (k : Fin 1024) :
    out0_6 (F := Ideal) X g wg wu wd gf (ix2 r k) = rowAt (fun x => X (ix2 r x)) g wg wu wd gf k := by
  unfold rowAt
  have h : ∀ k : Fin 1024, (X (ix2 r k) + ∑ x : Fin 1408, gated (rms (fun x => X (ix2 r x)) fun x => g (ix2 0 x)) (fun y => wg (ix2 y ⟨x.val, by omega⟩)) (fun y => wu (ix2 y ⟨x.val, by omega⟩)) * wd (ix2 ⟨x.val, by omega⟩ k))
    + ∑ x : Fin 1408, gated (rms (fun x => X (ix2 r x)) fun x => g (ix2 0 x)) (fun y => wg (ix2 y ⟨1408 + x.val, by omega⟩)) (fun y => wu (ix2 y ⟨1408 + x.val, by omega⟩)) * wd (ix2 ⟨1408 + x.val, by omega⟩ k)
    = ffnRow (fun x => X (ix2 r x)) (fun x => g (ix2 0 x)) (fun x f => wg (ix2 x f)) (fun x f => wu (ix2 x f)) (fun f x => wd (ix2 f x)) k := by
    intro k
    rw [ffnRow, Fin.sum_univ_two_halves 1408 1408 rfl, add_assoc]
  frame_out
  pointwise [k0_pay1, k0_pay2, k0_pay3, k0_pay4, k0_pay5]
  simp only [zero_sub]
  simp only [rms]
  simp only [← h]
  rfl

theorem final (c : Dev nD) : (dats m 0 c).arrAt 6 (cfgs 0).N = G (m (c.tc.loc main_arg0)) (m (c.tc.loc main_arg1))
      (m (c.tc.loc main_arg2)) (m (c.tc.loc main_arg3)) (m (c.tc.loc main_arg4)) (m (c.tc.loc main_arg5)) := by
  refine (dats m 0 c).arrAt_eq_of_covers 6 _ (by decide +kernel) fun t _ y => ?_
  blk_simp
  rw [after0_6]
  idx_vars y
  have e1 : iblk m c 1 t = m (c.tc.loc main_arg1) := by blk_ext! [iblk, V, idx t]
  have e2 : iblk m c 2 t = m (c.tc.loc main_arg2) := by blk_ext! [iblk, V, idx t]
  have e3 : iblk m c 3 t = m (c.tc.loc main_arg3) := by blk_ext! [iblk, V, idx t]
  have e4 : iblk m c 4 t = m (c.tc.loc main_arg4) := by blk_ext! [iblk, V, idx t]
  have e5 : iblk m c 5 t = m (c.tc.loc main_arg5) := by blk_ext! [iblk, V, idx t]
  rw [e1, e2, e3, e4, e5]
  refine (block_at _ _ _ _ _ _ y0 y1).trans ?_
  refine rowAt_congr _ _ _ _ _ (fun x => ?_) ?_
  · blk_ext [iblk, V, idx t]
  · exact Fin.ext (by blk_simp [idx t]; try simp)

end Cert.FfnIdeal.Layer

namespace Cert.Proof

theorem ffn_value : Cert.algebraic_FfnIdeal_FfnRefIdeal := by
  pair_intro
  · run_from Cert.FfnIdeal.Gen.run_main m g
  · run_from Cert.FfnRefIdeal.Value.run m' g'
    rw [Cert.FfnIdeal.Layer.final m c, Cert.FfnIdeal.Layer.ref_eq]

    simp only [hagree c]

end Cert.Proof
-- ==== Proof.InProjValue.lean ====
module

public import proofs.«01_k».proof.Defs
public import proofs.«01_k».proof.Proof.Gen.InProjIdeal
public import proofs.«01_k».proof.Proof.Gen.InProjIdeal.Frame
public import proofs.«01_k».proof.Proof.Gen.InProjRefIdeal
public import proofs.«01_k».proof.Proof.Gen.InProjRefIdeal.Run
public import proofs.«01_k».proof.Proof.Formulas

/-! The token-major input projection: the kernel writes seven tiles of 512 columns per block, the reference one product. -/

@[expose] public section

set_option maxRecDepth 16384

noncomputable section

open Idealize.ShloMosaic Idealize.ShloMosaic.TcCoe Idealize.SL.Sem
open Idealize.ShloMosaic.Pipeline (Dat)

namespace Cert.InProjIdeal.Layer

open Cert.InProjIdeal Cert.InProjIdeal.Gen Cert.Layer

variable (m : (ℓ : Loc nD τ sig) → Buf (Elt Ideal) ℓ)

/-- Where each window's block lies at grid point `t`. -/
theorem idx : ∀ t : Fin cfg0.N, win0_0.index t = ![t.val % 32, 0] ∧ win0_1.index t = ![0, 0]
    ∧ win0_2.index t = ![0, t.val / 32] ∧ win0_3.index t = ![t.val % 32, t.val / 32] :=
  (by decide +kernel : ∀ t : Fin grid0.N, _)

/-- The projection over whole arrays: a normalised row against a column of the weights. -/
def G (X : FVec Ideal S16384x1024 .f32) (g : FVec Ideal S1x1024 .f32) (w : FVec Ideal S1024x7168 .bf16) :
    FVec Ideal S16384x7168 .bf16 := fun i =>
  dot (rms (fun x => X (ix2 (i 0) x)) fun x => g (ix2 0 x)) fun x => w (ix2 x (i 1))

/-- What the body stores at a block entry, over the blocks it reads. -/
theorem block_at (X : FVec Ideal S512x1024 .f32) (g : FVec Ideal S1x1024 .f32) (w : FVec Ideal S1024x3584 .bf16)
    (y : S512x3584.Idx) :
    out0_3 (F := Ideal) X g w y = dot (rms (fun x => X (ix2 (y 0) x)) fun x => g (ix2 0 x)) fun x => w (ix2 x (y 1)) := by
  unfold dot rms
  unfold_out out0_3
  canon_tiles x h
  all_goals (open_payloads; pointwise; blk_point [])

theorem final (c : Dev nD) : (dats m 0 c).arrAt 3 (cfgs 0).N = G (m (c.tc.loc main_arg0)) (m (c.tc.loc main_arg1))
      (m (c.tc.loc main_arg2)) := by
  refine (dats m 0 c).arrAt_eq_of_covers 3 _ (by decide +kernel) fun t _ y => ?_
  blk_simp
  rw [after0_3]
  refine (block_at _ _ _ y).trans ?_
  unfold G dot rms
  beta_reduce
  blk_point [iblk, V, idx t]

end Cert.InProjIdeal.Layer

namespace Cert.Proof

theorem inproj_value : Cert.algebraic_InProjIdeal_InProjRefIdeal := by
  pair_intro
  · run_from Cert.InProjIdeal.Gen.run_main m g
  · run_from Cert.InProjRefIdeal.Value.run m' g'
    rw [Cert.InProjIdeal.Layer.final m c]
    funext i
    idx_vars i
    pointwise
    rfl

end Cert.Proof
-- ==== Proof.InProjTValue.lean ====
module

public import proofs.«01_k».proof.Defs
public import proofs.«01_k».proof.Proof.Gen.InProjTIdeal
public import proofs.«01_k».proof.Proof.Gen.InProjTIdeal.Frame
public import proofs.«01_k».proof.Proof.Gen.InProjTRefIdeal
public import proofs.«01_k».proof.Proof.Gen.InProjTRefIdeal.Run
public import proofs.«01_k».proof.Proof.Formulas

/-! The channel-major input projection: the kernel writes the transposed product in tiles of 128 tokens, split into a query and value part and a gate part. -/

@[expose] public section

set_option maxRecDepth 16384

noncomputable section

open Idealize.ShloMosaic Idealize.ShloMosaic.TcCoe Idealize.SL.Sem
open Idealize.ShloMosaic.Pipeline (Dat)

namespace Cert.InProjTIdeal.Layer

open Cert.InProjTIdeal Cert.InProjTIdeal.Gen Cert.Layer

variable (m : (ℓ : Loc nD τ sig) → Buf (Elt Ideal) ℓ)

/-- Where each window's block lies at grid point `t`. -/
theorem idx : ∀ t : Fin cfg0.N, win0_0.index t = ![t.val / 4, t.val % 4, 0] ∧ win0_1.index t = ![0, 0]
    ∧ win0_2.index t = ![0, 0] ∧ win0_3.index t = ![t.val / 4, t.val % 4, 0, 0]
    ∧ win0_4.index t = ![t.val / 4, t.val % 4, 0, 0] :=
  (by decide +kernel : ∀ t : Fin grid0.N, _)

/-- The query and value part: token `128 n + l` of batch `b`, against weight row `r`. -/
def Gqv (X : FVec Ideal S8x2048x1024 .f32) (g : FVec Ideal S1x1024 .f32) (w : FVec Ideal S1600x1024 .bf16) :
    FVec Ideal S8x16x1536x128 .bf16 := fun i =>
  dot (rms (fun x => X (ix3 (i 0) ⟨(i 1).val * 128 + (i 3).val, by idx_bounds i; omega⟩ x)) fun x => g (ix2 0 x))
    fun x => w (ix2 ⟨(i 2).val, by idx_bounds i; omega⟩ x)

/-- The gate part: the weight rows from 1536 on. -/
def Ggt (X : FVec Ideal S8x2048x1024 .f32) (g : FVec Ideal S1x1024 .f32) (w : FVec Ideal S1600x1024 .bf16) :
    FVec Ideal S8x16x64x128 .f32 := fun i =>
  dot (rms (fun x => X (ix3 (i 0) ⟨(i 1).val * 128 + (i 3).val, by idx_bounds i; omega⟩ x)) fun x => g (ix2 0 x))
    fun x => w (ix2 ⟨1536 + (i 2).val, by idx_bounds i; omega⟩ x)

/-- The product held before it is cut into tiles. -/
theorem prod_at (X : FVec Ideal S1x512x1024 .f32) (g : FVec Ideal S1x1024 .f32) (w : FVec Ideal S1600x1024 .bf16)
    (r : Fin 1600) (l : Fin 512) :
    k0_pay6 (F := Ideal) X g w (ix2 r l) = dot (rms (fun x => X (ix3 0 l x)) fun x => g (ix2 0 x)) fun x => w (ix2 r x) := by
  pointwise [k0_pay6]
  unfold dot rms
  exact Finset.sum_congr rfl fun x _ => mul_comm _ _

/-- What the body stores of the query and value part, over the blocks it reads. -/
theorem block0_at (X : FVec Ideal S1x512x1024 .f32) (g : FVec Ideal S1x1024 .f32) (w : FVec Ideal S1600x1024 .bf16)
    (y : S1x4x1536x128.Idx) :
    out0_3 (F := Ideal) X g w y = dot (rms (fun x => X (ix3 0 ⟨(y 1).val * 128 + (y 3).val, by idx_bounds y; omega⟩ x))
      fun x => g (ix2 0 x)) fun x => w (ix2 ⟨(y 2).val, by idx_bounds y; omega⟩ x) := by
  rw [← prod_at]
  unfold_out out0_3
  canon_tiles x h
  all_goals (open_payloads; pointwise; blk_ext)

/-- What the body stores of the gate part. -/
theorem block1_at (X : FVec Ideal S1x512x1024 .f32) (g : FVec Ideal S1x1024 .f32) (w : FVec Ideal S1600x1024 .bf16)
    (y : S1x4x64x128.Idx) :
    out0_4 (F := Ideal) X g w y = dot (rms (fun x => X (ix3 0 ⟨(y 1).val * 128 + (y 3).val, by idx_bounds y; omega⟩ x))
      fun x => g (ix2 0 x)) fun x => w (ix2 ⟨1536 + (y 2).val, by idx_bounds y; omega⟩ x) := by
  rw [← prod_at]
  unfold_out out0_4
  canon_tiles x h
  all_goals (open_payloads; pointwise; blk_ext)

theorem final0 (c : Dev nD) : (dats m 0 c).arrAt 3 (cfgs 0).N = Gqv (m (c.tc.loc main_arg0)) (m (c.tc.loc main_arg1))
      (m (c.tc.loc main_arg2)) := by
  refine (dats m 0 c).arrAt_eq_of_covers 3 _ (by decide +kernel) fun t _ y => ?_
  blk_simp
  rw [after0_3]
  refine (block0_at _ _ _ y).trans ?_
  unfold Gqv dot rms
  beta_reduce
  blk_point [iblk, V, idx t]

theorem final1 (c : Dev nD) : (dats m 0 c).arrAt 4 (cfgs 0).N = Ggt (m (c.tc.loc main_arg0)) (m (c.tc.loc main_arg1))
      (m (c.tc.loc main_arg2)) := by
  refine (dats m 0 c).arrAt_eq_of_covers 4 _ (by decide +kernel) fun t _ y => ?_
  blk_simp
  rw [after0_4]
  refine (block1_at _ _ _ y).trans ?_
  unfold Ggt dot rms
  beta_reduce
  blk_point [iblk, V, idx t]

end Cert.InProjTIdeal.Layer

namespace Cert.Proof

theorem inproj_t_value : Cert.algebraic_InProjTIdeal_InProjTRefIdeal := by
  pair_intro
  · run_from Cert.InProjTIdeal.Gen.run_main m g
  · run_from Cert.InProjTRefIdeal.Value.run m' g'
    · rw [Cert.InProjTIdeal.Layer.final0 m c]
      funext i
      idx_vars i
      pointwise
      rfl
    · rw [Cert.InProjTIdeal.Layer.final1 m c]
      funext i
      idx_vars i
      pointwise
      rfl

end Cert.Proof
-- ==== Proof.MergeValue.lean ====
module

public import proofs.«01_k».proof.Defs
public import proofs.«01_k».proof.Proof.Gen.MergeIdeal
public import proofs.«01_k».proof.Proof.Gen.MergeIdeal.Frame
public import proofs.«01_k».proof.Proof.Gen.MergeRefIdeal
public import proofs.«01_k».proof.Proof.Gen.MergeRefIdeal.Run
public import proofs.«01_k».proof.Proof.Formulas

/-! The gated merge of the two mixers, block by block of 512 tokens. -/

@[expose] public section

set_option maxRecDepth 16384

noncomputable section

open Idealize.ShloMosaic Idealize.ShloMosaic.TcCoe Idealize.SL.Sem
open Idealize.ShloMosaic.Pipeline (Dat)

namespace Cert.MergeIdeal.Layer

open Cert.MergeIdeal Cert.MergeIdeal.Gen Cert.Layer

variable (m : (ℓ : Loc nD τ sig) → Buf (Elt Ideal) ℓ)

/-- Where each window's block lies at grid point `t`. -/
theorem idx : ∀ t : Fin cfg0.N, win0_0.index t = ![t.val, 0] ∧ win0_1.index t = ![t.val, 0]
    ∧ win0_2.index t = ![t.val, 0] ∧ win0_3.index t = ![t.val, 5] ∧ win0_4.index t = ![t.val, 6]
    ∧ win0_5.index t = ![0, 0] ∧ win0_6.index t = ![0, 0] ∧ win0_7.index t = ![0, 0] ∧ win0_8.index t = ![t.val, 0] :=
  (by decide +kernel : ∀ t : Fin grid0.N, _)

/-- One merged value before the output product. -/
def mixed (yr ya wr wa : Fin 1024 → EReal) (zr za : EReal) : EReal :=
  Ideal.div 1 (1 + Ideal.exp (-zr)) * dot yr wr + Ideal.div 1 (1 + Ideal.exp (-za)) * dot ya wa

/-- The merge over whole arrays. -/
def G (X : FVec Ideal S16384x1024 .f32) (yr ya : FVec Ideal S16384x1024 .bf16) (pr : FVec Ideal S16384x7168 .bf16)
    (wr wa wo : FVec Ideal S1024x1024 .bf16) : FVec Ideal S16384x1024 .f32 := fun i =>
  X (ix2 (i 0) (i 1)) + ∑ k : Fin 1024, mixed (fun x => yr (ix2 (i 0) x)) (fun x => ya (ix2 (i 0) x)) (fun x => wr (ix2 x k))
    (fun x => wa (ix2 x k)) (pr (ix2 (i 0) ⟨5120 + k.val, by omega⟩)) (pr (ix2 (i 0) ⟨6144 + k.val, by omega⟩)) * wo (ix2 k (i 1))

theorem final (c : Dev nD) : (dats m 0 c).arrAt 8 (cfgs 0).N = G (m (c.tc.loc main_arg0)) (m (c.tc.loc main_arg1))
      (m (c.tc.loc main_arg2)) (m (c.tc.loc main_arg3)) (m (c.tc.loc main_arg4)) (m (c.tc.loc main_arg5)) (m (c.tc.loc main_arg6)) := by
  refine (dats m 0 c).arrAt_eq_of_covers 8 _ (by decide +kernel) fun t _ y => ?_
  blk_simp
  rw [after0_8]; frame_out
  pointwise [k0_pay1]
  simp only [zero_sub]
  unfold G mixed dot
  beta_reduce
  blk_point [iblk, V, idx t]

end Cert.MergeIdeal.Layer

namespace Cert.Proof

theorem merge_value : Cert.algebraic_MergeIdeal_MergeRefIdeal := by
  pair_intro
  · run_from Cert.MergeIdeal.Gen.run_main m g
  · run_from Cert.MergeRefIdeal.Value.run m' g'
    rw [Cert.MergeIdeal.Layer.final m c]
    funext i
    idx_vars i
    pointwise
    rfl

end Cert.Proof
-- ==== Proof.XattnValue.lean ====
module

public import proofs.«01_k».proof.Defs
public import proofs.«01_k».proof.Proof.Gen.XattnIdeal
public import proofs.«01_k».proof.Proof.Gen.XattnIdeal.Frame
public import proofs.«01_k».proof.Proof.Gen.XattnRefIdeal
public import proofs.«01_k».proof.Proof.Gen.XattnRefIdeal.Run
public import proofs.«01_k».proof.Proof.Gen.XattnRefIdeal.Read
public import proofs.«01_k».proof.Proof.Formulas

/-! Cross-attention into the memory tokens: softmax over 256 memory tokens, four heads side by side. -/

@[expose] public section

set_option maxRecDepth 16384

noncomputable section

open Idealize.ShloMosaic Idealize.ShloMosaic.TcCoe Idealize.SL.Sem
open Idealize.ShloMosaic.Pipeline (Dat)

namespace Cert.XattnIdeal.Layer

open Cert.XattnIdeal Cert.XattnIdeal.Gen Cert.Layer

variable (m : (ℓ : Loc nD τ sig) → Buf (Elt Ideal) ℓ)

/-- Where each window's block lies at grid point `t`. -/
theorem idx : ∀ t : Fin cfg0.N, win0_0.index t = ![t.val / 4, t.val % 4, 0] ∧ win0_1.index t = ![0, 0]
    ∧ win0_2.index t = ![0, 0] ∧ win0_3.index t = ![t.val / 4, 0, 0] ∧ win0_4.index t = ![t.val / 4, 0, 0]
    ∧ win0_5.index t = ![0, 0] ∧ win0_6.index t = ![t.val / 4, t.val % 4, 0] :=
  (by decide +kernel : ∀ t : Fin grid0.N, _)

/-- One score of a query against memory token `n`. -/
def score (q : Fin 128 → EReal) (K : Fin 128 → Fin 256 → EReal) (n : Fin 256) : EReal := ∑ e, q e * K e n

/-- The largest score. -/
def top (q : Fin 128 → EReal) (K : Fin 128 → Fin 256 → EReal) : EReal :=
  Finset.univ.fold max (Ideal.ofBits .f32 0xFF800000#32) fun n => score q K n

/-- One entry of a head's result: the softmax weights against a column of values. -/
def headOut (q : Fin 128 → EReal) (K : Fin 128 → Fin 256 → EReal) (v : Fin 256 → EReal) : EReal :=
  ∑ n, Ideal.div (Ideal.exp (score q K n - top q K)) (∑ l, Ideal.exp (score q K l - top q K)) * v n

/-- The scale of the scores: the inverse of the root of the head width. -/
def scale : EReal := (((Real.sqrt 128)⁻¹ : ℝ) : EReal)

/-- The kernel's named constant is the scale. -/
theorem named_scale : Named.named (F := Ideal) Cert.XattnIdeal.κ "scale" (φ := .f32) 0x3DB504F3#32 = scale :=
  IdealRules.named_const.ideal_named_scalar _ _ _ _ rfl

/-- The head width. -/
theorem width : Ideal.ofBits .f32 0x43000000#32 = ((128 : ℝ) : EReal) := by
  simp [Ideal.ofBits, Ideal.ieee, -EReal.coe_mul]; norm_num

/-- A quotient by the root of the head width is a product with the scale. -/
theorem div_width (x : EReal) : Ideal.div x (Ideal.sqrt (Ideal.ofBits .f32 0x43000000#32)) = x * scale := by
  have h : Real.sqrt 128 ≠ 0 := (Real.sqrt_pos.mpr (by norm_num)).ne'
  rw [width, Ideal.sqrt_coe, if_neg (by norm_num), Ideal.div_coe h, one_div]
  rfl

/-- The scaled query entry `j` of a token. -/
def query (h g : Fin 1024 → EReal) (wq : FVec Ideal S1024x512 .bf16) (j : Fin 512) : EReal :=
  dot (rms h g) (fun x => wq (ix2 x j)) * scale

/-- Entry `j` of the attention result of a token: head `j / 128`. -/
def attn (q : Fin 512 → EReal) (K : Fin 512 → Fin 256 → EReal) (v : Fin 256 → Fin 512 → EReal) (j : Fin 512) : EReal :=
  headOut (fun e => q ⟨j.val / 128 * 128 + e.val, by omega⟩) (fun e => K ⟨j.val / 128 * 128 + e.val, by omega⟩) fun n => v n j

/-- Entry `k` of a token's result. -/
def row (h g : Fin 1024 → EReal) (wq : FVec Ideal S1024x512 .bf16) (K : Fin 512 → Fin 256 → EReal)
    (v : Fin 256 → Fin 512 → EReal) (wo : FVec Ideal S512x1024 .bf16) (k : Fin 1024) : EReal :=
  h k + ∑ j, attn (query h g wq) K v j * wo (ix2 j k)

/-- The result over whole arrays. -/
def G (X : FVec Ideal S8x2048x1024 .f32) (g : FVec Ideal S1x1024 .f32) (wq : FVec Ideal S1024x512 .bf16)
    (K : FVec Ideal S8x512x256 .bf16) (v : FVec Ideal S8x256x512 .bf16) (wo : FVec Ideal S512x1024 .bf16) :
    FVec Ideal S8x2048x1024 .f32 := fun i =>
  row (fun x => X (ix3 (i 0) (i 1) x)) (fun x => g (ix2 0 x)) wq (fun e n => K (ix3 (i 0) e n)) (fun n e => v (ix3 (i 0) n e)) wo (i 2)

theorem query_at (X : FVec Ideal S1x512x1024 .f32) (g : FVec Ideal S1x1024 .f32) (wq : FVec Ideal S1024x512 .bf16)
    (r : Fin 512) (j : Fin 512) :
    k0_pay3 (F := Ideal) X g wq (ix2 r j) = query (fun x => X (ix3 0 r x)) (fun x => g (ix2 0 x)) wq j := by
  pointwise [k0_pay3, k0_pay2, named_scale]
  rfl

theorem head0 (X : FVec Ideal S1x512x1024 .f32) (g : FVec Ideal S1x1024 .f32) (wq : FVec Ideal S1024x512 .bf16)
    (K : FVec Ideal S1x128x256 .bf16) (v : FVec Ideal S1x256x128 .bf16) (r : Fin 512) (d : Fin 128) :
    k0_pay6 (F := Ideal) (k0_pay4 X g wq K) (k0_pay5 v) (ix2 r d) =
      headOut (fun e => k0_pay3 (F := Ideal) X g wq (ix2 r ⟨e.val, by omega⟩)) (fun e n => K (ix3 0 e n)) fun n => v (ix3 0 n d) := by
  pointwise [k0_pay6, k0_pay4, k0_pay5]
  rfl

theorem head1 (q : FVec Ideal S512x512 .bf16) (K : FVec Ideal S1x128x256 .bf16) (v : FVec Ideal S1x256x128 .bf16)
    (r : Fin 512) (d : Fin 128) :
    k0_pay7 (F := Ideal) q K v (ix2 r d) =
      headOut (fun e => q (ix2 r ⟨128 + e.val, by omega⟩)) (fun e n => K (ix3 0 e n)) fun n => v (ix3 0 n d) := by
  pointwise [k0_pay7]
  rfl

theorem head2 (q : FVec Ideal S512x512 .bf16) (K : FVec Ideal S1x128x256 .bf16) (v : FVec Ideal S1x256x128 .bf16)
    (r : Fin 512) (d : Fin 128) :
    k0_pay8 (F := Ideal) q K v (ix2 r d) =
      headOut (fun e => q (ix2 r ⟨256 + e.val, by omega⟩)) (fun e n => K (ix3 0 e n)) fun n => v (ix3 0 n d) := by
  pointwise [k0_pay8]
  rfl

/-- The last head, the output product and the sum with the token's own row. -/
theorem out_at (h : FVec Ideal S512x1024 .f32) (a0 a1 a2 : FVec Ideal S512x128 .f32) (q : FVec Ideal S512x512 .bf16)
    (K : FVec Ideal S1x128x256 .bf16) (v : FVec Ideal S1x256x128 .bf16) (wo : FVec Ideal S512x1024 .bf16) (r : Fin 512) (k : Fin 1024) :
    k0_pay1 (F := Ideal) h a0 a1 a2 (k0_pay9 q) K v wo (ix3 0 r k) = h (ix2 r k) +
      ((∑ d : Fin 128, a0 (ix2 r d) * wo (ix2 ⟨d.val, by omega⟩ k)) +
      ((∑ d : Fin 128, a1 (ix2 r d) * wo (ix2 ⟨128 + d.val, by omega⟩ k)) +
      ((∑ d : Fin 128, a2 (ix2 r d) * wo (ix2 ⟨128 + (128 + d.val), by omega⟩ k)) +
       ∑ d : Fin 128, headOut (fun e => q (ix2 r ⟨384 + e.val, by omega⟩)) (fun e n => K (ix3 0 e n)) (fun n => v (ix3 0 n d)) *
          wo (ix2 ⟨128 + (128 + (128 + d.val)), by omega⟩ k)))) := by
  pointwise [k0_pay1, k0_pay9, sumSplitAll]
  rfl

/-- A sum over the 512 entries, head by head. -/
theorem sum_heads (f : Fin 512 → EReal) : ∑ j, f j = (∑ d : Fin 128, f ⟨d.val, by omega⟩) +
    ((∑ d : Fin 128, f ⟨128 + d.val, by omega⟩) + ((∑ d : Fin 128, f ⟨128 + (128 + d.val), by omega⟩) +
      ∑ d : Fin 128, f ⟨128 + (128 + (128 + d.val)), by omega⟩)) := by
  rw [Fin.sum_univ_two_halves 128 384 rfl, Fin.sum_univ_two_halves 128 256 rfl, Fin.sum_univ_two_halves 128 128 rfl]

/-- Entry `j` of the attention result, with the head's first coordinate named. -/
theorem attn_head (q : Fin 512 → EReal) (K : Fin 512 → Fin 256 → EReal) (v : Fin 256 → Fin 512 → EReal) (j : Fin 512)
    (o : ℕ) (ho : o ≤ 384) (h : j.val / 128 * 128 = o) : attn q K v j =
      headOut (fun e => q ⟨o + e.val, by omega⟩) (fun e => K ⟨o + e.val, by omega⟩) fun n => v n j := by
  subst h; rfl

/-- A token's result, head by head. -/
theorem row_heads (h g : Fin 1024 → EReal) (wq : FVec Ideal S1024x512 .bf16) (K : Fin 512 → Fin 256 → EReal)
    (v : Fin 256 → Fin 512 → EReal) (wo : FVec Ideal S512x1024 .bf16) (k : Fin 1024) : row h g wq K v wo k = h k +
      ((∑ d : Fin 128, headOut (fun e => query h g wq ⟨e.val, by omega⟩) (fun e => K ⟨e.val, by omega⟩)
          (fun n => v n ⟨d.val, by omega⟩) * wo (ix2 ⟨d.val, by omega⟩ k)) +
      ((∑ d : Fin 128, headOut (fun e => query h g wq ⟨128 + e.val, by omega⟩) (fun e => K ⟨128 + e.val, by omega⟩)
          (fun n => v n ⟨128 + d.val, by omega⟩) * wo (ix2 ⟨128 + d.val, by omega⟩ k)) +
      ((∑ d : Fin 128, headOut (fun e => query h g wq ⟨256 + e.val, by omega⟩) (fun e => K ⟨256 + e.val, by omega⟩)
          (fun n => v n ⟨128 + (128 + d.val), by omega⟩) * wo (ix2 ⟨128 + (128 + d.val), by omega⟩ k)) +
       ∑ d : Fin 128, headOut (fun e => query h g wq ⟨384 + e.val, by omega⟩) (fun e => K ⟨384 + e.val, by omega⟩)
          (fun n => v n ⟨128 + (128 + (128 + d.val)), by omega⟩) * wo (ix2 ⟨128 + (128 + (128 + d.val)), by omega⟩ k)))) := by
  unfold row
  rw [sum_heads]
  refine congrArg (_ + ·) (congrArg₂ (· + ·) (Finset.sum_congr rfl fun d _ => congrArg (· * _) ?_)
    (congrArg₂ (· + ·) (Finset.sum_congr rfl fun d _ => congrArg (· * _) ?_)
      (congrArg₂ (· + ·) (Finset.sum_congr rfl fun d _ => congrArg (· * _) ?_)
        (Finset.sum_congr rfl fun d _ => congrArg (· * _) ?_))))
  · rw [attn_head _ _ _ _ 0 (by omega) (by simp only; omega)]
    simp only [Nat.zero_add]
  · rw [attn_head _ _ _ _ 128 (by omega) (by simp only; omega)]
  · rw [attn_head _ _ _ _ 256 (by omega) (by simp only; omega)]
  · rw [attn_head _ _ _ _ 384 (by omega) (by simp only; omega)]

/-- The queries the later heads read are the same array. -/
theorem same_query (X : FVec Ideal S1x512x1024 .f32) (g : FVec Ideal S1x1024 .f32) (wq : FVec Ideal S1024x512 .bf16)
    (K : FVec Ideal S1x512x256 .bf16) (v : FVec Ideal S1x256x512 .bf16) (wo : FVec Ideal S512x1024 .bf16) :
    k0_pay10 (F := Ideal) X g wq K v wo = k0_pay3 (F := Ideal) X g wq := by
  unfold k0_pay10
  refine congr (congr (congrArg (k0_pay3 (F := Ideal)) ?_) ?_) ?_
  · exact View.ld_unit_zero (S := S1x512x1024) (off := ![0, 0, 0]) (by decide) _ _
  · exact View.ld_unit_zero (S := S1x1024) (off := ![0, 0]) (by decide) _ _
  · exact View.ld_unit_zero (S := S1024x512) (off := ![0, 0]) (by decide) _ _

theorem token_at (X : FVec Ideal S1x512x1024 .f32) (r : Fin 512) (k : Fin 1024) :
    k0_pay2 (F := Ideal) X (ix2 r k) = X (ix3 0 r k) := by
  pointwise [k0_pay2]

theorem final (c : Dev nD) : (dats m 0 c).arrAt 6 (cfgs 0).N =
    G (m (c.tc.loc main_arg0)) (m (c.tc.loc main_arg1)) (m (c.tc.loc main_arg2)) (m (c.tc.loc main_arg3))
      (m (c.tc.loc main_arg4)) (m (c.tc.loc main_arg5)) := by
  refine (dats m 0 c).arrAt_eq_of_covers 6 _ (by decide +kernel) fun t _ y => ?_
  blk_simp
  have e1 : iblk m c 1 t = m (c.tc.loc main_arg1) := by blk_ext! [iblk, V, idx t]
  have e2 : iblk m c 2 t = m (c.tc.loc main_arg2) := by blk_ext! [iblk, V, idx t]
  have e5 : iblk m c 5 t = m (c.tc.loc main_arg5) := by blk_ext! [iblk, V, idx t]
  rw [after0_6, e1, e2, e5]
  idx_vars y
  obtain rfl : y0 = 0 := Subsingleton.elim _ _
  frame_out
  rw [out_at]
  simp only [same_query, head0, head1, head2, query_at, token_at]
  generalize hi : ((View.whole main_v0).slice (win0_6.rect t)).emb (ix3 0 y1 y2) = i
  change S8x2048x1024.Idx at i
  refine Eq.trans ?_ (row_heads _ _ _ _ _ _ _).symm
  have i2 : i 2 = y2 := by subst hi; exact Fin.ext (by blk_simp [idx t]; try simp)
  have hx : ∀ x, iblk m c 0 t (ix3 0 y1 x) = m (c.tc.loc main_arg0) (ix3 (i 0) (i 1) x) := by
    subst hi; intro x; blk_ext [iblk, V, idx t]
  have k0 : ∀ e n, View.ld (iblk m c 3 t) r0_3 (ix3 0 e n) = m (c.tc.loc main_arg3) (ix3 (i 0) ⟨e.val, by omega⟩ n) := by
    subst hi; intro e n; blk_point [iblk, V, idx t]
  have k1 : ∀ e n, View.ld (iblk m c 3 t) r0_5 (ix3 0 e n) = m (c.tc.loc main_arg3) (ix3 (i 0) ⟨128 + e.val, by omega⟩ n) := by
    subst hi; intro e n; blk_point [iblk, V, idx t]
  have k2 : ∀ e n, View.ld (iblk m c 3 t) r0_7 (ix3 0 e n) = m (c.tc.loc main_arg3) (ix3 (i 0) ⟨256 + e.val, by omega⟩ n) := by
    subst hi; intro e n; blk_point [iblk, V, idx t]
  have k3 : ∀ e n, View.ld (iblk m c 3 t) r0_9 (ix3 0 e n) = m (c.tc.loc main_arg3) (ix3 (i 0) ⟨384 + e.val, by omega⟩ n) := by
    subst hi; intro e n; blk_point [iblk, V, idx t]
  have v0 : ∀ n d, View.ld (iblk m c 4 t) r0_4 (ix3 0 n d) = m (c.tc.loc main_arg4) (ix3 (i 0) n ⟨d.val, by omega⟩) := by
    subst hi; intro n d; blk_point [iblk, V, idx t]
  have v1 : ∀ n d, View.ld (iblk m c 4 t) r0_6 (ix3 0 n d) = m (c.tc.loc main_arg4) (ix3 (i 0) n ⟨128 + d.val, by omega⟩) := by
    subst hi; intro n d; blk_point [iblk, V, idx t]
  have v2 : ∀ n d, View.ld (iblk m c 4 t) r0_8 (ix3 0 n d) =
      m (c.tc.loc main_arg4) (ix3 (i 0) n ⟨128 + (128 + d.val), by omega⟩) := by
    subst hi; intro n d; blk_point [iblk, V, idx t]
  have v3 : ∀ n d, View.ld (iblk m c 4 t) r0_10 (ix3 0 n d) =
      m (c.tc.loc main_arg4) (ix3 (i 0) n ⟨128 + (128 + (128 + d.val)), by omega⟩) := by
    subst hi; intro n d; blk_point [iblk, V, idx t]
  simp only [hx, k0, k1, k2, k3, v0, v1, v2, v3, i2]

end Cert.XattnIdeal.Layer

namespace Cert.XattnRefIdeal.Layer

open Cert.XattnRefIdeal Cert.XattnRefIdeal.Read Cert.XattnIdeal.Layer Cert.Layer

variable (x0 : FVec Ideal S8x2048x1024 .f32) (x1 : FVec Ideal S1x1024 .f32) (x2 : FVec Ideal S1024x512 .bf16)
    (x3 : FVec Ideal S8x512x256 .bf16) (x4 : FVec Ideal S8x256x512 .bf16) (x5 : FVec Ideal S512x1024 .bf16)

/-- The scaled queries. -/
theorem q_at (b : Fin 8) (t : Fin 2048) (h : Fin 4) (e : Fin 128) : val_main_v18 (F := Ideal) x0 x1 x2 (ix4 b t h e) =
    query (fun x => x0 (ix3 b t x)) (fun x => x1 (ix2 0 x)) x2 ⟨h.val * 128 + e.val, by omega⟩ := by
  pointwise [val_main_v0, val_main_cst, val_main_v1, val_main_v2, val_main_cst_0, val_main_v3, val_main_v4, val_main_cst_1,
    val_main_v5, val_main_v6, val_main_v7, val_main_v8, val_main_v9, val_main_v10, val_main_v11, val_main_v12, val_main_v13,
    val_main_v14, val_main_v15, val_main_cst_2, val_main_v16, val_main_v17, val_main_v18]
  rw [div_width]
  rfl

/-- The scores. -/
theorem s_at (b : Fin 8) (h : Fin 4) (t : Fin 2048) (n : Fin 256) : val_main_v23 (F := Ideal) x0 x1 x2 x3 (ix4 b h t n) =
    score (fun e => val_main_v18 (F := Ideal) x0 x1 x2 (ix4 b t h e)) (fun e n => x3 (ix3 b ⟨h.val * 128 + e.val, by omega⟩ n)) n := by
  unfold val_main_v23 val_main_v20 val_main_v19
  generalize val_main_v18 (F := Ideal) x0 x1 x2 = q
  pointwise
  rfl

/-- One softmax weight. -/
theorem p_at (b : Fin 8) (h : Fin 4) (t : Fin 2048) (n : Fin 256) : val_main_v32 (F := Ideal) x0 x1 x2 x3 (ix4 b h t n) =
    Ideal.div (Ideal.exp (val_main_v23 (F := Ideal) x0 x1 x2 x3 (ix4 b h t n) -
        Finset.univ.fold max (Ideal.ofBits .f32 0xFF800000#32) fun l => val_main_v23 (F := Ideal) x0 x1 x2 x3 (ix4 b h t l)))
      (∑ k : Fin 256, Ideal.exp (val_main_v23 (F := Ideal) x0 x1 x2 x3 (ix4 b h t k) -
        Finset.univ.fold max (Ideal.ofBits .f32 0xFF800000#32) fun l => val_main_v23 (F := Ideal) x0 x1 x2 x3 (ix4 b h t l))) := by
  unfold val_main_v32 val_main_v31 val_main_v30 val_main_v29 val_main_v28 val_main_v27 val_main_v26 val_main_v25 val_main_v24
  generalize val_main_v23 (F := Ideal) x0 x1 x2 x3 = s
  pointwise [val_main_cst_3, val_main_cst_4]

/-- The whole result. -/
theorem ref_eq : val_main_v38 (F := Ideal) x0 x1 x2 x3 x4 x5 = G x0 x1 x2 x3 x4 x5 := by
  funext i
  idx_vars i
  unfold val_main_v38 val_main_v37 val_main_v36 val_main_v35 val_main_v34 val_main_v33 val_main_v22 val_main_v21
  generalize hp : val_main_v32 (F := Ideal) x0 x1 x2 x3 = p
  pointwise
  subst hp
  unfold G row attn headOut top
  simp only [p_at, s_at, q_at]
  exact congrArg (_ + ·) (Finset.sum_congr rfl fun j _ => congrArg (· * _) (Finset.sum_congr rfl fun n _ => mul_comm _ _))

end Cert.XattnRefIdeal.Layer

namespace Cert.Proof

theorem xattn_value : Cert.algebraic_XattnIdeal_XattnRefIdeal := by
  pair_intro
  · run_from Cert.XattnIdeal.Gen.run_main m g
  · run_from Cert.XattnRefIdeal.Value.run m' g'
    rw [Cert.XattnIdeal.Layer.final m c, Cert.XattnRefIdeal.Read.val_main_v38_eq, Cert.XattnRefIdeal.Layer.ref_eq]
    simp only [hagree c]

end Cert.Proof
-- ==== Proof.MemKvValue.lean ====
module

public import proofs.«01_k».proof.Defs
public import proofs.«01_k».proof.Proof.Gen.MemKvIdeal
public import proofs.«01_k».proof.Proof.Gen.MemKvIdeal.Frame
public import proofs.«01_k».proof.Proof.Gen.MemKvRefIdeal
public import proofs.«01_k».proof.Proof.Gen.MemKvRefIdeal.Run
public import proofs.«01_k».proof.Proof.Formulas

/-! Keys and values of the memory tokens: the keys are stored transposed. -/

@[expose] public section

set_option maxRecDepth 16384

noncomputable section

open Idealize.ShloMosaic Idealize.ShloMosaic.TcCoe Idealize.SL.Sem
open Idealize.ShloMosaic.Pipeline (Dat)

namespace Cert.MemKvIdeal.Layer

open Cert.MemKvIdeal Cert.MemKvIdeal.Gen Cert.Layer

variable (m : (ℓ : Loc nD τ sig) → Buf (Elt Ideal) ℓ)

/-- Where each window's block lies at grid point `t`. -/
theorem idx : ∀ t : Fin cfg0.N, win0_0.index t = ![t.val, 0, 0] ∧ win0_1.index t = ![0, 0]
    ∧ win0_2.index t = ![0, 0] ∧ win0_3.index t = ![0, 0] ∧ win0_4.index t = ![t.val, 0, 0]
    ∧ win0_5.index t = ![t.val, 0, 0] :=
  (by decide +kernel : ∀ t : Fin grid0.N, _)

/-- The transposed keys over whole arrays. -/
def Gk (X : FVec Ideal S8x256x1024 .f32) (g : FVec Ideal S1x1024 .f32) (wk : FVec Ideal S512x1024 .bf16) :
    FVec Ideal S8x512x256 .bf16 := fun i =>
  dot (rms (fun x => X (ix3 (i 0) (i 2) x)) fun x => g (ix2 0 x)) fun x => wk (ix2 (i 1) x)

/-- The values over whole arrays. -/
def Gv (X : FVec Ideal S8x256x1024 .f32) (g : FVec Ideal S1x1024 .f32) (wv : FVec Ideal S1024x512 .bf16) :
    FVec Ideal S8x256x512 .bf16 := fun i =>
  dot (rms (fun x => X (ix3 (i 0) (i 1) x)) fun x => g (ix2 0 x)) fun x => wv (ix2 x (i 2))

theorem final0 (c : Dev nD) : (dats m 0 c).arrAt 4 (cfgs 0).N = Gk (m (c.tc.loc main_arg0)) (m (c.tc.loc main_arg1))
      (m (c.tc.loc main_arg2)) := by
  refine (dats m 0 c).arrAt_eq_of_covers 4 _ (by decide +kernel) fun t _ y => ?_
  blk_simp
  rw [after0_4]; frame_out
  pointwise [k0_pay1, k0_pay2]
  unfold Gk dot rms
  beta_reduce
  blk_point [iblk, V, idx t]

theorem final1 (c : Dev nD) : (dats m 0 c).arrAt 5 (cfgs 0).N = Gv (m (c.tc.loc main_arg0)) (m (c.tc.loc main_arg1))
      (m (c.tc.loc main_arg3)) := by
  refine (dats m 0 c).arrAt_eq_of_covers 5 _ (by decide +kernel) fun t _ y => ?_
  blk_simp
  rw [after0_5]; frame_out
  pointwise [k0_pay1, k0_pay3]
  unfold Gv dot rms
  beta_reduce
  blk_point [iblk, V, idx t]

end Cert.MemKvIdeal.Layer

namespace Cert.Proof

theorem memkv_value : Cert.algebraic_MemKvIdeal_MemKvRefIdeal := by
  pair_intro
  · run_from Cert.MemKvIdeal.Gen.run_main m g
  · run_from Cert.MemKvRefIdeal.Value.run m' g'
    · rw [Cert.MemKvIdeal.Layer.final0 m c]
      funext i
      idx_vars i
      pointwise
      rfl
    · rw [Cert.MemKvIdeal.Layer.final1 m c]
      funext i
      idx_vars i
      pointwise
      rfl

end Cert.Proof
-- ==== Proof.HgrnFormulas.lean ====
module

public import proofs.«01_k».proof.Proof.Formulas

/-! The gated linear recurrence of one head, chunk by chunk, as functions of plain rows of extended reals. -/

@[expose] public section

noncomputable section

open Idealize.ShloMosaic

namespace Cert.Layer

/-- The rows of a chunk of one head: 64 tokens of 128 channels. -/
abbrev Rows := Fin 64 → Fin 128 → EReal

/-- The forget gate: between its lower bound `b` and 1. -/
def gate (b z : EReal) : EReal := b + (1 - b) * Ideal.div 1 (1 + Ideal.exp (-z))

/-- The logarithm of the product of a channel's gates from the chunk's first token to token `c`. -/
def decayed (lb : Fin 128 → EReal) (f : Rows) (c : Fin 64) (d : Fin 128) : EReal :=
  ∑ s : Fin 64, if s ≤ c then Ideal.log (gate (lb d) (f s d)) else 0

/-- The query, decayed from the chunk's start. -/
def qDec (lb : Fin 128 → EReal) (q f : Rows) (c : Fin 64) (d : Fin 128) : EReal :=
  silu (q c d) * Ideal.exp (decayed lb f c d)

/-- The key, with the decay taken back to the chunk's start. -/
def kDec (lb : Fin 128 → EReal) (f : Rows) (s : Fin 64) (d : Fin 128) : EReal :=
  (1 - gate (lb d) (f s d)) * Ideal.exp (-decayed lb f s d)

/-- The key, decayed to the chunk's end. -/
def kEnd (lb : Fin 128 → EReal) (f : Rows) (s : Fin 64) (d : Fin 128) : EReal :=
  (1 - gate (lb d) (f s d)) * Ideal.exp (decayed lb f 63 d - decayed lb f s d)

/-- The state after a chunk, of the state before it. -/
def stepState (lb : Fin 128 → EReal) (f v : Rows) (S : Fin 128 → Fin 128 → EReal) (k e : Fin 128) : EReal :=
  Ideal.exp (decayed lb f 63 k) * S k e + ∑ s : Fin 64, kEnd lb f s k * v s e

/-- What a chunk's token reads: the tokens of its chunk up to itself, and the state before the chunk. -/
def readOut (lb : Fin 128 → EReal) (q f v : Rows) (S : Fin 128 → Fin 128 → EReal) (c : Fin 64) (e : Fin 128) : EReal :=
  (∑ s : Fin 64, (if s ≤ c then ∑ k, qDec lb q f c k * kDec lb f s k else 0) * v s e) + ∑ k, qDec lb q f c k * S k e

/-- The head's result: normalized, weighted and gated. -/
def headRow (lb gn : Fin 128 → EReal) (q f v g : Rows) (S : Fin 128 → Fin 128 → EReal) (c : Fin 64) (e : Fin 128) : EReal :=
  readOut lb q f v S c e * Ideal.rsqrt (Ideal.div (∑ x, readOut lb q f v S c x * readOut lb q f v S c x)
    (Ideal.ofBits .f32 0x43000000#32) + Ideal.ofBits .f32 0x358637BD#32) * gn e * silu (g c e)

/-- Chunk `n` of part `j` (query, gate, value, output gate) of a head's 512 columns. -/
def part (P : Fin 2048 → Fin 512 → EReal) (j : Fin 4) (n : ℕ) : Rows := fun s d =>
  P ⟨(n * 64 + s.val) % 2048, Nat.mod_lt _ (by decide)⟩ ⟨j.val * 128 + d.val, by omega⟩

/-- The state before chunk `n`. -/
def stateAt (lb : Fin 128 → EReal) (P : Fin 2048 → Fin 512 → EReal) : ℕ → Fin 128 → Fin 128 → EReal
  | 0 => fun _ _ => 0
  | n + 1 => stepState lb (part P 1 n) (part P 2 n) (stateAt lb P n)

/-- A head's result at token `r`, channel `e`. -/
def hgrn (lb gn : Fin 128 → EReal) (P : Fin 2048 → Fin 512 → EReal) (r : Fin 2048) (e : Fin 128) : EReal :=
  headRow lb gn (part P 0 (r.val / 64)) (part P 1 (r.val / 64)) (part P 2 (r.val / 64)) (part P 3 (r.val / 64))
    (stateAt lb P (r.val / 64)) ⟨r.val % 64, Nat.mod_lt _ (by decide)⟩ e

end Cert.Layer
-- ==== Proof.HgrnKernel.lean ====
module

public import proofs.«01_k».proof.Defs
public import proofs.«01_k».proof.Proof.Gen.HgrnIdeal
public import proofs.«01_k».proof.Proof.Gen.HgrnIdeal.Frame
public import proofs.«01_k».proof.Proof.HgrnFormulas
public import Idealize.ShloMosaic.Lib.Pipeline.CanonAppend

/-! The gated linear recurrence: what the kernel's loop over the chunks stores. -/

@[expose] public section

set_option maxRecDepth 16384

noncomputable section

open Idealize.ShloMosaic Idealize.ShloMosaic.TcCoe Idealize.SL.Sem
open Idealize.ShloMosaic.Pipeline (Dat)

namespace Cert.HgrnIdeal.Layer

open Cert.HgrnIdeal Cert.HgrnIdeal.Gen Cert.Layer

/-- The comparison of a row's and a column's number. -/
theorem sge_at : ∀ c s : Fin 64, IntOp.cmpi .sge (BitVec.ofNat 32 c.val) (BitVec.ofNat 32 s.val) = if s ≤ c then 1#1 else 0#1 := by
  decide +kernel

theorem select_at (c s : Fin 64) (a b : EReal) :
    Scalar.select (IntOp.cmpi .sge (BitVec.ofNat 32 c.val) (BitVec.ofNat 32 s.val)) a b = if s ≤ c then a else b := by
  rw [sge_at]
  split <;> rfl

/-- The kernel's causal mask as 0 or 1. -/
theorem mask_at (c s : Fin 64) : k0_pay2 (F := Ideal) (ix2 c s) = if s ≤ c then 1 else 0 := by
  pointwise [k0_pay2, k0_pay1]
  rw [sge_at]
  split
  · show (((BitVec.setWidth 32 1#1).toInt : ℝ) : EReal) = 1
    norm_num
  · show (((BitVec.setWidth 32 0#1).toInt : ℝ) : EReal) = 0
    norm_num

theorem decayed_at (lb : Vec Ideal S1x128 .f32) (f : Vec Ideal S1x64x128 .bf16) (c : Fin 64) (d : Fin 128) :
    k0_pay10 (F := Ideal) lb k0_pay2 f (ix2 c d) = decayed (fun d => lb (ix2 0 d)) (fun s d => f (ix3 0 s d)) c d := by
  generalize hk : k0_pay2 (F := Ideal) = k
  pointwise [k0_pay10, k0_pay8]
  subst hk
  simp only [mask_at, ite_mul, one_mul, zero_mul, zero_sub]
  rfl

theorem last_at (lb : Vec Ideal S1x128 .f32) (f : Vec Ideal S1x64x128 .bf16) (d : Fin 128) :
    k0_pay11 (F := Ideal) lb k0_pay2 f (ix2 0 d) = decayed (fun d => lb (ix2 0 d)) (fun s d => f (ix3 0 s d)) 63 d := by
  rw [← decayed_at]
  generalize hk : k0_pay10 (F := Ideal) lb k0_pay2 f = k
  unfold k0_pay11
  rw [hk]
  pointwise
  try rfl

/-- The state that a chunk leaves, stored transposed. -/
theorem step_at (S : FVec Ideal S128x128 .f32) (lb : Vec Ideal S1x128 .f32) (f v : Vec Ideal S1x64x128 .bf16) (e k : Fin 128) :
    k0_pay14 (F := Ideal) S (k0_pay6 v) (k0_pay9 lb f) (k0_pay10 lb k0_pay2 f) (k0_pay11 lb k0_pay2 f) (ix2 e k) =
      stepState (fun d => lb (ix2 0 d)) (fun s d => f (ix3 0 s d)) (fun s d => v (ix3 0 s d)) (fun k e => S (ix2 e k)) k e := by
  have h10 := decayed_at lb f
  have h11 := last_at lb f
  generalize k0_pay10 (F := Ideal) lb k0_pay2 f = p10 at *
  generalize k0_pay11 (F := Ideal) lb k0_pay2 f = p11 at *
  pointwise [k0_pay14, k0_pay6, k0_pay9, k0_pay8]
  simp only [h10, h11, zero_sub]
  unfold stepState kEnd gate
  simp only [mul_comm]

/-- What a chunk stores. -/
theorem row_at (S : FVec Ideal S128x128 .f32) (lb gn : Vec Ideal S1x128 .f32) (q f v g : Vec Ideal S1x64x128 .bf16) (c : Fin 64) (e : Fin 128) :
    k0_pay4 (F := Ideal) (k0_pay15 gn k0_pay1 S (k0_pay5 q) (k0_pay6 v) (k0_pay9 lb f) (k0_pay10 lb k0_pay2 f) (k0_pay12 q) k0_pay13)
        (k0_pay16 (k0_pay7 g)) (ix3 0 c e) =
      headRow (fun d => lb (ix2 0 d)) (fun d => gn (ix2 0 d)) (fun s d => q (ix3 0 s d)) (fun s d => f (ix3 0 s d))
        (fun s d => v (ix3 0 s d)) (fun s d => g (ix3 0 s d)) (fun k e => S (ix2 e k)) c e := by
  have h10 := decayed_at lb f
  generalize k0_pay10 (F := Ideal) lb k0_pay2 f = p10 at *
  pointwise [k0_pay4, k0_pay15, k0_pay16, k0_pay5, k0_pay6, k0_pay7, k0_pay9, k0_pay8, k0_pay12, k0_pay13, k0_pay1]
  simp only [h10, zero_sub, select_at]
  unfold headRow readOut
  simp only [ite_mul, zero_mul]
  rfl

section Loop

variable (c : Dev nD) (i : grid0.Coords) (arg2 : Memref sig .tc .vmem S1x2048x512 .bf16) (harg2 : arg2.IsWhole)
  (arg3 : Memref sig .tc .vmem S1x128 .f32) (harg3 : arg3.IsWhole) (arg4 : Memref sig .tc .vmem S1x128 .f32) (harg4 : arg4.IsWhole)
  (arg5 : Memref sig .tc .vmem S1x2048x128 .bf16) (harg5 : arg5.IsWhole)
  (x : Vec Ideal S1x2048x512 .bf16) (lb gn : Vec Ideal S1x128 .f32)

/-- Trip `k` reads its chunk's rows of part `j`. -/
theorem load_at (x : Vec Ideal S1x2048x512 .bf16) (k : ℕ) (hk : k < 32) (o : ℕ) (j : Fin 4) (hj : o = j.val * 128) (inb) (s : Fin 64) (d : Fin 128) :
    View.ld x (Rect.unit ![0, BitVec.toNat (Scalar.indexCast (Scalar.muli (Scf.iv 0#32 1#32 k) 64#32)), o] ![1, 64, 128] inb) (ix3 0 s d) =
      part (fun r y => x (ix3 0 r y)) j k s d := by
  have hw : ∀ k : Fin 32, BitVec.toNat (Scalar.indexCast (Scalar.muli (Scf.iv 0#32 1#32 k.val) 64#32)) = k.val * 64 := by decide +kernel
  have hw := hw ⟨k, hk⟩
  unfold part
  subst hj
  refine congrArg x ?_
  funext a
  match a with
  | ⟨0, _⟩ => rfl
  | ⟨1, _⟩ =>
    refine Fin.ext ?_
    show BitVec.toNat (Scalar.indexCast (Scalar.muli (Scf.iv 0#32 1#32 k) 64#32)) + 1 * s.val = (k * 64 + s.val) % 2048
    rw [hw]
    have := s.isLt
    show k * 64 + _ = _
    omega
  | ⟨2, _⟩ =>
    refine Fin.ext ?_
    show j.val * 128 + 1 * d.val = j.val * 128 + d.val
    omega

/-- The state before trip `k` is the recurrence's, transposed. -/
theorem carried_at : ∀ k ≤ 32, ∀ e y : Fin 128,
    (st_k0_t1 (F := Ideal) Variants.none c none i arg2 harg2 arg3 harg3 arg4 harg4 arg5 harg5 lb gn (harg2.unread x) k0_pay3 k).1 (ix2 e y) =
      stateAt (fun d => lb (ix2 0 d)) (fun r y => x (ix3 0 r y)) k y e
  | 0, _, e, y => by
    rw [st_k0_t1_zero]
    pointwise [k0_pay3]
    rfl
  | k + 1, hk, e, y => by
    have ih := carried_at k (by omega)
    have hs := st_k0_t1_succ (F := Ideal) Variants.none c none i arg2 harg2 arg3 harg3 arg4 harg4 arg5 harg5 lb gn (harg2.unread x) k0_pay3 ⟨k, hk⟩
    rw [show k + 1 = (⟨k, hk⟩ : Fin k0_t1_loop.trips).val + 1 from rfl, hs]
    generalize (st_k0_t1 (F := Ideal) Variants.none c none i arg2 harg2 arg3 harg3 arg4 harg4 arg5 harg5 lb gn (harg2.unread x) k0_pay3 k) = S at *
    unfold tripR_k0_t1 trip_k0_t1
    dsimp only
    sl_unfold_words
    simp only [View.readAt_eq_ld, harg2.read_unread]
    rw [step_at]
    have ih' : (fun y e => S.1 (ix2 e y)) = stateAt (fun d => lb (ix2 0 d)) (fun r y => x (ix3 0 r y)) k :=
      funext fun y => funext fun e => ih e y
    refine congrFun (congrFun (congr (congr (congrArg (stepState _) ?_) ?_) ih') y) e
    · exact funext fun s => funext fun d => load_at x k hk 128 1 rfl _ s d
    · exact funext fun s => funext fun d => load_at x k hk 256 2 rfl _ s d

/-- What trip `k` stores at its rows is the head's result there. -/
theorem piece_at (k : ℕ) (hk : k < 32) (S : FVec Ideal S128x128 .f32)
    (hS : (fun y e => S (ix2 e y)) = stateAt (fun d => lb (ix2 0 d)) (fun r y => x (ix3 0 r y)) k)
    (p) (hp : p ∈ tripL_k0_t1 (F := Ideal) Variants.none c none i arg2 harg2 arg3 harg3 arg4 harg4 arg5 harg5 lb gn (harg2.unread x) ⟨k, hk⟩ S)
    (y : p.1.shape.Idx) : p.2 y = (fun z : S1x2048x128.Idx => hgrn (fun d => lb (ix2 0 d)) (fun d => gn (ix2 0 d)) (fun r y => x (ix3 0 r y)) (z 1) (z 2)) (p.1.emb y) := by
  revert y
  revert hp
  unfold tripL_k0_t1 trip_k0_t1
  dsimp only
  sl_unfold_words
  simp only [View.readAt_eq_ld, harg2.read_unread]
  intro hp y
  obtain rfl := List.mem_singleton.mp hp
  clear hp
  dsimp only at y ⊢
  change S1x64x128.Idx at y
  idx_vars y
  obtain rfl : y0 = 0 := Subsingleton.elim _ _
  rw [row_at]
  have hw : ∀ k : Fin 32, BitVec.toNat (Scalar.indexCast (Scalar.muli (Scf.iv 0#32 1#32 k.val) 64#32)) = k.val * 64 := by decide +kernel
  have hw : BitVec.toNat (Scalar.indexCast (Scalar.muli (Scf.iv 0#32 1#32 k) 64#32)) = k * 64 := hw ⟨k, hk⟩
  have hlt : y1.val < 64 := y1.isLt
  generalize he : Rect.emb _ _ = z
  have z1 : (z 1).val = k * 64 + y1.val := by
    subst he
    show BitVec.toNat (Scalar.indexCast (Scalar.muli (Scf.iv 0#32 1#32 k) 64#32)) + 1 * y1.val = _
    rw [hw]; omega
  have z2 : z 2 = y2 := by
    subst he
    refine Fin.ext ?_
    show 0 + 1 * y2.val = y2.val
    omega
  have e1 : (z 1).val / 64 = k := by omega
  have e2 : (⟨(z 1).val % 64, Nat.mod_lt _ (by decide)⟩ : Fin 64) = y1 := Fin.ext (by show (z 1).val % 64 = y1.val; omega)
  unfold hgrn
  beta_reduce
  rw [e1, e2, z2]
  refine congrFun (congrFun (congr (congr (congr (congr (congrArg (headRow _ _) ?_) ?_) ?_) ?_) hS) y1) y2
  · exact funext fun s => funext fun d => load_at x k hk 0 0 rfl _ s d
  · exact funext fun s => funext fun d => load_at x k hk 128 1 rfl _ s d
  · exact funext fun s => funext fun d => load_at x k hk 256 2 rfl _ s d
  · exact funext fun s => funext fun d => load_at x k hk 384 3 rfl _ s d

/-- Every piece that the trips before `k` store holds the head's result at its rows. -/
theorem pieces_at : ∀ k ≤ 32, ∀ p ∈ (st_k0_t1 (F := Ideal) Variants.none c none i arg2 harg2 arg3 harg3 arg4 harg4 arg5 harg5 lb gn (harg2.unread x) k0_pay3 k).2,
    ∀ y : p.1.shape.Idx, p.2 y = (fun z : S1x2048x128.Idx => hgrn (fun d => lb (ix2 0 d)) (fun d => gn (ix2 0 d)) (fun r y => x (ix3 0 r y)) (z 1) (z 2)) (p.1.emb y)
  | 0, _, p, hp, y => by cases hp
  | k + 1, hk, p, hp, y => by
    have ih := pieces_at k (by omega)
    have hc := carried_at c i arg2 harg2 arg3 harg3 arg4 harg4 arg5 harg5 x lb gn k (by omega)
    have hs := st_k0_t1_succ (F := Ideal) Variants.none c none i arg2 harg2 arg3 harg3 arg4 harg4 arg5 harg5 lb gn (harg2.unread x) k0_pay3 ⟨k, hk⟩
    rw [show k + 1 = (⟨k, hk⟩ : Fin k0_t1_loop.trips).val + 1 from rfl, hs] at hp
    generalize (st_k0_t1 (F := Ideal) Variants.none c none i arg2 harg2 arg3 harg3 arg4 harg4 arg5 harg5 lb gn (harg2.unread x) k0_pay3 k) = S at *
    rcases List.mem_append.mp hp with hp | hp
    · exact piece_at c i arg2 harg2 arg3 harg3 arg4 harg4 arg5 harg5 x lb gn k hk S.1 (funext fun y => funext fun e => hc e y) p hp y
    · exact ih p hp y

/-- What the kernel's body leaves in its result block. -/
theorem out_at (y : S1x2048x128.Idx) :
    out0_A_3 (F := Ideal) c i arg2 harg2 arg3 harg3 arg4 harg4 arg5 harg5 x lb gn y =
      hgrn (fun d => lb (ix2 0 d)) (fun d => gn (ix2 0 d)) (fun r y => x (ix3 0 r y)) (y 1) (y 2) := by
  have hc := cover0_A_3 (F := Ideal) c i arg2 harg2 arg3 harg3 arg4 harg4 arg5 harg5 x lb gn y
  unfold out0_A_3
  rw [View.read_writes_junk_eq_canon]
  revert hc
  unfold kernelRun0_A
  dsimp only
  simp only [View.readAt_eq_ld, harg3.read_unread, harg4.read_unread]
  rw [show View.ld lb (Rect.unit ![0, 0] ![1, 128] inb_S1x128_S1x128_0_0) = lb from View.ld_unit_zero (by decide) _ _,
    show View.ld gn (Rect.unit ![0, 0] ![1, 128] inb_S1x128_S1x128_0_0) = gn from View.ld_unit_zero (by decide) _ _]
  intro hc
  have h := View.canon_append_of_pieces (fun z : S1x2048x128.Idx => hgrn (fun d => lb (ix2 0 d)) (fun d => gn (ix2 0 d)) (fun r y => x (ix3 0 r y)) (z 1) (z 2)) []
    _ (pieces_at c i arg2 harg2 arg3 harg3 arg4 harg4 arg5 harg5 x lb gn 32 (by omega)) y hc
  rw [List.append_nil] at h
  exact h

end Loop

theorem idx : ∀ t : Fin cfg0.N, win0_0.index t = ![t.val / 8, 0, t.val % 8] ∧ win0_1.index t = ![0, t.val % 8]
    ∧ win0_2.index t = ![0, 0] ∧ win0_3.index t = ![t.val / 8, 0, t.val % 8] :=
  (by decide +kernel : ∀ t : Fin grid0.N, _)

/-- The result over whole arrays. -/
def G (X : FVec Ideal S8x2048x7168 .bf16) (lb : FVec Ideal S1x1024 .f32) (gn : FVec Ideal S1x128 .f32) :
    FVec Ideal S8x2048x1024 .bf16 := fun i =>
  hgrn (fun d => lb (ix2 0 ⟨(i 2).val / 128 * 128 + d.val, by have : (i 2).val < 1024 := (i 2).isLt; omega⟩)) (fun d => gn (ix2 0 d))
    (fun r x => X (ix3 (i 0) r ⟨(i 2).val / 128 * 512 + x.val, by have : (i 2).val < 1024 := (i 2).isLt; omega⟩)) (i 1)
    ⟨(i 2).val % 128, Nat.mod_lt _ (by decide)⟩

variable (m : (ℓ : Loc nD τ sig) → Buf (Elt Ideal) ℓ)

theorem final (c : Dev nD) : (dats m 0 c).arrAt 3 (cfgs 0).N =
    G (m (c.tc.loc main_arg0)) (m (c.tc.loc main_arg1)) (m (c.tc.loc main_arg2)) := by
  refine (dats m 0 c).arrAt_eq_of_covers 3 _ (by decide +kernel) fun t _ y => ?_
  blk_simp
  have e2 : iblk m c 2 t = m (c.tc.loc main_arg2) := by blk_ext! [iblk, V, idx t]
  rw [after0_3]
  unfold outsAt0
  idx_vars y
  obtain rfl : y0 = 0 := Subsingleton.elim _ _
  rw [out_at, e2]
  generalize hi : ((View.whole main_v0).slice (win0_3.rect t)).emb (ix3 0 y1 y2) = i
  change S8x2048x1024.Idx at i
  have i1 : i 1 = y1 := by subst hi; exact Fin.ext (by blk_simp [idx t]; try simp)
  have i2 : (i 2).val = t.val % 8 * 128 + y2.val := by subst hi; blk_simp [idx t]; try simp
  have hy : y2.val < 128 := y2.isLt
  have hx : ∀ r (x : Fin 512), iblk m c 0 t (ix3 0 r x) = m (c.tc.loc main_arg0) (ix3 (i 0) r ⟨t.val % 8 * 512 + x.val, by omega⟩) := by
    subst hi; intro r x; blk_ext [iblk, V, idx t]
  have hl : ∀ d : Fin 128, iblk m c 1 t (ix2 0 d) = m (c.tc.loc main_arg1) (ix2 0 ⟨t.val % 8 * 128 + d.val, by omega⟩) := by
    subst hi; intro d; blk_ext [iblk, V, idx t]
  have hq : (i 2).val / 128 = t.val % 8 := by omega
  have hm : (⟨(i 2).val % 128, Nat.mod_lt _ (by decide)⟩ : Fin 128) = y2 := Fin.ext (by show (i 2).val % 128 = y2.val; omega)
  unfold G
  simp only [hx, hl, hq, hm, i1]
  rfl

end Cert.HgrnIdeal.Layer
-- ==== Proof.HgrnReference.lean ====
module

public import proofs.«01_k».proof.Defs
public import proofs.«01_k».proof.Proof.Gen.HgrnRefIdeal
public import proofs.«01_k».proof.Proof.Gen.HgrnRefIdeal.Step
public import proofs.«01_k».proof.Proof.HgrnFormulas

/-! The gated linear recurrence: the reference's loop and what comes before and after it. -/

@[expose] public section

set_option maxRecDepth 16384

noncomputable section

open Idealize.ShloMosaic Idealize.ShloMosaic.TcCoe Idealize.SL.Sem

namespace Cert.HgrnRefIdeal.Layer

open Cert.HgrnRefIdeal Cert.HgrnRefIdeal.Gen Cert.HgrnRefIdeal.Step Cert.Layer

/-- The window of the running sum: 64 places of axis 3. -/
abbrev Win : Shape := ⟨5, ![1, 1, 1, 64, 1]⟩

theorem win_row : ∀ n : Fin Win.numel, (Win.rowMajor.symm n 3).val = n.val := by decide +kernel

theorem foldl_sum {n : ℕ} (g : Fin n → EReal) : ∀ (l : List (Fin n)) (v : EReal), l.foldl (fun r k => r + g k) v = v + (l.map g).sum
  | [], v => by simp
  | k :: l, v => by
    rw [List.foldl_cons, foldl_sum g l, List.map_cons, List.sum_cons, add_assoc]

/-- A window of 64 places ending at `c` sums the entries up to `c`. -/
theorem window_sum (x : Fin 64 → EReal) (c : Fin 64) :
    (∑ n : Fin 64, if h : 63 ≤ c.val + n.val then x ⟨c.val + n.val - 63, by omega⟩ else 0) = ∑ s : Fin 64, if s ≤ c then x s else 0 := by
  rw [← Finset.sum_filter]
  have h1 : (∑ n : Fin 64, if h : 63 ≤ c.val + n.val then x ⟨c.val + n.val - 63, by omega⟩ else 0) =
      ∑ n : Fin 64, if 63 ≤ c.val + n.val then x ⟨(c.val + n.val - 63) % 64, Nat.mod_lt _ (by decide)⟩ else 0 := by
    refine Finset.sum_congr rfl fun n _ => ?_
    split
    · refine congrArg x (Fin.ext ?_)
      show c.val + n.val - 63 = (c.val + n.val - 63) % 64
      omega
    · rfl
  rw [h1, ← Finset.sum_filter]
  refine Finset.sum_bij' (fun n _ => ⟨(c.val + n.val - 63) % 64, Nat.mod_lt _ (by decide)⟩)
    (fun s _ => ⟨(s.val + 63 - c.val) % 64, Nat.mod_lt _ (by decide)⟩) ?_ ?_ ?_ ?_ ?_
  · intro n hn
    have hn := (Finset.mem_filter.mp hn).2
    refine Finset.mem_filter.mpr ⟨Finset.mem_univ _, ?_⟩
    show (c.val + n.val - 63) % 64 ≤ c.val
    omega
  · intro s hs
    have hs : s.val ≤ c.val := (Finset.mem_filter.mp hs).2
    refine Finset.mem_filter.mpr ⟨Finset.mem_univ _, ?_⟩
    show 63 ≤ c.val + (s.val + 63 - c.val) % 64
    omega
  · intro n hn
    have hn := (Finset.mem_filter.mp hn).2
    refine Fin.ext ?_
    show ((c.val + n.val - 63) % 64 + 63 - c.val) % 64 = n.val
    omega
  · intro s hs
    have hs : s.val ≤ c.val := (Finset.mem_filter.mp hs).2
    refine Fin.ext ?_
    show (c.val + (s.val + 63 - c.val) % 64 - 63) % 64 = s.val
    omega
  · intro n hn
    rfl

/-- The running sum along axis 3. -/
theorem cumsum_at (x : FVec Ideal S8x8x32x64x128 .f32) (v : FVec Ideal S_ .f32) (hv : v (Shape.Idx.first h_S_) = 0) (hr)
    (b h : Fin 8) (n : Fin 32) (c : Fin 64) (d : Fin 128) :
    Host.reduceWindowAdd (F := Ideal) (t := S8x8x32x64x128) ![1, 1, 1, 64, 1] ![1, 1, 1, 1, 1] ![0, 0, 0, 63, 0] ![0, 0, 0, 0, 0] x v hr h_S_ (ix5 b h n c d) =
      ∑ s : Fin 64, if s ≤ c then x (ix5 b h n s d) else 0 := by
  rw [← window_sum (fun s => x (ix5 b h n s d)) c]
  unfold Host.reduceWindowAdd
  rw [hv]
  rw [Ideal.hostReduceWindowAdd_def]
  unfold Ideal.hostReduceWindowAdd
  unfold Host.reduceWindow
  dsimp only
  rw [foldl_sum, zero_add, ← Fin.sum_univ_def]
  refine Fintype.sum_equiv (finCongr (show Win.numel = 64 by decide +kernel)) _ _ fun k => ?_
  have hk : k.val < 64 := (finCongr (show Win.numel = 64 by decide +kernel) k).isLt
  have w0 : (Win.rowMajor.symm k 0).val = 0 := by have : (Win.rowMajor.symm k 0).val < 1 := (Win.rowMajor.symm k 0).isLt; omega
  have w1 : (Win.rowMajor.symm k 1).val = 0 := by have : (Win.rowMajor.symm k 1).val < 1 := (Win.rowMajor.symm k 1).isLt; omega
  have w2 : (Win.rowMajor.symm k 2).val = 0 := by have : (Win.rowMajor.symm k 2).val < 1 := (Win.rowMajor.symm k 2).isLt; omega
  have w3 := win_row k
  have w4 : (Win.rowMajor.symm k 4).val = 0 := by have : (Win.rowMajor.symm k 4).val < 1 := (Win.rowMajor.symm k 4).isLt; omega
  show _ = if h : 63 ≤ c.val + k.val then _ else _
  split
  · next hin =>
    have h3 : 63 ≤ c.val * 1 + (Win.rowMajor.symm k 3).val := (hin 3).1
    rw [dif_pos (by omega)]
    refine congrArg x (funext fun a => Fin.ext ?_)
    match a with
    | ⟨0, _⟩ => show b.val * 1 + (Win.rowMajor.symm k 0).val - 0 = b.val; omega
    | ⟨1, _⟩ => show h.val * 1 + (Win.rowMajor.symm k 1).val - 0 = h.val; omega
    | ⟨2, _⟩ => show n.val * 1 + (Win.rowMajor.symm k 2).val - 0 = n.val; omega
    | ⟨3, _⟩ => show c.val * 1 + (Win.rowMajor.symm k 3).val - 63 = c.val + k.val - 63; omega
    | ⟨4, _⟩ => show d.val * 1 + (Win.rowMajor.symm k 4).val - 0 = d.val; omega
  · next hin =>
    rw [dif_neg]
    intro hle
    refine hin fun a => ?_
    match a with
    | ⟨0, _⟩ => show 0 ≤ b.val * 1 + (Win.rowMajor.symm k 0).val ∧ b.val * 1 + (Win.rowMajor.symm k 0).val - 0 < 8; omega
    | ⟨1, _⟩ => show 0 ≤ h.val * 1 + (Win.rowMajor.symm k 1).val ∧ h.val * 1 + (Win.rowMajor.symm k 1).val - 0 < 8; omega
    | ⟨2, _⟩ => show 0 ≤ n.val * 1 + (Win.rowMajor.symm k 2).val ∧ n.val * 1 + (Win.rowMajor.symm k 2).val - 0 < 32; omega
    | ⟨3, _⟩ => show 63 ≤ c.val * 1 + (Win.rowMajor.symm k 3).val ∧ c.val * 1 + (Win.rowMajor.symm k 3).val - 63 < 64; omega
    | ⟨4, _⟩ => show 0 ≤ d.val * 1 + (Win.rowMajor.symm k 4).val ∧ d.val * 1 + (Win.rowMajor.symm k 4).val - 0 < 128; omega

/-- The columns of head `h` of batch row `b`. -/
def cols (x0 : FVec Ideal S8x2048x7168 .bf16) (b h : Fin 8) : Fin 2048 → Fin 512 → EReal := fun r x =>
  x0 (ix3 b r ⟨h.val * 512 + x.val, by omega⟩)

/-- The lower bounds of head `h`'s gates. -/
def lows (x1 : FVec Ideal S1x1024 .f32) (h : Fin 8) : Fin 128 → EReal := fun d => x1 (ix2 0 ⟨h.val * 128 + d.val, by omega⟩)

variable (x0 : FVec Ideal S8x2048x7168 .bf16) (x1 : FVec Ideal S1x1024 .f32)

theorem f_at (b h : Fin 8) (n : Fin 32) (s : Fin 64) (d : Fin 128) :
    A_main_v8 (F := Ideal) x0 x1 (ix5 b h n s d) = part (cols x0 b h) 1 n s d := by
  unfold A_main_v8 A_main_v7 A_main_v6 A_main_v5 A_main_v4 A_main_v3
  pointwise
  unfold part cols
  refine congrArg x0 ?_
  funext a
  match a with
  | ⟨0, _⟩ => rfl
  | ⟨1, _⟩ => exact Fin.ext (show n.val * 64 + s.val = (n.val * 64 + s.val) % 2048 by omega)
  | ⟨2, _⟩ => exact Fin.ext (show h.val * 512 + 128 + d.val = h.val * 512 + (1 * 128 + d.val) by omega)

theorem v_at (b h : Fin 8) (n : Fin 32) (s : Fin 64) (d : Fin 128) :
    A_main_v33 (F := Ideal) x0 x1 (ix5 b h n s d) = part (cols x0 b h) 2 n s d := by
  unfold A_main_v33 A_main_v32 A_main_v31 A_main_v30 A_main_v29 A_main_v28
  pointwise
  unfold part cols
  refine congrArg x0 ?_
  funext a
  match a with
  | ⟨0, _⟩ => rfl
  | ⟨1, _⟩ => exact Fin.ext (show n.val * 64 + s.val = (n.val * 64 + s.val) % 2048 by omega)
  | ⟨2, _⟩ => exact Fin.ext (show h.val * 512 + 256 + d.val = h.val * 512 + (2 * 128 + d.val) by omega)

theorem gate_at (b h : Fin 8) (n : Fin 32) (s : Fin 64) (d : Fin 128) :
    A_main_v18 (F := Ideal) x0 x1 (ix5 b h n s d) = gate (lows x1 h d) (part (cols x0 b h) 1 n s d) := by
  have hf := f_at x0 x1
  unfold A_main_v18 A_main_v17 A_main_v16 A_main_v15 A_main_v14 A_main_v12 A_main_v10 A_main_v9 A_main_v2 A_main_v0
    K_main_v1 K_main_cst K_main_v11 K_main_cst_0 K_main_v13 K_main_cst_1
  generalize A_main_v8 (F := Ideal) x0 x1 = f at *
  pointwise
  simp only [hf]
  rfl

theorem decayed_at (b h : Fin 8) (n : Fin 32) (c : Fin 64) (d : Fin 128) :
    A_main_v20 (F := Ideal) x0 x1 (ix5 b h n c d) = decayed (lows x1 h) (part (cols x0 b h) 1 n) c d := by
  unfold A_main_v20
  rw [cumsum_at]
  · unfold decayed A_main_v19
    simp only [← gate_at x0 x1 b h n]
    rfl
  · unfold K_main_call0_call0_v0 K_main_call0_call0_cst
    pointwise

theorem kEnd_at (b h : Fin 8) (n : Fin 32) (s : Fin 64) (d : Fin 128) :
    A_main_v27 (F := Ideal) x0 x1 (ix5 b h n s d) = kEnd (lows x1 h) (part (cols x0 b h) 1 n) s d := by
  have hd := decayed_at x0 x1
  have hg := gate_at x0 x1
  unfold A_main_v27 A_main_v26 A_main_v25 A_main_v24 A_main_v23 A_main_v21 K_main_v22 K_main_cst_2
  generalize A_main_v20 (F := Ideal) x0 x1 = p at *
  generalize A_main_v18 (F := Ideal) x0 x1 = g at *
  pointwise
  simp only [hd, hg]
  rfl

theorem upd_at (n : Fin 32) (b h : Fin 8) (k e : Fin 128) :
    A_main_v34 (F := Ideal) x0 x1 (ix5 n b h k e) =
      ∑ s : Fin 64, kEnd (lows x1 h) (part (cols x0 b h) 1 n) s k * part (cols x0 b h) 2 n s e := by
  have hk := kEnd_at x0 x1
  have hv := v_at x0 x1
  unfold A_main_v34
  generalize A_main_v27 (F := Ideal) x0 x1 = p at *
  generalize A_main_v33 (F := Ideal) x0 x1 = v at *
  pointwise
  simp only [hk, hv]

theorem decay_at (n : Fin 32) (b h : Fin 8) (k : Fin 128) :
    A_main_v38 (F := Ideal) x0 x1 (ix5 n b h k 0) = Ideal.exp (decayed (lows x1 h) (part (cols x0 b h) 1 n) 63 k) := by
  have hd := decayed_at x0 x1
  unfold A_main_v38 A_main_v37 A_main_v36 A_main_v35 A_main_v21
  generalize A_main_v20 (F := Ideal) x0 x1 = p at *
  pointwise
  simp only [hd]

/-- The lower-triangular mask of a chunk. -/
theorem sge_at : ∀ c x : Fin 64, IntOp.cmpi .sge (IntOp.addi (BitVec.ofNat 32 c.val) 0#32) (BitVec.ofNat 32 x.val) =
    if x ≤ c then 1#1 else 0#1 := by
  decide +kernel

theorem mask_at (c x : Fin 64) (u w : EReal) :
    Scalar.select (Scalar.select (IntOp.cmpi .sge (IntOp.addi (BitVec.ofNat 32 c.val) 0#32) (BitVec.ofNat 32 x.val)) 1#1 0#1) u w =
      if x ≤ c then u else w := by
  rw [sge_at]
  split <;> rfl

theorem mask_row (r : Fin 2048) (x : Fin 64) (u w : EReal) :
    Scalar.select (Scalar.select (IntOp.cmpi .sge (IntOp.addi (BitVec.ofNat 32 (r.val % 64)) 0#32) (BitVec.ofNat 32 x.val)) 1#1 0#1) u w =
      if x ≤ (⟨r.val % 64, Nat.mod_lt _ (by decide)⟩ : Fin 64) then u else w :=
  mask_at ⟨r.val % 64, Nat.mod_lt _ (by decide)⟩ x u w

/-- A column of a head's part, at a row of the whole array. -/
theorem row_part (b h : Fin 8) (p : Fin 4) (r : Fin 2048) (d : Fin 128) (q : Fin 7168) (hq : q.val = h.val * 512 + (p.val * 128 + d.val)) :
    x0 (ix3 b r q) = part (cols x0 b h) p (r.val / 64) ⟨r.val % 64, Nat.mod_lt _ (by decide)⟩ d := by
  unfold part cols
  refine congrArg x0 ?_
  funext a
  match a with
  | ⟨0, _⟩ => rfl
  | ⟨1, _⟩ => exact Fin.ext (show r.val = (r.val / 64 * 64 + r.val % 64) % 2048 by omega)
  | ⟨2, _⟩ => exact Fin.ext hq

/-- A column of a head's part, at a token of the same chunk. -/
theorem chunk_part (b h : Fin 8) (p : Fin 4) (r : Fin 2048) (s : Fin 64) (d : Fin 128) (t : Fin 2048) (ht : t.val = r.val / 64 * 64 + s.val)
    (q : Fin 7168) (hq : q.val = h.val * 512 + (p.val * 128 + d.val)) :
    x0 (ix3 b t q) = part (cols x0 b h) p (r.val / 64) s d := by
  unfold part cols
  refine congrArg x0 ?_
  funext a
  match a with
  | ⟨0, _⟩ => rfl
  | ⟨1, _⟩ => exact Fin.ext (show t.val = (r.val / 64 * 64 + s.val) % 2048 by omega)
  | ⟨2, _⟩ => exact Fin.ext hq

theorem result_at (s : State Ideal) (x2 : FVec Ideal S1x128 .f32) (b : Fin 8) (r : Fin 2048) (j : Fin 1024) :
    R_main_v113 (F := Ideal) s x0 x1 x2 (ix3 b r j) =
      headRow (lows x1 ⟨j.val / 128, by omega⟩) (fun d => x2 (ix2 0 d))
        (part (cols x0 b ⟨j.val / 128, by omega⟩) 0 (r.val / 64)) (part (cols x0 b ⟨j.val / 128, by omega⟩) 1 (r.val / 64))
        (part (cols x0 b ⟨j.val / 128, by omega⟩) 2 (r.val / 64)) (part (cols x0 b ⟨j.val / 128, by omega⟩) 3 (r.val / 64))
        (fun k e => s.main_v41_5 (ix5 ⟨r.val / 64, by omega⟩ b ⟨j.val / 128, by omega⟩ k e))
        ⟨r.val % 64, Nat.mod_lt _ (by decide)⟩ ⟨j.val % 128, Nat.mod_lt _ (by decide)⟩ := by
  have hd := decayed_at x0 x1
  have hg := gate_at x0 x1
  have ed : A_main_v20 (F := Ideal) x0 x1 = A_main_v20 (F := Ideal) x0 x1 := rfl
  have eg : A_main_v18 (F := Ideal) x0 x1 = A_main_v18 (F := Ideal) x0 x1 := rfl
  conv at ed =>
    lhs
    unfold A_main_v20 A_main_v19 A_main_v18 A_main_v17 A_main_v16 A_main_v15 A_main_v14 A_main_v12 A_main_v10 A_main_v9 A_main_v8
      A_main_v7 A_main_v6 A_main_v5 A_main_v4 A_main_v3 A_main_v2 A_main_v0
      K_main_v1 K_main_cst K_main_v11 K_main_cst_0 K_main_v13 K_main_cst_1 K_main_call0_call0_v0 K_main_call0_call0_cst
  conv at eg =>
    lhs
    unfold A_main_v18 A_main_v17 A_main_v16 A_main_v15 A_main_v14 A_main_v12 A_main_v10 A_main_v9 A_main_v8
      A_main_v7 A_main_v6 A_main_v5 A_main_v4 A_main_v3 A_main_v2 A_main_v0
      K_main_v1 K_main_cst K_main_v11 K_main_cst_0 K_main_v13 K_main_cst_1
  unfold R_main_v113
  rw [ed, eg]
  clear ed eg
  generalize A_main_v20 (F := Ideal) x0 x1 = p at *
  generalize A_main_v18 (F := Ideal) x0 x1 = g at *
  pointwise
  simp only [hd, hg]
  have hz : (id (constant S_ .f32 0x00000000#32) : FVec Ideal S_ .f32) ix0 = (0 : EReal) := by
    show (constant S_ .f32 0x00000000#32 : FVec Ideal S_ .f32) ix0 = 0
    pointwise
  have hq : ∀ (x : Fin 128) w, x0 (ix3 b r ⟨j.val / 128 * 512 + x.val, w⟩) = _ := fun x w =>
    row_part x0 b ⟨j.val / 128, by omega⟩ 0 r x _ (show _ = j.val / 128 * 512 + (0 * 128 + x.val) by simp)
  have hv : ∀ (s : Fin 64) (x : Fin 128) w w', x0 (ix3 b ⟨r.val / 64 * 64 + s.val, w⟩ ⟨j.val / 128 * 512 + 256 + x.val, w'⟩) = _ := fun s x w w' =>
    chunk_part x0 b ⟨j.val / 128, by omega⟩ 2 r s x _ rfl _ (show j.val / 128 * 512 + 256 + x.val = j.val / 128 * 512 + (2 * 128 + x.val) by omega)
  have hv' : ∀ (s : Fin 64) w w', x0 (ix3 b ⟨r.val / 64 * 64 + s.val, w⟩ ⟨j.val / 128 * 512 + 256 + j.val % 128, w'⟩) = _ := fun s w w' =>
    hv s ⟨j.val % 128, Nat.mod_lt _ (by decide)⟩ w w'
  have ho : ∀ w, x0 (ix3 b r ⟨j.val / 128 * 512 + 384 + j.val % 128, w⟩) = _ := fun w =>
    row_part x0 b ⟨j.val / 128, by omega⟩ 3 r ⟨j.val % 128, Nat.mod_lt _ (by decide)⟩ _
      (show j.val / 128 * 512 + 384 + j.val % 128 = j.val / 128 * 512 + (3 * 128 + j.val % 128) by omega)
  simp only [hz, hq, hv, hv', ho, mask_row]
  rfl

/-- The row a trip reads: its index word, wrapped where negative and clamped. -/
def row (j : ℕ) : ℕ :=
  (min (max (Scalar.select (IntOp.cmpi .slt (BitVec.ofNat 32 j) 0#32) (IntOp.addi (BitVec.ofNat 32 j) 32#32) (BitVec.ofNat 32 j)).toInt 0)
    ((32 - 1 : ℕ) : Int)).toNat

theorem row_eq : ∀ j : Fin 32, row j.val = j.val := by decide +kernel

theorem take_decay (j : Fin 32) (s : State Ideal) (b h : Fin 8) (k : Fin 128) :
    b14 j.val s (ix5 0 b h k 0) = s.main_v41_0 (ix5 j b h k 0) := by
  have e := row_eq j
  unfold b14 Host.dynamicSlice extractStridedSlice
  refine congrArg s.main_v41_0 (funext fun a => Fin.ext ?_)
  match a with
  | ⟨0, _⟩ => show row j.val + 0 = j.val; rw [e]; rfl
  | ⟨1, _⟩ => show 0 + b.val = b.val; omega
  | ⟨2, _⟩ => show 0 + h.val = h.val; omega
  | ⟨3, _⟩ => show 0 + k.val = k.val; omega
  | ⟨4, _⟩ => rfl

theorem take_upd (j : Fin 32) (s : State Ideal) (b h : Fin 8) (k e : Fin 128) :
    b26 j.val s (ix5 0 b h k e) = s.main_v41_1 (ix5 j b h k e) := by
  have q := row_eq j
  unfold b26 Host.dynamicSlice extractStridedSlice
  refine congrArg s.main_v41_1 (funext fun a => Fin.ext ?_)
  match a with
  | ⟨0, _⟩ => show row j.val + 0 = j.val; rw [q]; rfl
  | ⟨1, _⟩ => show 0 + b.val = b.val; omega
  | ⟨2, _⟩ => show 0 + h.val = h.val; omega
  | ⟨3, _⟩ => show 0 + k.val = k.val; omega
  | ⟨4, _⟩ => show 0 + e.val = e.val; omega

/-- One trip's new state. -/
theorem next_at (j : Fin 32) (s : State Ideal) (b h : Fin 8) (k e : Fin 128) :
    b30 j.val s (ix4 b h k e) = s.main_v41_0 (ix5 j b h k 0) * s.main_v41_4 (ix4 b h k e) + s.main_v41_1 (ix5 j b h k e) := by
  have hd := take_decay j s
  have hu := take_upd j s
  unfold b30 b29 b28 b27 b15
  generalize b14 j.val s = d at *
  generalize b26 j.val s = u at *
  pointwise
  rw [← hd, ← hu]

theorem eq_at : ∀ i j : Fin 32, IntOp.cmpi .eq (BitVec.ofNat 32 i.val) (BitVec.ofNat 32 j.val) = if i = j then 1#1 else 0#1 := by
  decide +kernel

/-- What a trip keeps: the state before it, at the trip's own place. -/
theorem keep_at (j : Fin 32) (s : State Ideal) (i : Fin 32) (b h : Fin 8) (k e : Fin 128) :
    b37 j.val s (ix5 i b h k e) = if i = j then s.main_v41_4 (ix4 b h k e) else s.main_v41_5 (ix5 i b h k e) := by
  have q : b33 j.val s (ix5 i 0 0 0 0) = if i = j then 1#1 else 0#1 := by
    rw [← eq_at i j]
    rfl
  unfold b37 b36 b35 b34
  generalize b33 j.val s = c at *
  pointwise
  rw [q]
  split <;> rfl

/-- The loop's states. -/
def iter : ℕ → State Ideal
  | 0 => init x0 x1
  | n + 1 => step n (iter n)

theorem iter_decay : ∀ n, (iter x0 x1 n).main_v41_0 = A_main_v38 x0 x1
  | 0 => rfl
  | n + 1 => iter_decay n

theorem iter_upd : ∀ n, (iter x0 x1 n).main_v41_1 = A_main_v34 x0 x1
  | 0 => rfl
  | n + 1 => iter_upd n

theorem iter_state (b h : Fin 8) : ∀ n ≤ 32, ∀ k e : Fin 128,
    (iter x0 x1 n).main_v41_4 (ix4 b h k e) = stateAt (lows x1 h) (cols x0 b h) n k e
  | 0, _, k, e => by
    show K_main_v39 (F := Ideal) (ix4 b h k e) = 0
    unfold K_main_v39 K_main_cst_3
    pointwise
  | n + 1, hn, k, e => by
    show b30 n (iter x0 x1 n) (ix4 b h k e) = _
    rw [next_at ⟨n, hn⟩, iter_decay, iter_upd, iter_state b h n (by omega), decay_at, upd_at]
    rfl

theorem iter_kept (b h : Fin 8) (i : Fin 32) (k e : Fin 128) : ∀ n ≤ 32, i.val < n →
    (iter x0 x1 n).main_v41_5 (ix5 i b h k e) = stateAt (lows x1 h) (cols x0 b h) i k e
  | 0, _, hi => absurd hi (by omega)
  | n + 1, hn, hi => by
    show b37 n (iter x0 x1 n) (ix5 i b h k e) = _
    rw [keep_at ⟨n, hn⟩]
    split
    · next q =>
      subst q
      exact iter_state x0 x1 b h n (by omega) k e
    · next q => exact iter_kept b h i k e n (by omega) (by
        have : i.val ≠ n := fun w => q (Fin.ext w)
        omega)

/-- The reference's result. -/
theorem final_at (x2 : FVec Ideal S1x128 .f32) (b : Fin 8) (r : Fin 2048) (j : Fin 1024) :
    R_main_v113 (F := Ideal) (iter x0 x1 32) x0 x1 x2 (ix3 b r j) =
      hgrn (lows x1 ⟨j.val / 128, by omega⟩) (fun d => x2 (ix2 0 d)) (cols x0 b ⟨j.val / 128, by omega⟩) r
        ⟨j.val % 128, Nat.mod_lt _ (by decide)⟩ := by
  rw [result_at]
  have hs : (fun k e => (iter x0 x1 32).main_v41_5 (ix5 ⟨r.val / 64, by omega⟩ b ⟨j.val / 128, by omega⟩ k e)) = _ :=
    funext fun k => funext fun e => iter_kept x0 x1 b ⟨j.val / 128, by omega⟩ ⟨r.val / 64, by omega⟩ k e 32 (by omega)
      (show r.val / 64 < 32 by omega)
  rw [hs]
  rfl

end Cert.HgrnRefIdeal.Layer
-- ==== Proof.HgrnValue.lean ====
module

public import proofs.«01_k».proof.Defs
public import proofs.«01_k».proof.Proof.Gen.HgrnRefIdeal.StepRun
public import proofs.«01_k».proof.Proof.HgrnKernel
public import proofs.«01_k».proof.Proof.HgrnReference
public import Idealize.ShloMosaic.Lib.Quiescent

/-! The gated linear recurrence: kernel and reference give equal results. -/

@[expose] public section

set_option maxRecDepth 16384

noncomputable section

open Idealize.ShloMosaic Idealize.ShloMosaic.TcCoe Idealize.SL.Sem

namespace Cert.Proof

/-- The reference leaves its arguments and its counters as they were. -/
theorem hgrn_ref_frame : Cert.quiescent_HgrnRefIdeal := by
  intro m g _
  exact (θ_run Cert.HgrnRefIdeal.defs _ _).mono (fun r h => ⟨fun c => (h c).2, sem_eq_zero_of_no_sems (by decide) r.2⟩)
    (Cert.HgrnRefIdeal.StepRun.run_iter (F := Ideal) m g
      (fun c => Cert.HgrnRefIdeal.Layer.iter (m (c.tc.loc Cert.HgrnRefIdeal.main_arg0)) (m (c.tc.loc Cert.HgrnRefIdeal.main_arg1)))
      (fun _ => rfl) (fun _ _ => rfl))

theorem hgrn_value : Cert.algebraic_HgrnIdeal_HgrnRefIdeal := by
  pair_intro
  · run_from Cert.HgrnIdeal.Gen.run_main m g
  · run_from Cert.HgrnRefIdeal.StepRun.run_iter (F := Ideal) m' g'
      (fun c => Cert.HgrnRefIdeal.Layer.iter (m' (c.tc.loc Cert.HgrnRefIdeal.main_arg0)) (m' (c.tc.loc Cert.HgrnRefIdeal.main_arg1)))
      (fun _ => rfl) (fun _ _ => rfl)
    rw [Cert.HgrnIdeal.Layer.final m c]
    funext i
    idx_vars i
    exact Cert.HgrnRefIdeal.Layer.final_at _ _ _ i0 i1 i2

end Cert.Proof
-- ==== Proof.CompressKernel.lean ====
module

public import proofs.«01_k».proof.Defs
public import proofs.«01_k».proof.Proof.Gen.CompressIdeal
public import proofs.«01_k».proof.Proof.Gen.CompressIdeal.Frame
public import proofs.«01_k».proof.Proof.Formulas
public import Idealize.ShloMosaic.Lib.Pipeline.CanonAppend

/-! The compressed keys and values: what the kernel leaves in its scratch rows and in its result blocks. -/

@[expose] public section

set_option maxRecDepth 16384

noncomputable section

open Idealize.ShloMosaic Idealize.ShloMosaic.TcCoe Idealize.SL.Sem
open Idealize.ShloMosaic.Pipeline (Dat)

namespace Cert.CompressIdeal.Layer

open Cert.CompressIdeal Cert.CompressIdeal.Gen Cert.Layer

/-- An entry of a block's 32 rows laid side by side, after the position code is added: rows from 2048 on are zero. -/
def entry (a : Fin 2048 → Fin 64 → EReal) (pe : Fin 32 → Fin 64 → EReal) (n : Fin 128) (j : Fin 2048) : EReal :=
  (if h : 16 * n.val + j.val / 64 < 2048 then a ⟨16 * n.val + j.val / 64, h⟩ ⟨j.val % 64, by omega⟩ else 0) +
    pe ⟨j.val / 64, by omega⟩ ⟨j.val % 64, by omega⟩

/-- A block's hidden row. -/
def hidden (a : Fin 2048 → Fin 64 → EReal) (pe : Fin 32 → Fin 64 → EReal) (w : FVec Ideal S2048x128 .bf16) (n e : Fin 128) : EReal :=
  silu (∑ j, entry a pe n j * w (ix2 j e))

section Body

variable (c : Dev nD) (i : grid0.Coords) (arg2 : Memref sig .tc .vmem S1x2048x128 .bf16) (harg2 : arg2.IsWhole)
  (arg3 : Memref sig .tc .vmem S32x64 .f32) (harg3 : arg3.IsWhole) (arg4 : Memref sig .tc .vmem S32x64 .f32) (harg4 : arg4.IsWhole)
  (arg5 : Memref sig .tc .vmem S2048x128 .bf16) (harg5 : arg5.IsWhole) (arg6 : Memref sig .tc .vmem S2048x128 .bf16) (harg6 : arg6.IsWhole)
  (arg7 : Memref sig .tc .vmem S128x64 .bf16) (harg7 : arg7.IsWhole) (arg8 : Memref sig .tc .vmem S64x128 .bf16) (harg8 : arg8.IsWhole)
  (arg9 : Memref sig .tc .vmem S1x1x128x64 .f32) (harg9 : arg9.IsWhole) (arg10 : Memref sig .tc .vmem S1x1x64x128 .f32) (harg10 : arg10.IsWhole)
  (arg11 : Memref sig .tc .vmem S2064x128 .f32) (harg11 : arg11.IsWhole) (arg12 : Memref sig .tc .vmem S128x2048 .bf16) (harg12 : arg12.IsWhole)
  (arg13 : Memref sig .tc .vmem S128x2048 .bf16) (harg13 : arg13.IsWhole)
  (x0 : Vec Ideal S1x2048x128 .bf16) (x1 : Vec Ideal S32x64 .f32) (x2 : Vec Ideal S32x64 .f32) (x3 : Vec Ideal S2048x128 .bf16)
  (x4 : Vec Ideal S2048x128 .bf16) (x5 : Vec Ideal S128x64 .bf16) (x6 : Vec Ideal S64x128 .bf16)

/-- The rows the first scratch holds: the window's 2048, then zeros. -/
def rows (z : S2064x128.Idx) : EReal := if h : (z 0).val < 2048 then x0 (ix3 0 ⟨(z 0).val, h⟩ (z 1)) else 0

/-- The two stores that fill the first scratch. -/
def fill : List (View.Piece (Elt Ideal) S2064x128 .f32) :=
  [⟨Rect.unit ![2048, 0] S16x128.size inb_S2064x128_S16x128_2048_0, k0_pay3 (F := Ideal)⟩,
   ⟨Rect.unit ![0, 0] S2048x128.size inb_S2064x128_S2048x128_0_0, k0_pay2 (F := Ideal) x0⟩]

/-- A load of the first scratch reads those rows. -/
theorem rows_at (B : LoadRect S2064x128) (y : B.shape.Idx) : arg11.view.readCov (fill x0) B y = rows x0 (B.idx y) := by
  rw [View.readCov_eq_canon']
  beta_reduce
  generalize B.idx y = z
  have h := View.canon_append_of_pieces (Val := Elt Ideal) (rows x0) [] (fill x0) (by
    unfold fill
    refine List.forall_mem_cons.2 ⟨?_, List.forall_mem_cons.2 ⟨?_, fun _ h => by cases h⟩⟩
    · intro y
      change S16x128.Idx at y
      idx_vars y
      unfold rows
      rw [dif_neg (by show ¬ 2048 + 1 * y0.val < 2048; omega)]
      pointwise [k0_pay3]
    · intro y
      change S2048x128.Idx at y
      idx_vars y
      unfold rows
      rw [dif_pos (by show 0 + 1 * y0.val < 2048; have := y0.isLt; omega)]
      pointwise [k0_pay2]
      refine congrArg x0 (congrArg₂ (ix3 0) (Fin.ext ?_) (Fin.ext ?_))
      · show y0.val = 0 + 1 * y0.val
        omega
      · show y1.val = 0 + 1 * y1.val
        omega) z (by
    by_cases hz : (z 0).val < 2048
    · refine ⟨_, List.mem_cons_of_mem _ List.mem_cons_self, (Rect.mem_set_unit (inb := inb_S2064x128_S2048x128_0_0)).2 fun a => ?_⟩
      fin_cases a
      · exact ⟨Nat.zero_le _, by show (z 0).val < 0 + 2048; omega⟩
      · exact ⟨Nat.zero_le _, by have := (z 1).isLt; show (z 1).val < 0 + 128; simpa using this⟩
    · refine ⟨_, List.mem_cons_self, (Rect.mem_set_unit (inb := inb_S2064x128_S16x128_2048_0)).2 fun a => ?_⟩
      have h0 : (z 0).val < 2064 := (z 0).isLt
      fin_cases a
      · exact ⟨by show 2048 ≤ (z 0).val; omega, by show (z 0).val < 2048 + 16; omega⟩
      · exact ⟨Nat.zero_le _, by have := (z 1).isLt; show (z 1).val < 0 + 128; simpa using this⟩)
  rw [List.append_nil] at h
  exact h

/-- The blocks of the keys. -/
def keys (z : S128x2048.Idx) : EReal :=
  entry (fun r d => x0 (ix3 0 r ⟨d.val, by omega⟩)) (fun l d => x1 (ix2 l d)) (z 0) (z 1)

/-- The blocks of the values. -/
def vals (z : S128x2048.Idx) : EReal :=
  entry (fun r d => x0 (ix3 0 r ⟨64 + d.val, by omega⟩)) (fun l d => x2 (ix2 l d)) (z 0) (z 1)

/-- The `l`-th strided load of the keys, with its row of the position code, is the `l`-th band of the key blocks. -/
theorem key_band (l : ℕ) (hl : l < 32) (o : ℕ) (ho : o = 64 * l) (inb) (inb') (inb'') (y : S128x64.Idx) :
    k0_pay4 (F := Ideal) (arg11.view.readCov (fill x0) ⟨![l, 0], S128x128.size, ![16, 1], inb'⟩)
      (View.ld x1 (Rect.unit ![l, 0] S1x64.size inb'')) y = keys x0 x1 ((Rect.unit (s := S128x2048) ![0, o] S128x64.size inb).emb y) := by
  subst ho
  idx_vars y
  generalize hb : arg11.view.readCov (fill x0) ⟨![l, 0], S128x128.size, ![16, 1], inb'⟩ = b
  pointwise [k0_pay4]
  subst hb
  rw [rows_at]
  unfold keys rows entry
  have h0 := y0.isLt
  have h1 := y1.isLt
  have e0 : (((⟨![l, 0], S128x128.size, ![16, 1], inb'⟩ : LoadRect S2064x128).idx (ix2 y0 ⟨y1.val, by omega⟩)) 0).val = 16 * y0.val + l := by
    show l + 16 * y0.val = _
    omega
  have e1 : (((⟨![l, 0], S128x128.size, ![16, 1], inb'⟩ : LoadRect S2064x128).idx (ix2 y0 ⟨y1.val, by omega⟩)) 1).val = y1.val := by
    show 0 + 1 * y1.val = _
    omega
  generalize (⟨![l, 0], S128x128.size, ![16, 1], inb'⟩ : LoadRect S2064x128).idx (ix2 y0 ⟨y1.val, by omega⟩) = z at e0 e1 ⊢
  have w0 : ((Rect.unit (s := S128x2048) ![0, 64 * l] S128x64.size inb).emb (ix2 y0 y1) 0).val = y0.val := by
    show 0 + 1 * y0.val = _
    omega
  have w1 : ((Rect.unit (s := S128x2048) ![0, 64 * l] S128x64.size inb).emb (ix2 y0 y1) 1).val = 64 * l + y1.val := by
    show 64 * l + 1 * y1.val = _
    omega
  generalize (Rect.unit (s := S128x2048) ![0, 64 * l] S128x64.size inb).emb (ix2 y0 y1) = w at w0 w1 ⊢
  have q : (w 1).val / 64 = l := by omega
  have r : (w 1).val % 64 = y1.val := by omega
  refine congrArg₂ (· + ·) ?_ (congrArg x1 (congrArg₂ ix2 (Fin.ext q.symm) (Fin.ext r.symm)))
  by_cases h : 16 * y0.val + l < 2048
  · rw [dif_pos (by omega), dif_pos (by omega)]
    refine congrArg x0 (congrArg₂ (ix3 0) (Fin.ext ?_) (Fin.ext ?_))
    · show (z 0).val = 16 * (w 0).val + (w 1).val / 64
      omega
    · show (z 1).val = (w 1).val % 64
      omega
  · rw [dif_neg (by omega), dif_neg (by omega)]

/-- The same for the values. -/
theorem val_band (l : ℕ) (hl : l < 32) (o : ℕ) (ho : o = 64 * l) (inb) (inb') (inb'') (y : S128x64.Idx) :
    k0_pay5 (F := Ideal) (arg11.view.readCov (fill x0) ⟨![l, 0], S128x128.size, ![16, 1], inb'⟩)
      (View.ld x2 (Rect.unit ![l, 0] S1x64.size inb'')) y = vals x0 x2 ((Rect.unit (s := S128x2048) ![0, o] S128x64.size inb).emb y) := by
  subst ho
  idx_vars y
  generalize hb : arg11.view.readCov (fill x0) ⟨![l, 0], S128x128.size, ![16, 1], inb'⟩ = b
  pointwise [k0_pay5]
  subst hb
  rw [rows_at]
  unfold vals rows entry
  have h0 := y0.isLt
  have h1 := y1.isLt
  have e0 : (((⟨![l, 0], S128x128.size, ![16, 1], inb'⟩ : LoadRect S2064x128).idx (ix2 y0 ⟨64 + y1.val, by omega⟩)) 0).val = 16 * y0.val + l := by
    show l + 16 * y0.val = _
    omega
  have e1 : (((⟨![l, 0], S128x128.size, ![16, 1], inb'⟩ : LoadRect S2064x128).idx (ix2 y0 ⟨64 + y1.val, by omega⟩)) 1).val = 64 + y1.val := by
    show 0 + 1 * (64 + y1.val) = _
    omega
  generalize (⟨![l, 0], S128x128.size, ![16, 1], inb'⟩ : LoadRect S2064x128).idx (ix2 y0 ⟨64 + y1.val, by omega⟩) = z at e0 e1 ⊢
  have w0 : ((Rect.unit (s := S128x2048) ![0, 64 * l] S128x64.size inb).emb (ix2 y0 y1) 0).val = y0.val := by
    show 0 + 1 * y0.val = _
    omega
  have w1 : ((Rect.unit (s := S128x2048) ![0, 64 * l] S128x64.size inb).emb (ix2 y0 y1) 1).val = 64 * l + y1.val := by
    show 64 * l + 1 * y1.val = _
    omega
  generalize (Rect.unit (s := S128x2048) ![0, 64 * l] S128x64.size inb).emb (ix2 y0 y1) = w at w0 w1 ⊢
  have q : (w 1).val / 64 = l := by omega
  have r : (w 1).val % 64 = y1.val := by omega
  refine congrArg₂ (· + ·) ?_ (congrArg x2 (congrArg₂ ix2 (Fin.ext q.symm) (Fin.ext r.symm)))
  by_cases h : 16 * y0.val + l < 2048
  · rw [dif_pos (by omega), dif_pos (by omega)]
    refine congrArg x0 (congrArg₂ (ix3 0) (Fin.ext ?_) (Fin.ext ?_))
    · show (z 0).val = 16 * (w 0).val + (w 1).val / 64
      omega
    · show (z 1).val = 64 + (w 1).val % 64
      omega
  · rw [dif_neg (by omega), dif_neg (by omega)]

/-- What the body leaves in the block of the compressed keys. -/
theorem keys_out (n : Fin 128) (d : Fin 64) : out0_A_7 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 (ix4 0 0 n d) =
    ∑ e, hidden (fun r d => x0 (ix3 0 r ⟨d.val, by omega⟩)) (fun l d => x1 (ix2 l d)) x3 n e * x5 (ix2 e d) := by
  unfold out0_A_7
  rw [View.read_writes_junk_eq_canon]
  unfold kernelRun0_A
  dsimp only
  sl_unfold_words
  simp only [View.readAt_eq_ld, harg2.read_unread, harg3.read_unread, harg5.read_unread, harg7.read_unread]
  rw [View.canon_unit_zero (by decide)]
  generalize hK : View.readCov (Val := Elt Ideal) arg12.view _ _ = K
  have hk : ∀ n j, K (ix2 n j) = keys (View.ld x0 (Rect.unit ![0, 0, 0] S1x2048x128.size inb_S1x2048x128_S1x2048x128_0_0_0)) x1 (ix2 n j) := by
    intro n j
    subst hK
    rw [View.readCov_eq_canon']
    beta_reduce
    have hz : (Rect.unit (s := S128x2048) ![0, 0] S128x2048.size inb_S128x2048_S128x2048_0_0).toLoadRect.idx (ix2 n j) = ix2 n j := by
      funext a
      fin_cases a
      · exact Fin.ext (by show 0 + 1 * n.val = n.val; omega)
      · exact Fin.ext (by show 0 + 1 * j.val = j.val; omega)
    rw [hz]
    refine View.canon_apply_of_pieces (Val := Elt Ideal) (S := S128x2048) (e := .bf16) (keys (View.ld x0 (Rect.unit ![0, 0, 0] S1x2048x128.size
      inb_S1x2048x128_S1x2048x128_0_0_0)) x1) _ ?_ _ ?_
    · repeat' (first | refine List.forall_mem_nil _ | refine List.forall_mem_cons.2 ⟨?_, ?_⟩)
      · exact key_band arg11 _ _ 31 (by decide) 1984 rfl (by decide) (by decide) (by decide)
      · exact key_band arg11 _ _ 30 (by decide) 1920 rfl (by decide) (by decide) (by decide)
      · exact key_band arg11 _ _ 29 (by decide) 1856 rfl (by decide) (by decide) (by decide)
      · exact key_band arg11 _ _ 28 (by decide) 1792 rfl (by decide) (by decide) (by decide)
      · exact key_band arg11 _ _ 27 (by decide) 1728 rfl (by decide) (by decide) (by decide)
      · exact key_band arg11 _ _ 26 (by decide) 1664 rfl (by decide) (by decide) (by decide)
      · exact key_band arg11 _ _ 25 (by decide) 1600 rfl (by decide) (by decide) (by decide)
      · exact key_band arg11 _ _ 24 (by decide) 1536 rfl (by decide) (by decide) (by decide)
      · exact key_band arg11 _ _ 23 (by decide) 1472 rfl (by decide) (by decide) (by decide)
      · exact key_band arg11 _ _ 22 (by decide) 1408 rfl (by decide) (by decide) (by decide)
      · exact key_band arg11 _ _ 21 (by decide) 1344 rfl (by decide) (by decide) (by decide)
      · exact key_band arg11 _ _ 20 (by decide) 1280 rfl (by decide) (by decide) (by decide)
      · exact key_band arg11 _ _ 19 (by decide) 1216 rfl (by decide) (by decide) (by decide)
      · exact key_band arg11 _ _ 18 (by decide) 1152 rfl (by decide) (by decide) (by decide)
      · exact key_band arg11 _ _ 17 (by decide) 1088 rfl (by decide) (by decide) (by decide)
      · exact key_band arg11 _ _ 16 (by decide) 1024 rfl (by decide) (by decide) (by decide)
      · exact key_band arg11 _ _ 15 (by decide) 960 rfl (by decide) (by decide) (by decide)
      · exact key_band arg11 _ _ 14 (by decide) 896 rfl (by decide) (by decide) (by decide)
      · exact key_band arg11 _ _ 13 (by decide) 832 rfl (by decide) (by decide) (by decide)
      · exact key_band arg11 _ _ 12 (by decide) 768 rfl (by decide) (by decide) (by decide)
      · exact key_band arg11 _ _ 11 (by decide) 704 rfl (by decide) (by decide) (by decide)
      · exact key_band arg11 _ _ 10 (by decide) 640 rfl (by decide) (by decide) (by decide)
      · exact key_band arg11 _ _ 9 (by decide) 576 rfl (by decide) (by decide) (by decide)
      · exact key_band arg11 _ _ 8 (by decide) 512 rfl (by decide) (by decide) (by decide)
      · exact key_band arg11 _ _ 7 (by decide) 448 rfl (by decide) (by decide) (by decide)
      · exact key_band arg11 _ _ 6 (by decide) 384 rfl (by decide) (by decide) (by decide)
      · exact key_band arg11 _ _ 5 (by decide) 320 rfl (by decide) (by decide) (by decide)
      · exact key_band arg11 _ _ 4 (by decide) 256 rfl (by decide) (by decide) (by decide)
      · exact key_band arg11 _ _ 3 (by decide) 192 rfl (by decide) (by decide) (by decide)
      · exact key_band arg11 _ _ 2 (by decide) 128 rfl (by decide) (by decide) (by decide)
      · exact key_band arg11 _ _ 1 (by decide) 64 rfl (by decide) (by decide) (by decide)
      · exact key_band arg11 _ _ 0 (by decide) 0 rfl (by decide) (by decide) (by decide)
    · refine View.cover_of_tiledL (s := S128x2048) _ S128x64.size ?_ _
      sl_kernel_rfl
  clear hK
  have ex : View.ld x0 (Rect.unit ![0, 0, 0] S1x2048x128.size inb_S1x2048x128_S1x2048x128_0_0_0) = x0 := View.ld_unit_zero (by decide) _ _
  have e3 : View.ld x3 (Rect.unit ![0, 0] S2048x128.size inb_S2048x128_S2048x128_0_0) = x3 := View.ld_unit_zero (by decide) _ _
  have e5 : View.ld x5 (Rect.unit ![0, 0] S128x64.size inb_S128x64_S128x64_0_0) = x5 := View.ld_unit_zero (by decide) _ _
  rw [e3, e5]
  rw [ex] at hk
  pointwise [k0_pay85, k0_pay82, k0_pay83]
  simp only [hk]
  simp only [zero_sub]
  rfl

/-- What the body leaves in the block of the compressed values. -/
theorem vals_out (d : Fin 64) (n : Fin 128) : out0_A_8 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 (ix4 0 0 d n) =
    ∑ e, x6 (ix2 d e) * hidden (fun r d => x0 (ix3 0 r ⟨64 + d.val, by omega⟩)) (fun l d => x2 (ix2 l d)) x4 n e := by
  unfold out0_A_8
  rw [View.read_writes_junk_eq_canon]
  unfold kernelRun0_A
  dsimp only
  sl_unfold_words
  simp only [View.readAt_eq_ld, harg2.read_unread, harg4.read_unread, harg6.read_unread, harg8.read_unread]
  rw [View.canon_unit_zero (by decide)]
  generalize hK : View.readCov (Val := Elt Ideal) arg13.view _ _ = K
  have hk : ∀ n j, K (ix2 n j) = vals (View.ld x0 (Rect.unit ![0, 0, 0] S1x2048x128.size inb_S1x2048x128_S1x2048x128_0_0_0)) x2 (ix2 n j) := by
    intro n j
    subst hK
    rw [View.readCov_eq_canon']
    beta_reduce
    have hz : (Rect.unit (s := S128x2048) ![0, 0] S128x2048.size inb_S128x2048_S128x2048_0_0).toLoadRect.idx (ix2 n j) = ix2 n j := by
      funext a
      fin_cases a
      · exact Fin.ext (by show 0 + 1 * n.val = n.val; omega)
      · exact Fin.ext (by show 0 + 1 * j.val = j.val; omega)
    rw [hz]
    refine View.canon_apply_of_pieces (Val := Elt Ideal) (S := S128x2048) (e := .bf16) (vals (View.ld x0 (Rect.unit ![0, 0, 0] S1x2048x128.size
      inb_S1x2048x128_S1x2048x128_0_0_0)) x2) _ ?_ _ ?_
    · repeat' (first | refine List.forall_mem_nil _ | refine List.forall_mem_cons.2 ⟨?_, ?_⟩)
      · exact val_band arg11 _ _ 31 (by decide) 1984 rfl (by decide) (by decide) (by decide)
      · exact val_band arg11 _ _ 30 (by decide) 1920 rfl (by decide) (by decide) (by decide)
      · exact val_band arg11 _ _ 29 (by decide) 1856 rfl (by decide) (by decide) (by decide)
      · exact val_band arg11 _ _ 28 (by decide) 1792 rfl (by decide) (by decide) (by decide)
      · exact val_band arg11 _ _ 27 (by decide) 1728 rfl (by decide) (by decide) (by decide)
      · exact val_band arg11 _ _ 26 (by decide) 1664 rfl (by decide) (by decide) (by decide)
      · exact val_band arg11 _ _ 25 (by decide) 1600 rfl (by decide) (by decide) (by decide)
      · exact val_band arg11 _ _ 24 (by decide) 1536 rfl (by decide) (by decide) (by decide)
      · exact val_band arg11 _ _ 23 (by decide) 1472 rfl (by decide) (by decide) (by decide)
      · exact val_band arg11 _ _ 22 (by decide) 1408 rfl (by decide) (by decide) (by decide)
      · exact val_band arg11 _ _ 21 (by decide) 1344 rfl (by decide) (by decide) (by decide)
      · exact val_band arg11 _ _ 20 (by decide) 1280 rfl (by decide) (by decide) (by decide)
      · exact val_band arg11 _ _ 19 (by decide) 1216 rfl (by decide) (by decide) (by decide)
      · exact val_band arg11 _ _ 18 (by decide) 1152 rfl (by decide) (by decide) (by decide)
      · exact val_band arg11 _ _ 17 (by decide) 1088 rfl (by decide) (by decide) (by decide)
      · exact val_band arg11 _ _ 16 (by decide) 1024 rfl (by decide) (by decide) (by decide)
      · exact val_band arg11 _ _ 15 (by decide) 960 rfl (by decide) (by decide) (by decide)
      · exact val_band arg11 _ _ 14 (by decide) 896 rfl (by decide) (by decide) (by decide)
      · exact val_band arg11 _ _ 13 (by decide) 832 rfl (by decide) (by decide) (by decide)
      · exact val_band arg11 _ _ 12 (by decide) 768 rfl (by decide) (by decide) (by decide)
      · exact val_band arg11 _ _ 11 (by decide) 704 rfl (by decide) (by decide) (by decide)
      · exact val_band arg11 _ _ 10 (by decide) 640 rfl (by decide) (by decide) (by decide)
      · exact val_band arg11 _ _ 9 (by decide) 576 rfl (by decide) (by decide) (by decide)
      · exact val_band arg11 _ _ 8 (by decide) 512 rfl (by decide) (by decide) (by decide)
      · exact val_band arg11 _ _ 7 (by decide) 448 rfl (by decide) (by decide) (by decide)
      · exact val_band arg11 _ _ 6 (by decide) 384 rfl (by decide) (by decide) (by decide)
      · exact val_band arg11 _ _ 5 (by decide) 320 rfl (by decide) (by decide) (by decide)
      · exact val_band arg11 _ _ 4 (by decide) 256 rfl (by decide) (by decide) (by decide)
      · exact val_band arg11 _ _ 3 (by decide) 192 rfl (by decide) (by decide) (by decide)
      · exact val_band arg11 _ _ 2 (by decide) 128 rfl (by decide) (by decide) (by decide)
      · exact val_band arg11 _ _ 1 (by decide) 64 rfl (by decide) (by decide) (by decide)
      · exact val_band arg11 _ _ 0 (by decide) 0 rfl (by decide) (by decide) (by decide)
    · refine View.cover_of_tiledL (s := S128x2048) _ S128x64.size ?_ _
      sl_kernel_rfl
  clear hK
  have ex : View.ld x0 (Rect.unit ![0, 0, 0] S1x2048x128.size inb_S1x2048x128_S1x2048x128_0_0_0) = x0 := View.ld_unit_zero (by decide) _ _
  have e3 : View.ld x4 (Rect.unit ![0, 0] S2048x128.size inb_S2048x128_S2048x128_0_0) = x4 := View.ld_unit_zero (by decide) _ _
  have e5 : View.ld x6 (Rect.unit ![0, 0] S64x128.size inb_S64x128_S64x128_0_0) = x6 := View.ld_unit_zero (by decide) _ _
  rw [e3, e5]
  rw [ex] at hk
  pointwise [k0_pay1, k0_pay84]
  simp only [hk]
  simp only [zero_sub]
  rfl

end Body

end Cert.CompressIdeal.Layer
-- ==== Proof.CompressValue.lean ====
module

public import proofs.«01_k».proof.Defs
public import proofs.«01_k».proof.Proof.Gen.CompressRefIdeal
public import proofs.«01_k».proof.Proof.Gen.CompressRefIdeal.Run
public import proofs.«01_k».proof.Proof.Gen.CompressRefIdeal.Read
public import proofs.«01_k».proof.Proof.CompressKernel

/-! The compressed keys and values: blocks of 32 rows, 16 rows apart, through a two-layer perceptron. -/

@[expose] public section

set_option maxRecDepth 16384

noncomputable section

open Idealize.ShloMosaic Idealize.ShloMosaic.TcCoe Idealize.SL.Sem
open Idealize.ShloMosaic.Pipeline (Dat)

namespace Cert.CompressIdeal.Layer

open Cert.CompressIdeal Cert.CompressIdeal.Gen Cert.Layer

variable (m : (ℓ : Loc nD τ sig) → Buf (Elt Ideal) ℓ)

/-- Where each window's block lies at grid point `t`. -/
theorem idx : ∀ t : Fin cfg0.N, win0_0.index t = ![t.val / 4, 0, 32 + 2 * (t.val % 4)] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![t.val / 4, t.val % 4, 0, 0] ∧ win0_8.index t = ![t.val / 4, t.val % 4, 0, 0] :=
  (by decide +kernel : ∀ t : Fin grid0.N, _)

/-- The compressed keys over whole arrays. -/
def Gk (X : FVec Ideal S8x2048x7168 .bf16) (pe : FVec Ideal S32x64 .f32) (w1 : FVec Ideal S2048x128 .bf16)
    (w2 : FVec Ideal S128x64 .bf16) : FVec Ideal S8x4x128x64 .f32 := fun i =>
  ∑ e, hidden (fun r d => X (ix3 (i 0) r ⟨4096 + ((i 1).val * 256 + d.val), by have := (i 1).isLt; have : (i 1).val < 4 := this; omega⟩))
    (fun l d => pe (ix2 l d)) w1 (i 2) e * w2 (ix2 e (i 3))

/-- The compressed values over whole arrays, transposed. -/
def Gv (X : FVec Ideal S8x2048x7168 .bf16) (pe : FVec Ideal S32x64 .f32) (w1 : FVec Ideal S2048x128 .bf16)
    (w2 : FVec Ideal S64x128 .bf16) : FVec Ideal S8x4x64x128 .f32 := fun i =>
  ∑ e, w2 (ix2 (i 2) e) * hidden (fun r d => X (ix3 (i 0) r ⟨4096 + ((i 1).val * 256 + (64 + d.val)), by have := (i 1).isLt; have : (i 1).val < 4 := this; omega⟩))
    (fun l d => pe (ix2 l d)) w1 (i 3) e

theorem final0 (c : Dev nD) : (dats m 0 c).arrAt 7 (cfgs 0).N = Gk (m (c.tc.loc main_arg0)) (m (c.tc.loc main_arg1))
      (m (c.tc.loc main_arg3)) (m (c.tc.loc main_arg5)) := by
  refine (dats m 0 c).arrAt_eq_of_covers 7 _ (by decide +kernel) fun t _ y => ?_
  blk_simp
  have e1 : iblk m c 1 t = m (c.tc.loc main_arg1) := by blk_ext! [iblk, V, idx t]
  have e3 : iblk m c 3 t = m (c.tc.loc main_arg3) := by blk_ext! [iblk, V, idx t]
  have e5 : iblk m c 5 t = m (c.tc.loc main_arg5) := by blk_ext! [iblk, V, idx t]
  rw [after0_7]
  unfold outsAt0
  idx_vars y
  obtain rfl : y0 = 0 := Subsingleton.elim _ _
  obtain rfl : y1 = 0 := Subsingleton.elim _ _
  rw [keys_out, e1, e3, e5]
  generalize hi : ((View.whole main_v0_0).slice (win0_7.rect t)).emb (ix4 0 0 y2 y3) = i
  change S8x4x128x64.Idx at i
  have i2 : i 2 = y2 := by subst hi; exact Fin.ext (by blk_simp [idx t]; try simp)
  have i3 : i 3 = y3 := by subst hi; exact Fin.ext (by blk_simp [idx t]; try simp)
  have hx : ∀ (r : Fin 2048) (d : Fin 64), iblk m c 0 t (ix3 0 r ⟨d.val, by omega⟩) =
      m (c.tc.loc main_arg0) (ix3 (i 0) r ⟨4096 + ((i 1).val * 256 + d.val), by have := (i 1).isLt; have : (i 1).val < 4 := this; omega⟩) := by
    subst hi; intro r d; blk_ext [iblk, V, idx t]
  simp only [hx, Gk, i2, i3]

theorem final1 (c : Dev nD) : (dats m 0 c).arrAt 8 (cfgs 0).N = Gv (m (c.tc.loc main_arg0)) (m (c.tc.loc main_arg2))
      (m (c.tc.loc main_arg4)) (m (c.tc.loc main_arg6)) := by
  refine (dats m 0 c).arrAt_eq_of_covers 8 _ (by decide +kernel) fun t _ y => ?_
  blk_simp
  have e1 : iblk m c 2 t = m (c.tc.loc main_arg2) := by blk_ext! [iblk, V, idx t]
  have e3 : iblk m c 4 t = m (c.tc.loc main_arg4) := by blk_ext! [iblk, V, idx t]
  have e5 : iblk m c 6 t = m (c.tc.loc main_arg6) := by blk_ext! [iblk, V, idx t]
  rw [after0_8]
  unfold outsAt0
  idx_vars y
  obtain rfl : y0 = 0 := Subsingleton.elim _ _
  obtain rfl : y1 = 0 := Subsingleton.elim _ _
  rw [vals_out, e1, e3, e5]
  generalize hi : ((View.whole main_v0_1).slice (win0_8.rect t)).emb (ix4 0 0 y2 y3) = i
  change S8x4x64x128.Idx at i
  have i2 : i 2 = y2 := by subst hi; exact Fin.ext (by blk_simp [idx t]; try simp)
  have i3 : i 3 = y3 := by subst hi; exact Fin.ext (by blk_simp [idx t]; try simp)
  have hx : ∀ (r : Fin 2048) (d : Fin 64), iblk m c 0 t (ix3 0 r ⟨64 + d.val, by omega⟩) =
      m (c.tc.loc main_arg0) (ix3 (i 0) r ⟨4096 + ((i 1).val * 256 + (64 + d.val)), by have := (i 1).isLt; have : (i 1).val < 4 := this; omega⟩) := by
    subst hi; intro r d; blk_ext [iblk, V, idx t]
  simp only [hx, Gv, i2, i3]

end Cert.CompressIdeal.Layer

namespace Cert.CompressRefIdeal.Layer

open Cert.CompressRefIdeal Cert.CompressRefIdeal.Read Cert.CompressIdeal.Layer Cert.Layer

variable (x0 : FVec Ideal S8x2048x7168 .bf16) (x1 x2 : FVec Ideal S32x64 .f32) (x3 x4 : FVec Ideal S2048x128 .bf16)
  (x5 : FVec Ideal S128x64 .bf16) (x6 : FVec Ideal S64x128 .bf16)

theorem pad_keys (b : Fin 8) (r : Fin 2064) (g : Fin 4) (d : Fin 64) : val_main_v4 (F := Ideal) x0 (ix4 b r g d) =
    if h : r.val < 2048 then x0 (ix3 b ⟨r.val, h⟩ ⟨4096 + (g.val * 256 + d.val), by omega⟩) else 0 := by
  have hz : (FloatOps.sitofp (F := Ideal) FTy.f32 (0#32) : EReal) = 0 := by simp [FloatOps.sitofp]
  pointwise [val_main_v4, val_main_v3, val_main_v2, val_main_v1, val_main_v0, val_main_call0_v0, val_main_c]
  rw [hz]

theorem blk_keys (b : Fin 8) (g : Fin 4) (n : Fin 128) (j : Fin 2048) : val_main_v14 (F := Ideal) x0 x1 (ix4 b g n j) =
    entry (fun r d => x0 (ix3 b r ⟨4096 + (g.val * 256 + d.val), by omega⟩)) (fun l d => x1 (ix2 l d)) n j := by
  have hp := pad_keys x0 b
  unfold val_main_v14 val_main_v13 val_main_v12 val_main_v11 val_main_v10 val_main_v9 val_main_v8 val_main_v7 val_main_v6 val_main_v5
  generalize val_main_v4 (F := Ideal) x0 = p at hp ⊢
  pointwise
  have key : ∀ (r : Fin 2064) (d : Fin 64), r.val = 16 * n.val + j.val / 64 → d.val = j.val % 64 → p (ix4 b r g d) =
      if h : 16 * n.val + j.val / 64 < 2048 then x0 (ix3 b ⟨16 * n.val + j.val / 64, h⟩ ⟨4096 + (g.val * 256 + j.val % 64), by omega⟩) else 0 := by
    intro r d hr hd
    have er : r = ⟨16 * n.val + j.val / 64, by omega⟩ := Fin.ext hr
    have ed : d = ⟨j.val % 64, by omega⟩ := Fin.ext hd
    rw [er, ed]
    exact hp _ _ _
  unfold entry
  congr 1
  beta_reduce
  by_cases h1 : j.val / 64 < 16
  · rw [dif_pos h1]
    exact key _ _ (by simp only []; omega) rfl
  · rw [dif_neg h1]
    exact key _ _ (by simp only []; omega) rfl

theorem dot_keys (b : Fin 8) (g : Fin 4) (n e : Fin 128) : val_main_v16 (F := Ideal) x0 x1 x3 (ix4 b g n e) =
    ∑ j, entry (fun r d => x0 (ix3 b r ⟨4096 + (g.val * 256 + d.val), by omega⟩)) (fun l d => x1 (ix2 l d)) n j * x3 (ix2 j e) := by
  have hp := blk_keys x0 x1 b g n
  unfold val_main_v16 val_main_v15
  generalize val_main_v14 (F := Ideal) x0 x1 = p at hp ⊢
  pointwise
  simp only [hp]

theorem act_keys (b : Fin 8) (g : Fin 4) (n e : Fin 128) : val_main_v17 (F := Ideal) x0 x1 x3 (ix4 b g n e) =
    Cert.CompressIdeal.Layer.hidden (fun r d => x0 (ix3 b r ⟨4096 + (g.val * 256 + d.val), by omega⟩)) (fun l d => x1 (ix2 l d)) x3 n e := by
  unfold Cert.CompressIdeal.Layer.hidden
  rw [← dot_keys]
  unfold val_main_v17 val_main_call1_v5 val_main_call1_v4 val_main_call1_v3 val_main_call1_v2 val_main_call1_v1 val_main_call1_v0 val_main_call1_cst val_main_call1_cst_0
  generalize val_main_v16 (F := Ideal) x0 x1 x3 = p
  pointwise
  rfl

theorem keys_eq : val_main_v19 (F := Ideal) x0 x1 x3 x5 = Gk x0 x1 x3 x5 := by
  funext i
  idx_vars i
  have hp := act_keys x0 x1 x3 i0 i1 i2
  unfold val_main_v19 val_main_v18 Gk
  generalize val_main_v17 (F := Ideal) x0 x1 x3 = p at hp ⊢
  pointwise
  simp only [hp]

theorem pad_vals (b : Fin 8) (r : Fin 2064) (g : Fin 4) (d : Fin 64) : val_main_v22 (F := Ideal) x0 (ix4 b r g d) =
    if h : r.val < 2048 then x0 (ix3 b ⟨r.val, h⟩ ⟨4096 + (g.val * 256 + (64 + d.val)), by omega⟩) else 0 := by
  have hz : (FloatOps.sitofp (F := Ideal) FTy.f32 (0#32) : EReal) = 0 := by simp [FloatOps.sitofp]
  pointwise [val_main_v22, val_main_v20, val_main_v2, val_main_v1, val_main_v0, val_main_call2_v0, val_main_c_0]
  rw [hz]

theorem blk_vals (b : Fin 8) (g : Fin 4) (n : Fin 128) (j : Fin 2048) : val_main_v32 (F := Ideal) x0 x2 (ix4 b g n j) =
    entry (fun r d => x0 (ix3 b r ⟨4096 + (g.val * 256 + (64 + d.val)), by omega⟩)) (fun l d => x2 (ix2 l d)) n j := by
  have hp := pad_vals x0 b
  unfold val_main_v32 val_main_v31 val_main_v30 val_main_v29 val_main_v28 val_main_v27 val_main_v26 val_main_v25 val_main_v24 val_main_v23
  generalize val_main_v22 (F := Ideal) x0 = p at hp ⊢
  pointwise
  have key : ∀ (r : Fin 2064) (d : Fin 64), r.val = 16 * n.val + j.val / 64 → d.val = j.val % 64 → p (ix4 b r g d) =
      if h : 16 * n.val + j.val / 64 < 2048 then x0 (ix3 b ⟨16 * n.val + j.val / 64, h⟩ ⟨4096 + (g.val * 256 + (64 + j.val % 64)), by omega⟩) else 0 := by
    intro r d hr hd
    have er : r = ⟨16 * n.val + j.val / 64, by omega⟩ := Fin.ext hr
    have ed : d = ⟨j.val % 64, by omega⟩ := Fin.ext hd
    rw [er, ed]
    exact hp _ _ _
  unfold entry
  congr 1
  beta_reduce
  by_cases h1 : j.val / 64 < 16
  · rw [dif_pos h1]
    exact key _ _ (by simp only []; omega) rfl
  · rw [dif_neg h1]
    exact key _ _ (by simp only []; omega) rfl

theorem dot_vals (b : Fin 8) (g : Fin 4) (n e : Fin 128) : val_main_v34 (F := Ideal) x0 x2 x4 (ix4 b g n e) =
    ∑ j, entry (fun r d => x0 (ix3 b r ⟨4096 + (g.val * 256 + (64 + d.val)), by omega⟩)) (fun l d => x2 (ix2 l d)) n j * x4 (ix2 j e) := by
  have hp := blk_vals x0 x2 b g n
  unfold val_main_v34 val_main_v33
  generalize val_main_v32 (F := Ideal) x0 x2 = p at hp ⊢
  pointwise
  simp only [hp]

theorem act_vals (b : Fin 8) (g : Fin 4) (n e : Fin 128) : val_main_v35 (F := Ideal) x0 x2 x4 (ix4 b g n e) =
    Cert.CompressIdeal.Layer.hidden (fun r d => x0 (ix3 b r ⟨4096 + (g.val * 256 + (64 + d.val)), by omega⟩)) (fun l d => x2 (ix2 l d)) x4 n e := by
  unfold Cert.CompressIdeal.Layer.hidden
  rw [← dot_vals]
  unfold val_main_v35 val_main_call3_v5 val_main_call3_v4 val_main_call3_v3 val_main_call3_v2 val_main_call3_v1 val_main_call3_v0 val_main_call3_cst val_main_call3_cst_0
  generalize val_main_v34 (F := Ideal) x0 x2 x4 = p
  pointwise
  rfl

theorem vals_eq : val_main_v38 (F := Ideal) x0 x2 x4 x6 = Gv x0 x2 x4 x6 := by
  funext i
  idx_vars i
  have hp := act_vals x0 x2 x4 i0 i1
  unfold val_main_v38 val_main_v37 val_main_v36 val_main_v21 Gv
  generalize val_main_v35 (F := Ideal) x0 x2 x4 = p at hp ⊢
  pointwise
  simp only [hp, mul_comm]

end Cert.CompressRefIdeal.Layer

namespace Cert.Proof

theorem compress_value : Cert.algebraic_CompressIdeal_CompressRefIdeal := by
  pair_intro
  · run_from Cert.CompressIdeal.Gen.run_main m g
  · run_from Cert.CompressRefIdeal.Value.run m' g'
    · rw [Cert.CompressIdeal.Layer.final0 m c, Cert.CompressRefIdeal.Read.val_main_v19_eq, Cert.CompressRefIdeal.Layer.keys_eq]
      simp only [hagree c]
    · rw [Cert.CompressIdeal.Layer.final1 m c, Cert.CompressRefIdeal.Read.val_main_v38_eq, Cert.CompressRefIdeal.Layer.vals_eq]
      simp only [hagree c]

end Cert.Proof
-- ==== Proof.SelectFormulas.lean ====
module

public import proofs.«01_k».proof.Defs
public import proofs.«01_k».proof.Proof.Gen.CmpSelectIdeal
public import proofs.«01_k».proof.Proof.Gen.CmpSelectIdeal.Frame
public import proofs.«01_k».proof.Proof.Gen.CmpSelectRefIdeal
public import proofs.«01_k».proof.Proof.Gen.CmpSelectRefIdeal.Run
public import proofs.«01_k».proof.Proof.Gen.CmpSelectRefIdeal.Read
public import proofs.«01_k».proof.Proof.Formulas
public import Idealize.ShloMosaic.Lib.Pipeline.CanonAppend
public import Idealize.ShloMosaic.Lib.SortFacts

@[expose] public section

set_option maxRecDepth 16384

noncomputable section

open Idealize.ShloMosaic Idealize.ShloMosaic.TcCoe Idealize.SL.Sem
open Idealize.ShloMosaic.Pipeline (Dat)

namespace Cert.CmpSelectIdeal.Layer

open Cert.CmpSelectIdeal Cert.CmpSelectIdeal.Gen Cert.Layer

/-- The greatest of a column of scores, from the word that stands for minus infinity. -/
def peak (s : Fin 128 → EReal) : EReal := Finset.fold max (Ideal.ofBits .f32 0xFF800000#32) s Finset.univ

/-- What a column is lowered by: its greatest score, or nothing where every score is masked. -/
def ground (s : Fin 128 → EReal) : EReal := if peak s = Ideal.ofBits .f32 0xFF800000#32 then 0 else peak s

/-- The sum of a lowered column's exponentials. -/
def mass (s : Fin 128 → EReal) : EReal := ∑ k, Ideal.exp (s k - ground s)

/-- The softmax of a column, nothing where every score is masked. -/
def prob (s : Fin 128 → EReal) (n : Fin 128) : EReal :=
  Ideal.div (Ideal.exp (s n - ground s)) (if 0 < mass s then mass s else 1)

theorem sel_oeq (x y a b : EReal) :
    Scalar.select (FloatOps.cmpf (F := Ideal) (φ := .f32) .oeq x y) a b = if x = y then a else b := by pointwise

/-- The score of token `t` against block `n`: their product lowered by the slope times the distance, masked where the block ends after the token. -/
def logit (q k : Fin 64 → EReal) (sl : EReal) (t n : ℕ) : EReal :=
  Scalar.select (IntOp.cmpi .sle (IntOp.addi (IntOp.muli 16#32 (BitVec.ofNat 32 n)) 31#32) (BitVec.ofNat 32 t))
    ((∑ x, k x * q x) - sl * (FloatOps.sitofp (F := Ideal) .f32 (BitVec.ofNat 32 t)
      - (FloatOps.sitofp (F := Ideal) .f32 (BitVec.ofNat 32 n) * Ideal.ofBits .f32 0x41800000#32 + Ideal.ofBits .f32 0x41780000#32)))
    (Ideal.ofBits .f32 0xFF800000#32)

/-- A selection block's score: its share of the attention, raised where it is the first block, the token's own or the one before, masked where it begins after the token. -/
def score (imp : EReal) (own T J : BitVec 32) : EReal :=
  Scalar.select (IntOp.cmpi .sle (IntOp.muli 64#32 J) T)
    (imp + Scalar.select (IntOp.ori (IntOp.ori (IntOp.cmpi .eq J 0#32) (IntOp.cmpi .eq J own)) (IntOp.cmpi .eq J (IntOp.subi own 1#32)))
      (Ideal.ofBits .f32 1176256512#32) 0)
    (Ideal.ofBits .f32 0xFF800000#32)

theorem word_at (c : Fin 4) (t : Fin 512) :
    IntOp.addi (BitVec.ofNat 32 t) (Scalar.muli (BitVec.ofNat 32 c) 512#32) = BitVec.ofNat 32 (512 * c + t) := by
  revert c t; decide +kernel

theorem vis_words (n : Fin 128) (t : Fin 2048) :
    IntOp.andi (IntOp.cmpi .sle (IntOp.addi (IntOp.muli 16#32 (BitVec.ofNat 32 n)) 31#32) (BitVec.ofNat 32 t)) (IntOp.cmpi .slt (BitVec.ofNat 32 n) 127#32)
      = IntOp.cmpi .sle (IntOp.addi (IntOp.muli 16#32 (BitVec.ofNat 32 n)) 31#32) (BitVec.ofNat 32 t) := by
  by_cases h : n.val < 127
  · have e : IntOp.cmpi .slt (BitVec.ofNat 32 n) 127#32 = 1#1 := by
      revert h; revert n; decide +kernel
    rw [e]; generalize IntOp.cmpi _ _ _ = z; revert z; decide
  · obtain rfl : n = 127 := by apply Fin.ext; have := n.isLt; show n.val = 127; omega
    revert t; decide +kernel

/-- The selection block a token stands in. -/
def own (t : ℕ) : BitVec 32 := BitVec.ofNat 32 (t / 64)

theorem own_kernel (t : Fin 2048) :
    Scalar.select
      (IntOp.andi
        (IntOp.cmpi .ne
          (IntOp.subi (BitVec.setWidth 32 (IntOp.cmpi .sgt (BitVec.ofNat 32 t) 0#32)) (BitVec.setWidth 32 (IntOp.cmpi .slt (BitVec.ofNat 32 t) 0#32)))
          (Scalar.subi (Scalar.extui (Scalar.cmpi .sgt 64#32 0#32)) (Scalar.extui (Scalar.cmpi .slt 64#32 0#32))))
        (IntOp.cmpi .ne (IntOp.remsi ArithUnit.vector (BitVec.ofNat 32 t) 64#32) 0#32))
      (IntOp.subi (IntOp.divsi ArithUnit.vector (BitVec.ofNat 32 t) 64#32) 1#32)
      (IntOp.divsi ArithUnit.vector (BitVec.ofNat 32 t) 64#32) = own t := by
  revert t; decide +kernel

theorem own_reference (t : Fin 2048) :
    Scalar.select
      (IntOp.andi
        (IntOp.cmpi .ne
          (if BitVec.ofNat 32 t = 0 then (0 : BitVec 32) else if (BitVec.ofNat 32 t).msb = true then -1 else 1)
          (if 64#32 = 0 then (0 : BitVec 32) else if (64#32).msb = true then -1 else 1))
        (IntOp.cmpi .ne (IntOp.remsi ArithUnit.host (BitVec.ofNat 32 t) 64#32) 0#32))
      (IntOp.subi (IntOp.divsi ArithUnit.host (BitVec.ofNat 32 t) 64#32) 1#32)
      (IntOp.divsi ArithUnit.host (BitVec.ofNat 32 t) 64#32) = own t := by
  revert t; decide +kernel

theorem insertBefore_mem {ι : Type} (before : ι → ι → Bool) (a : ι) (l : List ι) (c : ι) :
    c ∈ insertBefore before a l ↔ c = a ∨ c ∈ l := by
  induction l with
  | nil => simp [insertBefore]
  | cons b l ih => unfold insertBefore; split <;> simp [ih] <;> tauto

/-- The order a stable sort by decreasing score puts places in. -/
def Ahead {N : ℕ} (S : Fin N → EReal) (k j : Fin N) : Prop := S j < S k ∨ (S k = S j ∧ k < j)

theorem Ahead.asymm {N : ℕ} {S : Fin N → EReal} {k j : Fin N} (h : Ahead S k j) (h' : Ahead S j k) : False := by
  rcases h with h | ⟨e, h⟩ <;> rcases h' with h' | ⟨e', h'⟩
  · exact lt_asymm h h'
  · exact absurd h (by rw [e']; exact lt_irrefl _)
  · exact absurd h' (by rw [e]; exact lt_irrefl _)
  · exact lt_asymm h h'

theorem mem_stable {ι : Type} (before : ι → ι → Bool) (l : List ι) (c : ι) : c ∈ stableSort before l ↔ c ∈ l := by
  induction l with
  | nil => simp [stableSort]
  | cons a l ih => unfold stableSort; rw [insertBefore_mem, ih]; simp

theorem sorted_insert {N : ℕ} (S : Fin N → EReal) (a : Fin N) (l : List (Fin N)) (hl : l.Pairwise (Ahead S)) (ha : ∀ b ∈ l, a < b) :
    (insertBefore (fun k k' => decide (S k' < S k)) a l).Pairwise (Ahead S) := by
  induction l with
  | nil => simp [insertBefore]
  | cons b l ih =>
    have hb := List.pairwise_cons.1 hl
    unfold insertBefore
    split
    · rename_i h
      have h := of_decide_eq_true h
      refine List.pairwise_cons.2 ⟨fun c hc => ?_, ih hb.2 fun c hc => ha c (List.mem_cons_of_mem _ hc)⟩
      rcases (insertBefore_mem _ _ _ _).1 hc with rfl | hc
      · exact Or.inl h
      · exact hb.1 c hc
    · rename_i h
      have h : S b ≤ S a := not_lt.1 fun h' => h (decide_eq_true h')
      refine List.pairwise_cons.2 ⟨fun c hc => ?_, hl⟩
      have hac := ha c hc
      have hbc : S c ≤ S b := by
        rcases List.mem_cons.1 hc with rfl | hc
        · exact le_rfl
        · rcases hb.1 c hc with h | ⟨h, _⟩
          · exact h.le
          · exact h.ge
      rcases (hbc.trans h).lt_or_eq with h | h
      · exact Or.inl h
      · exact Or.inr ⟨h.symm, hac⟩

theorem sorted_stable {N : ℕ} (S : Fin N → EReal) (l : List (Fin N)) (hl : l.Pairwise (· < ·)) :
    (stableSort (fun k k' => decide (S k' < S k)) l).Pairwise (Ahead S) := by
  induction l with
  | nil => simp [stableSort]
  | cons a l ih =>
    have h := List.pairwise_cons.1 hl
    unfold stableSort
    exact sorted_insert S a _ (ih h.2) fun b hb => h.1 b ((mem_stable _ _ _).1 hb)

theorem sorted_from {N : ℕ} (S : Fin N → EReal) (i i' : Fin N) (h : i < i') :
    Ahead S (sortedFrom (fun k k' => decide (S k' < S k)) i) (sortedFrom (fun k k' => decide (S k' < S k)) i') := by
  have hp := sorted_stable S (List.finRange N) (List.pairwise_lt_finRange N)
  unfold sortedFrom sortPositions
  exact List.pairwise_iff_get.1 hp _ _ h

theorem rank_sorted {N : ℕ} (S : Fin N → EReal) (i : Fin N) [DecidableRel (Ahead S)] :
    (Finset.univ.filter fun k => Ahead S k (sortedFrom (fun k k' => decide (S k' < S k)) i)).card = i := by
  set σ : Fin N → Fin N := sortedFrom (fun k k' => decide (S k' < S k)) with hσ
  have hinj : Function.Injective σ := sortedFrom_injective _
  have hsur : Function.Surjective σ := sortedFrom_surjective _
  have e : (Finset.univ.filter fun k => Ahead S k (σ i)) = (Finset.univ.filter fun k : Fin N => k < i).image σ := by
    ext k
    simp only [Finset.mem_filter, Finset.mem_univ, true_and, Finset.mem_image]
    constructor
    · intro h
      obtain ⟨m, rfl⟩ := hsur k
      refine ⟨m, ?_, rfl⟩
      by_contra hm
      rcases (not_lt.1 hm).lt_or_eq with hm | rfl
      · exact Ahead.asymm h (sorted_from S _ _ hm)
      · exact Ahead.asymm h h
    · rintro ⟨m, hm, rfl⟩
      exact sorted_from S _ _ hm
  rw [e, Finset.card_image_of_injective _ hinj]
  have e : (Finset.univ.filter fun k : Fin N => k < i) = Finset.Iio i := by ext; simp
  rw [e, Fin.card_Iio]

/-- A place is one of the first eight sorted exactly where fewer than eight go ahead of it. -/
theorem first_eight (S : Fin 32 → EReal) [DecidableRel (Ahead S)] (j : Fin 32) :
    (∑ i : Fin 8, if sortedFrom (fun k k' => decide (S k' < S k)) (⟨i, by omega⟩ : Fin 32) = j then (1 : EReal) else 0)
      = if (Finset.univ.filter fun k => Ahead S k j).card < 8 then 1 else 0 := by
  obtain ⟨m, rfl⟩ := sortedFrom_surjective (fun k k' => decide (S k' < S k)) j
  rw [rank_sorted]
  have hinj : Function.Injective (sortedFrom (fun k k' => decide (S k' < S k))) := sortedFrom_injective _
  simp only [hinj.eq_iff, Fin.ext_iff]
  by_cases h : m.val < 8
  · rw [if_pos h, Finset.sum_eq_single (⟨m, h⟩ : Fin 8)]
    · simp
    · intro b _ hb
      rw [if_neg]; intro e; exact hb (Fin.ext e)
    · simp
  · rw [if_neg h]
    refine Finset.sum_eq_zero fun b _ => if_neg fun e => h ?_
    have := b.isLt; omega

/-- Whether block `k` goes ahead of block `j`: a greater score, or an equal one and an earlier place. -/
def ahead (col : Fin 32 → EReal) (j : Fin 32) (k : Fin 32) : BitVec 1 :=
  IntOp.ori (BitVec.ofBool (decide (col j < col k)))
    (IntOp.andi (BitVec.ofBool (decide (col k = col j))) (IntOp.cmpi .sgt (BitVec.ofNat 32 j) (BitVec.ofNat 32 k)))

/-- The number of the first `m` blocks that go ahead of block `j`, as the kernel counts it. -/
def tally (col : Fin 32 → EReal) (j : Fin 32) : ℕ → BitVec 32
  | 0 => 0#32
  | m + 1 => IntOp.addi (tally col j m) (BitVec.setWidth 32 (ahead col j (Fin.ofNat 32 m)))

open scoped Classical in
theorem ahead_eq (col : Fin 32 → EReal) (j k : Fin 32) :
    ahead col j k = BitVec.ofBool (decide (Ahead col k j)) := by
  have h : IntOp.cmpi .sgt (BitVec.ofNat 32 j) (BitVec.ofNat 32 k) = BitVec.ofBool (decide (k < j)) := by
    revert j k; decide +kernel
  unfold ahead Ahead
  rw [h]
  by_cases h1 : col j < col k <;> by_cases h2 : col k = col j <;> by_cases h3 : k < j <;> simp [h1, h2, h3] <;> rfl

theorem tally_eq (col : Fin 32 → EReal) (j : Fin 32) (m : ℕ) :
    tally col j m = BitVec.ofNat 32 (∑ k ∈ Finset.range m, (ahead col j (Fin.ofNat 32 k)).toNat) := by
  induction m with
  | zero => rfl
  | succ m ih =>
    rw [Finset.sum_range_succ, BitVec.ofNat_add, ← ih]
    have h : ∀ z : BitVec 1, BitVec.setWidth 32 z = BitVec.ofNat 32 z.toNat := by decide
    show tally col j m + BitVec.setWidth 32 _ = _
    rw [h]

open scoped Classical in
theorem tally_card (col : Fin 32 → EReal) (j : Fin 32) :
    tally col j 32 = BitVec.ofNat 32 (Finset.univ.filter fun k => Ahead col k j).card := by
  rw [tally_eq, Finset.sum_range, Finset.card_filter]
  refine congrArg (BitVec.ofNat 32) ?_
  refine Finset.sum_congr rfl fun k _ => ?_
  rw [ahead_eq]
  have : Fin.ofNat 32 k.val = k := Fin.ext (Nat.mod_eq_of_lt k.isLt)
  rw [this]
  by_cases h : Ahead col k j <;> simp [h]

open scoped Classical in
theorem chosen (col : Fin 32 → EReal) (j : Fin 32) :
    FloatOps.sitofp (F := Ideal) .f32 (BitVec.setWidth 32 (IntOp.cmpi .slt (tally col j 32) 8#32))
      = if (Finset.univ.filter fun k => Ahead col k j).card < 8 then (1 : EReal) else 0 := by
  rw [tally_card]
  have hc : (Finset.univ.filter fun k => Ahead col k j).card < 33 :=
    lt_of_le_of_lt (Finset.card_le_univ _) (by simp)
  generalize (Finset.univ.filter fun k => Ahead col k j).card = m at hc
  have h : ∀ m : Fin 33, IntOp.cmpi .slt (BitVec.ofNat 32 m) 8#32 = BitVec.ofBool (decide (m.val < 8)) := by decide +kernel
  rw [h ⟨m, hc⟩]
  by_cases h : m < 8
  · rw [if_pos h]; simp only [h, decide_true]; show ((((1#32 : BitVec 32).toInt : ℝ)) : EReal) = 1; simp
  · rw [if_neg h]; simp only [h, decide_false]; show ((((0#32 : BitVec 32).toInt : ℝ)) : EReal) = 0; simp

/-- A token's column of masked scores against the compressed blocks. -/
def logits (q : FVec Ideal S8x16x1536x128 .bf16) (k : FVec Ideal S8x4x128x64 .f32) (sl : FVec Ideal S4x4x1x1 .f32)
    (b : Fin 8) (g h : Fin 4) (t : Fin 2048) (n : Fin 128) : EReal :=
  logit (fun x => q (ix4 b ⟨t / 128, by omega⟩ ⟨g * 256 + h * 64 + x, by omega⟩ ⟨t % 128, by omega⟩)) (fun x => k (ix4 b g n x)) (sl (ix4 g h 0 0)) t n

/-- The attention over the compressed blocks, tokens in chunks of 128 along the last axis. -/
def Gatt (q : FVec Ideal S8x16x1536x128 .bf16) (k : FVec Ideal S8x4x128x64 .f32) (v : FVec Ideal S8x4x64x128 .f32) (sl : FVec Ideal S4x4x1x1 .f32) :
    S8x16x1024x128.Idx → EReal := fun i =>
  have hr : (i 2).val < 1024 := (i 2).isLt
  have hc : (i 1).val < 16 := (i 1).isLt
  have hl : (i 3).val < 128 := (i 3).isLt
  ∑ n : Fin 128, v (ix4 (i 0 : Fin 8) ⟨(i 2).val / 256, by omega⟩ ⟨(i 2).val % 64, by omega⟩ n) *
    prob (logits q k sl (i 0 : Fin 8) ⟨(i 2).val / 256, by omega⟩ ⟨(i 2).val / 64 % 4, by omega⟩ ⟨(i 1).val * 128 + (i 3).val, by omega⟩) n

/-- The scores of the selection blocks for one token. -/
def scores (q : FVec Ideal S8x16x1536x128 .bf16) (k : FVec Ideal S8x4x128x64 .f32) (sl : FVec Ideal S4x4x1x1 .f32) (ov : FVec Ideal S32x128 .f32)
    (b : Fin 8) (g : Fin 4) (t : Fin 2048) (j : Fin 32) : EReal :=
  score (∑ n : Fin 128, ov (ix2 j n) * (prob (logits q k sl b g 0 t) n + prob (logits q k sl b g 1 t) n + prob (logits q k sl b g 2 t) n + prob (logits q k sl b g 3 t) n))
    (own t) (BitVec.ofNat 32 t) (BitVec.ofNat 32 j)

open scoped Classical in
/-- The marks of the eight best selection blocks of every token. -/
def Gsel (q : FVec Ideal S8x16x1536x128 .bf16) (k : FVec Ideal S8x4x128x64 .f32) (sl : FVec Ideal S4x4x1x1 .f32) (ov : FVec Ideal S32x128 .f32) :
    S8x4x16x32x128.Idx → EReal := fun i =>
  have hc : (i 2).val < 16 := (i 2).isLt
  have hl : (i 4).val < 128 := (i 4).isLt
  if (Finset.univ.filter fun a => Ahead (scores q k sl ov (i 0 : Fin 8) (i 1 : Fin 4) ⟨(i 2).val * 128 + (i 4).val, by omega⟩) a (i 3 : Fin 32)).card < 8 then 1 else 0

end Cert.CmpSelectIdeal.Layer
-- ==== Proof.SelectReference.lean ====
module

public import proofs.«01_k».proof.Defs
public import proofs.«01_k».proof.Proof.Gen.CmpSelectIdeal
public import proofs.«01_k».proof.Proof.Gen.CmpSelectIdeal.Frame
public import proofs.«01_k».proof.Proof.Gen.CmpSelectRefIdeal
public import proofs.«01_k».proof.Proof.Gen.CmpSelectRefIdeal.Run
public import proofs.«01_k».proof.Proof.Gen.CmpSelectRefIdeal.Read
public import proofs.«01_k».proof.Proof.Formulas
public import proofs.«01_k».proof.Proof.SelectFormulas
public import Idealize.ShloMosaic.Lib.Pipeline.CanonAppend
public import Idealize.ShloMosaic.Lib.SortFacts

@[expose] public section

set_option maxRecDepth 16384

noncomputable section

open Idealize.ShloMosaic Idealize.ShloMosaic.TcCoe Idealize.SL.Sem
open Idealize.ShloMosaic.Pipeline (Dat)

namespace Cert.CmpSelectIdeal.Layer

open Cert.CmpSelectIdeal Cert.CmpSelectIdeal.Gen Cert.Layer

end Cert.CmpSelectIdeal.Layer
namespace Cert.CmpSelectRefIdeal.Layer

open Cert.CmpSelectRefIdeal Cert.CmpSelectRefIdeal.Read Cert.CmpSelectIdeal.Layer Cert.Layer

variable (x0 : FVec Ideal S8x16x1536x128 .bf16) (x1 : FVec Ideal S8x4x128x64 .f32) (x2 : FVec Ideal S8x4x64x128 .f32) (x3 : FVec Ideal S4x4x1x1 .f32) (x4 : FVec Ideal S32x128 .f32)

theorem r35 (b : Fin 8) (g h : Fin 4) (t : Fin 2048) (n : Fin 128) : val_main_v35 (F := Ideal) x0 x1 x3 (ix5 b g h t n) =
    logits x0 x1 x3 b g h t n := by
  unfold logits logit
  simp only [mul_comm (x1 _)]
  unfold val_main_v35 val_main_call0_v1 val_main_call0_v2 val_main_call0_v0 val_main_cst_2 val_main_v34 val_main_v33 val_main_v32 val_main_v31 val_main_v30 val_main_v29 val_main_c_1 val_main_v28 val_main_v27 val_main_c val_main_v26 val_main_v25 val_main_v24 val_main_v23 val_main_v22 val_main_v21 val_main_v20 val_main_v19 val_main_v18 val_main_v17 val_main_v16 val_main_v15 val_main_v14 val_main_v13 val_main_v12 val_main_cst_0 val_main_v11 val_main_v10 val_main_cst val_main_v9 val_main_v8 val_main_v7 val_main_v6 val_main_v5 val_main_v4 val_main_v3 val_main_v2 val_main_v1 val_main_v0 id
  pointwise

theorem r36 (b : Fin 8) (g h : Fin 4) (t : Fin 2048) : val_main_v36 (F := Ideal) x0 x1 x3 (ix4 b g h t) = peak fun n => val_main_v35 (F := Ideal) x0 x1 x3 (ix5 b g h t n) := by
  unfold val_main_v36 val_main_cst_3 peak
  generalize val_main_v35 (F := Ideal) x0 x1 x3 = p
  pointwise

theorem r37 (b : Fin 8) (g h : Fin 4) (t : Fin 2048) : val_main_v37 (F := Ideal) x0 x1 x3 (ix5 b g h t 0) = val_main_v36 (F := Ideal) x0 x1 x3 (ix4 b g h t) := by
  unfold val_main_v37
  generalize val_main_v36 (F := Ideal) x0 x1 x3 = p
  pointwise

theorem r40 (b : Fin 8) (g h : Fin 4) (t : Fin 2048) : val_main_v40 (F := Ideal) x0 x1 x3 (ix5 b g h t 0) = ground fun n => val_main_v35 (F := Ideal) x0 x1 x3 (ix5 b g h t n) := by
  have h1 : ∀ i, val_main_call1_v1 (F := Ideal) i = 0 := fun i => by unfold val_main_call1_v1 val_main_call1_v0 val_main_cst_5 id; idx_vars i; pointwise
  have h2 : ∀ i, val_main_v38 (F := Ideal) i = Ideal.ofBits .f32 0xFF800000#32 := fun i => by unfold val_main_v38 val_main_cst_4; idx_vars i; pointwise
  rw [val_main_v40_apply, val_main_v39_apply, h1, h2, r37, r36]; exact sel_oeq _ _ _ _

theorem r43 (b : Fin 8) (g h : Fin 4) (t : Fin 2048) (n : Fin 128) : val_main_v43 (F := Ideal) x0 x1 x3 (ix5 b g h t n)
    = Ideal.exp (val_main_v35 (F := Ideal) x0 x1 x3 (ix5 b g h t n) - ground fun n => val_main_v35 (F := Ideal) x0 x1 x3 (ix5 b g h t n)) := by
  rw [← r40]
  unfold val_main_v43 val_main_v42 val_main_v41
  generalize val_main_v40 (F := Ideal) x0 x1 x3 = q
  generalize val_main_v35 (F := Ideal) x0 x1 x3 = p
  pointwise

theorem r44 (b : Fin 8) (g h : Fin 4) (t : Fin 2048) : val_main_v44 (F := Ideal) x0 x1 x3 (ix4 b g h t) = mass fun n => val_main_v35 (F := Ideal) x0 x1 x3 (ix5 b g h t n) := by
  have e : (mass fun n => val_main_v35 (F := Ideal) x0 x1 x3 (ix5 b g h t n)) = ∑ n, val_main_v43 (F := Ideal) x0 x1 x3 (ix5 b g h t n) :=
    Finset.sum_congr rfl fun n _ => (r43 x0 x1 x3 b g h t n).symm
  rw [e]
  unfold val_main_v44 val_main_cst_6
  generalize val_main_v43 (F := Ideal) x0 x1 x3 = p
  pointwise

theorem r50 (b : Fin 8) (g h : Fin 4) (t : Fin 2048) (n : Fin 128) : val_main_v50 (F := Ideal) x0 x1 x3 (ix5 b g h t n) = prob (fun n => val_main_v35 (F := Ideal) x0 x1 x3 (ix5 b g h t n)) n := by
  unfold prob
  rw [← r44, ← r43]
  unfold val_main_v50 val_main_v49 val_main_v48 val_main_call2_v1 val_main_call2_v0 val_main_cst_8 val_main_v47 val_main_v46 val_main_cst_7 val_main_v45 id
  generalize val_main_v44 (F := Ideal) x0 x1 x3 = p
  generalize val_main_v43 (F := Ideal) x0 x1 x3 = q
  pointwise

theorem weights (b : Fin 8) (g h : Fin 4) (t : Fin 2048) (n : Fin 128) : val_main_v50 (F := Ideal) x0 x1 x3 (ix5 b g h t n) = prob (logits x0 x1 x3 b g h t) n := by
  rw [r50]
  exact congrArg (fun s => prob s n) (funext fun n => r35 x0 x1 x3 b g h t n)

theorem r51 (b : Fin 8) (g h : Fin 4) (t : Fin 2048) (d : Fin 64) : val_main_v51 (F := Ideal) x0 x1 x2 x3 (ix5 b g h t d) = ∑ n : Fin 128, x2 (ix4 b g d n) * val_main_v50 (F := Ideal) x0 x1 x3 (ix5 b g h t n) := by
  unfold val_main_v51
  generalize val_main_v50 (F := Ideal) x0 x1 x3 = p
  pointwise
  exact Finset.sum_congr rfl fun n _ => mul_comm _ _

theorem r53 (b : Fin 8) (g : Fin 4) (t : Fin 2048) (j : Fin 32) : val_main_v53 (F := Ideal) x0 x1 x3 x4 (ix4 b g t j) = ∑ n : Fin 128, x4 (ix2 j n) * ∑ h : Fin 4, val_main_v50 (F := Ideal) x0 x1 x3 (ix5 b g h t n) := by
  unfold val_main_v53 val_main_v52 val_main_cst_9
  generalize val_main_v50 (F := Ideal) x0 x1 x3 = p
  pointwise
  exact Finset.sum_congr rfl fun n _ => mul_comm _ _

theorem r57 (t : Fin 2048) : val_main_v57 (F := Ideal) (ix2 t 0) = own t := by
  unfold val_main_v57 val_main_call3_v13 val_main_call3_v12 val_main_call3_c_0 val_main_call3_v11 val_main_call3_v10 val_main_call3_v9 val_main_call3_c val_main_call3_v8 val_main_call3_v7 val_main_call3_v6 val_main_call3_v5 val_main_call3_v4 val_main_call3_v3 val_main_call3_v2 val_main_call3_v1 val_main_call3_v0 val_main_c_10 val_main_v56 val_main_v5 id
  pointwise
  exact own_reference t

theorem r70 (t : Fin 2048) (j : Fin 32) : val_main_v78 (F := Ideal) (ix2 t j) =
    Scalar.select (IntOp.ori (IntOp.ori (IntOp.cmpi .eq (BitVec.ofNat 32 j) 0#32) (IntOp.cmpi .eq (BitVec.ofNat 32 j) (own t))) (IntOp.cmpi .eq (BitVec.ofNat 32 j) (IntOp.subi (own t) 1#32)))
      (Ideal.ofBits .f32 1176256512#32) 0 := by
  rw [← r57]
  unfold val_main_v78 val_main_v77 val_main_call4_v1 val_main_call4_v0 val_main_cst_14 val_main_cst_15 val_main_v70 val_main_v69 val_main_v68 val_main_v67 val_main_v66 val_main_v65 val_main_v64 val_main_v63 val_main_v62 val_main_v61 val_main_v60 val_main_v59 val_main_v58 val_main_v55 val_main_v54 val_main_c_11 val_main_c_12 id
  generalize val_main_v57 (F := Ideal) = c
  pointwise

theorem r76 (t : Fin 2048) (j : Fin 32) : val_main_v76 (F := Ideal) (ix2 t j) = IntOp.cmpi .sle (IntOp.muli 64#32 (BitVec.ofNat 32 j)) (BitVec.ofNat 32 t) := by
  unfold val_main_v76 val_main_v75 val_main_v74 val_main_v73 val_main_v72 val_main_v71 val_main_c_13 val_main_v55 val_main_v54 val_main_v5
  pointwise

theorem r82 (b : Fin 8) (g : Fin 4) (t : Fin 2048) (j : Fin 32) : val_main_v82 (F := Ideal) x0 x1 x3 x4 (ix4 b g t j) = scores x0 x1 x3 x4 b g t j := by
  unfold scores score
  rw [← r70, ← r76]
  have e : (∑ n : Fin 128, x4 (ix2 j n) * (prob (logits x0 x1 x3 b g 0 t) n + prob (logits x0 x1 x3 b g 1 t) n + prob (logits x0 x1 x3 b g 2 t) n + prob (logits x0 x1 x3 b g 3 t) n))
      = val_main_v53 (F := Ideal) x0 x1 x3 x4 (ix4 b g t j) := by
    rw [r53]
    refine Finset.sum_congr rfl fun n _ => ?_
    rw [Fin.sum_univ_four]
    simp only [weights]
  rw [e]
  unfold val_main_v82 val_main_call5_v2 val_main_call5_v1 val_main_call5_v0 val_main_v81 val_main_v80 val_main_v79 val_main_cst_16 id
  generalize val_main_v76 (F := Ideal) = c
  generalize val_main_v78 (F := Ideal) = d
  generalize val_main_v53 (F := Ideal) x0 x1 x3 x4 = e
  pointwise

theorem along_last (b : Fin 8) (g : Fin 4) (t : Fin 2048) (i k : Fin 32) : (ix4 b g t i : S8x4x2048x32.Idx).along 3 k = ix4 b g t k := by
  funext a
  fin_cases a <;> rfl

theorem greater (x y : EReal) : (FloatOps.cmpfTotal (F := Ideal) (φ := .f32) .gt x y == 1#1) = decide (y < x) := by
  show (BitVec.ofBool (decide (y < x)) == 1#1) = _
  by_cases h : y < x <;> simp [h]

theorem rind (S : FVec Ideal S8x4x2048x32 .f32) (b : Fin 8) (g : Fin 4) (t : Fin 2048) (i : Fin 8) (hs : S8x4x2048x32.Slices (fun _ => 0) S8x4x2048x8) :
    (Host.topK S8x4x2048x8 3 (FloatOps.cmpfTotal (F := Ideal) (φ := .f32) .gt) S hs).2 (ix4 b g t i)
      = BitVec.ofNat 32 (sortedFrom (fun k k' => decide (S (ix4 b g t k') < S (ix4 b g t k))) (⟨i, by omega⟩ : Fin 32)) := by
  unfold Host.topK Host.sort2
  pointwise
  simp only [along_last, greater]
  rfl

theorem r84 (b : Fin 8) (g : Fin 4) (t : Fin 2048) (j : Fin 32) (I : Fin 8 → BitVec 32) (hI : ∀ i, val_main_indices (F := Ideal) x0 x1 x3 x4 (ix4 b g t i) = I i) :
   val_main_v84 (F := Ideal) x0 x1 x3 x4 (ix4 b g t j) = ∑ i : Fin 8, FloatOps.uitofp (F := Ideal) .f32 (IntOp.cmpi .eq (I i) (BitVec.ofNat 32 j)) := by
  simp only [← hI]
  unfold val_main_v84 val_main_v83 val_main_call6_v4 val_main_call6_v3 val_main_call6_v2 val_main_call6_v1 val_main_call6_v0 val_main_cst_17
  generalize val_main_indices (F := Ideal) x0 x1 x3 x4 = p
  pointwise

open scoped Classical in
theorem marks (b : Fin 8) (g : Fin 4) (t : Fin 2048) (j : Fin 32) : val_main_v84 (F := Ideal) x0 x1 x3 x4 (ix4 b g t j) =
    if (Finset.univ.filter fun a => Ahead (scores x0 x1 x3 x4 b g t) a j).card < 8 then 1 else 0 := by
  have hS : (fun k => val_main_v82 (F := Ideal) x0 x1 x3 x4 (ix4 b g t k)) = scores x0 x1 x3 x4 b g t := funext fun k => r82 x0 x1 x3 x4 b g t k
  rw [r84 x0 x1 x3 x4 b g t j _ fun i => rind (val_main_v82 (F := Ideal) x0 x1 x3 x4) b g t i _]
  refine Eq.trans ?_ (first_eight (scores x0 x1 x3 x4 b g t) j)
  rw [← hS]
  refine Finset.sum_congr rfl fun i _ => ?_
  generalize sortedFrom _ _ = a
  have h : ∀ a j : Fin 32, IntOp.cmpi .eq (BitVec.ofNat 32 a) (BitVec.ofNat 32 j) = BitVec.ofBool (decide (a = j)) := by decide +kernel
  rw [h]
  by_cases e : a = j
  · rw [if_pos e]; simp only [e, decide_true]; show ((((1#1 : BitVec 1).toNat : ℝ)) : EReal) = 1; simp
  · rw [if_neg e]; simp only [e, decide_false]; show ((((0#1 : BitVec 1).toNat : ℝ)) : EReal) = 0; simp

theorem r87 (b : Fin 8) (c : Fin 16) (g h : Fin 4) (d : Fin 64) (l : Fin 128) : val_main_v87 (F := Ideal) x0 x1 x2 x3 (ix4 b c ⟨g * 256 + h * 64 + d, by omega⟩ l) = val_main_v51 (F := Ideal) x0 x1 x2 x3 (ix5 b g h ⟨c * 128 + l, by omega⟩ d) := by
  unfold val_main_v87 val_main_v86 val_main_v85
  generalize val_main_v51 (F := Ideal) x0 x1 x2 x3 = p
  pointwise

theorem r89 (b : Fin 8) (c : Fin 16) (g : Fin 4) (j : Fin 32) (l : Fin 128) : val_main_v89 (F := Ideal) x0 x1 x3 x4 (ix5 b g c j l) = val_main_v84 (F := Ideal) x0 x1 x3 x4 (ix4 b g ⟨c * 128 + l, by omega⟩ j) := by
  unfold val_main_v89 val_main_v88
  generalize val_main_v84 (F := Ideal) x0 x1 x3 x4 = p
  pointwise

theorem att_eq : val_main_v87 (F := Ideal) x0 x1 x2 x3 = Gatt x0 x1 x2 x3 := by
  funext i
  idx_vars i
  have split : ∀ r : Fin 1024, ∃ (g h : Fin 4) (d : Fin 64), r = ⟨g * 256 + h * 64 + d, by omega⟩ := fun r =>
    ⟨⟨r / 256, by omega⟩, ⟨r / 64 % 4, by omega⟩, ⟨r % 64, by omega⟩, Fin.ext (by show r.val = r.val / 256 * 256 + r.val / 64 % 4 * 64 + r.val % 64; omega)⟩
  obtain ⟨g, h, d, rfl⟩ := split i2
  rw [r87, r51]
  unfold Gatt
  refine Finset.sum_congr rfl fun n _ => ?_
  rw [weights]
  have eg : (⟨(g.val * 256 + h.val * 64 + d.val) / 256, by omega⟩ : Fin 4) = g := Fin.ext (by show (g.val * 256 + h.val * 64 + d.val) / 256 = g.val; omega)
  have eh : (⟨(g.val * 256 + h.val * 64 + d.val) / 64 % 4, by omega⟩ : Fin 4) = h := Fin.ext (by show (g.val * 256 + h.val * 64 + d.val) / 64 % 4 = h.val; omega)
  have ed : (⟨(g.val * 256 + h.val * 64 + d.val) % 64, by omega⟩ : Fin 64) = d := Fin.ext (by show (g.val * 256 + h.val * 64 + d.val) % 64 = d.val; omega)
  show _ = x2 (ix4 i0 (⟨(g.val * 256 + h.val * 64 + d.val) / 256, _⟩ : Fin 4) (⟨(g.val * 256 + h.val * 64 + d.val) % 64, _⟩ : Fin 64) n)
    * prob (logits x0 x1 x3 i0 (⟨(g.val * 256 + h.val * 64 + d.val) / 256, _⟩ : Fin 4) (⟨(g.val * 256 + h.val * 64 + d.val) / 64 % 4, _⟩ : Fin 4) _) n
  rw [eg, eh, ed]
  rfl

theorem sel_eq : val_main_v89 (F := Ideal) x0 x1 x3 x4 = Gsel x0 x1 x3 x4 := by
  funext i
  idx_vars i
  rw [r89, marks]
  rfl

end Cert.CmpSelectRefIdeal.Layer
-- ==== Proof.SelectKernel.lean ====
module

public import proofs.«01_k».proof.Defs
public import proofs.«01_k».proof.Proof.Gen.CmpSelectIdeal
public import proofs.«01_k».proof.Proof.Gen.CmpSelectIdeal.Frame
public import proofs.«01_k».proof.Proof.Gen.CmpSelectRefIdeal
public import proofs.«01_k».proof.Proof.Gen.CmpSelectRefIdeal.Run
public import proofs.«01_k».proof.Proof.Gen.CmpSelectRefIdeal.Read
public import proofs.«01_k».proof.Proof.Formulas
public import proofs.«01_k».proof.Proof.SelectFormulas
public import Idealize.ShloMosaic.Lib.Pipeline.CanonAppend
public import Idealize.ShloMosaic.Lib.SortFacts

@[expose] public section

set_option maxRecDepth 16384

noncomputable section

open Idealize.ShloMosaic Idealize.ShloMosaic.TcCoe Idealize.SL.Sem
open Idealize.ShloMosaic.Pipeline (Dat)

namespace Cert.CmpSelectIdeal.Layer

open Cert.CmpSelectIdeal Cert.CmpSelectIdeal.Gen Cert.Layer
/-- A token's column of masked scores in head `h`. -/
def column (v9 : FVec Ideal S256x512 .bf16) (v12 : FVec Ideal S128x64 .bf16) (v27 : IVec S128x512 1)
    (v34 : FVec Ideal S128x512 .f32) (w : Vec Ideal S1x1x1x1 .f32) (h : Fin 4) (t : Fin 512) (n : Fin 128) : EReal :=
  Scalar.select (v27 (ix2 n t))
    ((∑ x : Fin 64, v12 (ix2 n x) * v9 (ix2 ⟨h * 64 + x, by omega⟩ t)) - w (ix4 0 0 0 0) * v34 (ix2 n t))
    (Ideal.ofBits .f32 0xFF800000#32)

variable (v9 : FVec Ideal S256x512 .bf16) (v12 : FVec Ideal S128x64 .bf16) (v15 : FVec Ideal S64x128 .bf16)
  (v27 : IVec S128x512 1) (v34 : FVec Ideal S128x512 .f32) (w : Vec Ideal S1x1x1x1 .f32)

theorem p17 (n : Fin 128) (t : Fin 512) :
    k0_pay17 v9 v12 v27 v34 w (ix2 n t) = prob (column v9 v12 v27 v34 w 3 t) n := by
  unfold prob mass ground peak column
  pointwise [k0_pay17]

theorem p16 (n : Fin 128) (t : Fin 512) :
    k0_pay16 (k0_pay15 v9 v12 v27 v34 w) (ix2 n t) = prob (column v9 v12 v27 v34 w 2 t) n := by
  unfold prob mass ground peak column
  pointwise [k0_pay16, k0_pay15]

theorem p12 (n : Fin 128) (t : Fin 512) :
    k0_pay12 v27 v34 (k0_pay11 v9 v12) w (ix2 n t) = prob (column v9 v12 v27 v34 w 1 t) n := by
  unfold prob mass ground peak column
  pointwise [k0_pay12, k0_pay11]

theorem p8 (v16 : IVec S128x512 32) (v28 : FVec Ideal S128x512 .f32) (n : Fin 128) (t : Fin 512) :
    k0_pay8 v9 v12 v16 v27 v28 w (ix2 n t) = prob (column v9 v12 v27 (k0_pay7 v16 v28) w 0 t) n := by
  unfold k0_pay8
  generalize k0_pay7 v16 v28 = v34
  unfold prob mass ground peak column
  pointwise
theorem out_at (n : Fin 64) (h : Fin 4) (t : Fin 512) (v16 : IVec S128x512 32) (v28 : FVec Ideal S128x512 .f32) (w0 w1 w2 w3 : Vec Ideal S1x1x1x1 .f32)
    (hv : k0_pay7 v16 v28 = v34) :
    k0_pay19 v9 v12 v15 v27 v34 (k0_pay10 v9 v12 v15 v16 v27 v28 w0) (k0_pay14 v15 v27 v34 (k0_pay11 v9 v12) w1) (k0_pay15 v9 v12 v27 v34 w2) w3
      (ix2 ⟨h * 64 + n, by omega⟩ t) = ∑ k : Fin 128, v15 (ix2 n k) * prob (column v9 v12 v27 v34 (![w0, w1, w2, w3] h) h t) k := by
  have e0 : ∀ k, _ := fun k => p8 v9 v12 v27 w0 v16 v28 k t
  have e1 : ∀ k, _ := fun k => p12 v9 v12 v27 v34 w1 k t
  have e2 : ∀ k, _ := fun k => p16 v9 v12 v27 v34 w2 k t
  have e3 : ∀ k, _ := fun k => p17 v9 v12 v27 v34 w3 k t
  rw [hv] at e0
  unfold k0_pay19 k0_pay10 k0_pay14
  generalize k0_pay8 v9 v12 v16 v27 v28 w0 = a0 at *
  generalize k0_pay12 v27 v34 (k0_pay11 v9 v12) w1 = a1 at *
  generalize k0_pay16 (k0_pay15 v9 v12 v27 v34 w2) = a2 at *
  generalize k0_pay17 v9 v12 v27 v34 w3 = a3 at *
  fin_cases h
  · simp only [Fin.zero_eta, Fin.mk_zero, Fin.val_zero, Matrix.cons_val_zero]
    simp only [← e0]
    pointwise
  · simp only [Fin.mk_one, Fin.val_one, Matrix.cons_val_one, Matrix.cons_val_zero]
    simp only [← e1]
    pointwise
  · simp only [Fin.reduceFinMk, Matrix.cons_val]
    simp only [← e2]
    pointwise
    rw [dif_neg (by omega), dif_neg (by omega), dif_pos (by omega)]
    have e : (⟨128 + n.val - 64 - 64, by omega⟩ : Fin 64) = n := Fin.ext (by show 128 + n.val - 64 - 64 = n.val; omega)
    rw [e]
  · simp only [Fin.reduceFinMk, Matrix.cons_val]
    simp only [← e3]
    pointwise
    rw [dif_neg (by omega), dif_neg (by omega), dif_neg (by omega)]
    have e : (⟨192 + n.val - 64 - 64 - 64, by omega⟩ : Fin 64) = n := Fin.ext (by show 192 + n.val - 64 - 64 - 64 = n.val; omega)
    rw [e]
theorem psum_at (n : Fin 128) (t : Fin 512) (v16 : IVec S128x512 32) (v28 : FVec Ideal S128x512 .f32) (w0 w1 w2 w3 : Vec Ideal S1x1x1x1 .f32)
    (hv : k0_pay7 v16 v28 = v34) :
    k0_pay18 v9 v12 v27 v34 (k0_pay13 v27 v34 (k0_pay9 v9 v12 v16 v27 v28 w0) (k0_pay11 v9 v12) w1) (k0_pay15 v9 v12 v27 v34 w2) w3 (ix2 n t)
      = prob (column v9 v12 v27 v34 w0 0 t) n + prob (column v9 v12 v27 v34 w1 1 t) n + prob (column v9 v12 v27 v34 w2 2 t) n + prob (column v9 v12 v27 v34 w3 3 t) n := by
  rw [← p16, ← p17, ← p12, ← hv, ← p8, hv]
  unfold k0_pay18 k0_pay13 k0_pay9
  generalize k0_pay8 v9 v12 v16 v27 v28 w0 = a0
  generalize k0_pay12 v27 v34 (k0_pay11 v9 v12) w1 = a1
  generalize k0_pay16 (k0_pay15 v9 v12 v27 v34 w2) = a2
  generalize k0_pay17 v9 v12 v27 v34 w3 = a3
  pointwise
  try simp only [zero_add]

theorem imp_at (v149 : FVec Ideal S128x512 .f32) (v169 : Vec Ideal S32x128 .f32) (j : Fin 32) (t : Fin 512) :
    k0_pay25 v149 v169 (ix2 j t) = ∑ n : Fin 128, v169 (ix2 j n) * v149 (ix2 n t) := by
  pointwise [k0_pay25]

theorem score_at (v : FVec Ideal S32x512 .f32) (a : IVec S32x512 32) (z : BitVec 32) (j : Fin 32) (t : Fin 512) (T : Fin 2048) (ha : a (ix2 j t) = BitVec.ofNat 32 j)
    (hz : IntOp.addi (BitVec.ofNat 32 t) z = BitVec.ofNat 32 T) :
    k0_pay29 (F := Ideal) v a (k0_pay26 z) 64#32 (k0_pay27 z) (k0_pay28 z) (Scalar.extui (Scalar.cmpi .sgt 64#32 0#32)) 0#32 (ix2 j t)
      = score (v (ix2 j t)) (own T) (BitVec.ofNat 32 T) (BitVec.ofNat 32 j) := by
  unfold score
  rw [← own_kernel, ← hz, show IntOp.muli 64#32 (BitVec.ofNat 32 j.val) = IntOp.muli (BitVec.ofNat 32 j.val) 64#32 from BitVec.mul_comm _ _]
  pointwise [k0_pay29, k0_pay26, k0_pay27, k0_pay28]
  rw [ha]

section Rank

variable (v170 : FVec Ideal S32x512 .f32) (v171 v174 v176 v183 v502 : IVec S32x512 32)  (a b c : BitVec 32)
  (S : FVec Ideal S32x512 .f32) (j : Fin 32) (t : Fin 512) (hv : v171 (ix2 j t) = BitVec.ofNat 32 j)

include hv
theorem chain0 (hS : k0_pay29 v170 v171 v174 a v176 v183 b c = S) :
    k0_pay35 v171 S (k0_pay30 v170 v171 v174 a v176 v183 b c) (k0_pay32 v170 v171 v174 a v176 v183 b c) (k0_pay33 v170 v171 v174 a v176 v183 b c) (k0_pay34 v171) (ix2 j t) = tally (fun j => S (ix2 j t)) j 6 := by
  unfold k0_pay30 k0_pay32 k0_pay33 k0_pay31
  rw [hS]
  pointwise [k0_pay35, k0_pay34, k0_pay31, k0_pay36]
  rw [hv]
  rfl
theorem chain1 (h : v502 (ix2 j t) = tally (fun j => S (ix2 j t)) j 6) :
    k0_pay40 v171 S v502 (k0_pay37 S) (k0_pay38 S) (k0_pay39 v171) (ix2 j t) = tally (fun j => S (ix2 j t)) j 11 := by
  pointwise [k0_pay40, k0_pay36, k0_pay37, k0_pay38, k0_pay39]
  rw [hv, h]
  rfl

theorem chain2 (h : v502 (ix2 j t) = tally (fun j => S (ix2 j t)) j 11) :
    k0_pay45 v171 S v502 (k0_pay42 S) (k0_pay43 S) (k0_pay44 v171) (ix2 j t) = tally (fun j => S (ix2 j t)) j 16 := by
  pointwise [k0_pay45, k0_pay41, k0_pay42, k0_pay43, k0_pay44]
  rw [hv, h]
  rfl

theorem chain3 (h : v502 (ix2 j t) = tally (fun j => S (ix2 j t)) j 16) :
    k0_pay50 v171 S v502 (k0_pay47 S) (k0_pay48 S) (k0_pay49 v171) (ix2 j t) = tally (fun j => S (ix2 j t)) j 21 := by
  pointwise [k0_pay50, k0_pay46, k0_pay47, k0_pay48, k0_pay49]
  rw [hv, h]
  rfl

theorem chain4 (h : v502 (ix2 j t) = tally (fun j => S (ix2 j t)) j 21) :
    k0_pay55 v171 S v502 (k0_pay52 S) (k0_pay53 S) (k0_pay54 v171) (ix2 j t) = tally (fun j => S (ix2 j t)) j 26 := by
  pointwise [k0_pay55, k0_pay51, k0_pay52, k0_pay53, k0_pay54]
  rw [hv, h]
  rfl

theorem chain5 (h : v502 (ix2 j t) = tally (fun j => S (ix2 j t)) j 26) :
    k0_pay60 v171 S v502 (k0_pay57 S) (k0_pay58 S) (k0_pay59 v171) (ix2 j t) = tally (fun j => S (ix2 j t)) j 31 := by
  pointwise [k0_pay60, k0_pay56, k0_pay57, k0_pay58, k0_pay59]
  rw [hv, h]
  rfl

theorem chain6 (h : v502 (ix2 j t) = tally (fun j => S (ix2 j t)) j 31) :
    k0_pay65 (F := Ideal) v502 (k0_pay62 S) (k0_pay63 S) (k0_pay64 v171) (ix2 j t)
      = FloatOps.sitofp (F := Ideal) .f32 (BitVec.setWidth 32 (IntOp.cmpi .slt (tally (fun j => S (ix2 j t)) j 32) 8#32)) := by
  pointwise [k0_pay65, k0_pay61, k0_pay62, k0_pay63, k0_pay64]
  rw [hv, h]
  rfl
omit hv

end Rank

theorem store5 (v : FVec Ideal S256x512 .f32) (r : Fin 256) (l : Fin 128) :
   k0_pay22 v (ix4 0 0 r l) = v (ix2 r ⟨128 + l, by omega⟩) ∧  k0_pay23 v (ix4 0 0 r l) = v (ix2 r ⟨256 + l, by omega⟩) ∧  k0_pay24 v (ix4 0 0 r l) = v (ix2 r ⟨384 + l, by omega⟩) := by
   pointwise [k0_pay22, k0_pay23, k0_pay24]

theorem store0 (v9 : FVec Ideal S256x512 .bf16) (v12 : FVec Ideal S128x64 .bf16) (v15 : FVec Ideal S64x128 .bf16) (v27 : IVec S128x512 1) (v34 : FVec Ideal S128x512 .f32) (v64 v93 : FVec Ideal S64x512 .f32) (v110 : FVec Ideal S128x512 .f32) (w) (r : Fin 256) (l : Fin 128) :
   k0_pay21 (k0_pay20 v9 v12 v15 v27 v34 v64 v93 v110 w) (ix4 0 0 r l) = k0_pay19 v9 v12 v15 v27 v34 v64 v93 v110 w (ix2 r ⟨l, by omega⟩) := by
   unfold k0_pay21 k0_pay20
   generalize k0_pay19 v9 v12 v15 v27 v34 v64 v93 v110 w = v
   pointwise

theorem store6 (v557 : IVec S32x512 32) (v560 : IVec S32x512 1) (v562 : IVec S32x512 1) (v564 : IVec S32x512 1) (r : Fin 32) (l : Fin 128) :
   k0_pay66 (F := Ideal) v557 v560 v562 v564 (ix5 0 0 0 r l) = k0_pay65 v557 v560 v562 v564 (ix2 r ⟨l, by omega⟩) ∧
   k0_pay67 (F := Ideal) v557 v560 v562 v564 (ix5 0 0 0 r l) = k0_pay65 v557 v560 v562 v564 (ix2 r ⟨128 + l, by omega⟩) ∧
   k0_pay68 (F := Ideal) v557 v560 v562 v564 (ix5 0 0 0 r l) = k0_pay65 v557 v560 v562 v564 (ix2 r ⟨256 + l, by omega⟩) ∧
   k0_pay69 (F := Ideal) v557 v560 v562 v564 (ix5 0 0 0 r l) = k0_pay65 v557 v560 v562 v564 (ix2 r ⟨384 + l, by omega⟩)  := by
   unfold k0_pay66 k0_pay67 k0_pay68 k0_pay69
   generalize k0_pay65 (F := Ideal) v557 v560 v562 v564 = v
   pointwise

section Tile

variable (i : grid0.Coords) (x0 : Vec Ideal S1x4x256x128 .bf16) (x1 : Vec Ideal S1x1x128x64 .f32) (x2 : Vec Ideal S1x1x64x128 .f32)
  (x3 : Vec Ideal S1x4x1x1 .f32) (x4 : Vec Ideal S32x128 .f32)

/-- The place in the sequence of a tile's `t`-th token. -/
def place (t : Fin 512) : Fin 2048 := ⟨512 * (i 2).val + t.val, by have h : (i 2).val < 4 := (i 2).isLt; omega⟩

theorem place_word (t : Fin 512) :
    IntOp.addi (BitVec.ofNat 32 t) (Scalar.muli (BitVec.ofNat 32 (i 2)) 512#32) = BitVec.ofNat 32 (place i t) :=
  word_at (i 2) t

/-- A token's column of masked scores, from a tile's blocks. -/
def tileLogits (h : Fin 4) (t : Fin 512) (n : Fin 128) : EReal :=
  logit (fun x => x0 (ix4 0 ⟨t / 128, by omega⟩ ⟨h * 64 + x, by omega⟩ ⟨t % 128, by omega⟩)) (fun x => x1 (ix4 0 0 n x)) (x3 (ix4 0 h 0 0)) (place i t) n

theorem pay71_at (r : Fin 256) (t : Fin 512) :
    k0_pay71 (F := Ideal) i x0 x1 x2 x3 x4 (ix2 r t) = x0 (ix4 0 ⟨t / 128, by omega⟩ r ⟨t % 128, by omega⟩) := by
  unfold k0_pay71
  pointwise [k0_pay1]
  have key : ∀ (a : Fin 4) (l : Fin 128), a.val = t.val / 128 → l.val = t.val % 128 →
      x0 (ix4 0 a r l) = x0 (ix4 0 ⟨t.val / 128, by omega⟩ r ⟨t.val % 128, by omega⟩) := by
    intro a l ha hl
    have ea : a = ⟨t.val / 128, by omega⟩ := Fin.ext ha
    have el : l = ⟨t.val % 128, by omega⟩ := Fin.ext hl
    rw [ea, el]
  have ht := t.isLt
  by_cases h0 : t.val < 128
  · rw [dif_pos h0]
    exact key 0 _ (by show 0 = _; omega) (by show t.val = _; omega)
  rw [dif_neg h0]
  by_cases h1 : t.val - 128 < 128
  · rw [dif_pos h1]
    exact key 1 _ (by show 1 = _; omega) (by show t.val - 128 = _; omega)
  rw [dif_neg h1]
  by_cases h2 : t.val - 128 - 128 < 128
  · rw [dif_pos h2]
    exact key 2 _ (by show 2 = _; omega) (by show t.val - 128 - 128 = _; omega)
  rw [dif_neg h2]
  exact key 3 _ (by show 3 = _; omega) (by show t.val - 128 - 128 - 128 = _; omega)

theorem pay72_at (n : Fin 128) (x : Fin 64) : k0_pay72 (F := Ideal) i x0 x1 x2 x3 x4 (ix2 n x) = x1 (ix4 0 0 n x) := by
  unfold k0_pay72
  rw [show View.ld x1 r0_4 = x1 from View.ld_unit_zero (by decide) _ _]
  pointwise [k0_pay2]

theorem pay73_at (d : Fin 64) (n : Fin 128) : k0_pay73 (F := Ideal) i x0 x1 x2 x3 x4 (ix2 d n) = x2 (ix4 0 0 d n) := by
  unfold k0_pay73
  rw [show View.ld x2 r0_5 = x2 from View.ld_unit_zero (by decide) _ _]
  pointwise [k0_pay3]

theorem slope0 : View.ld x3 r0_6 (ix4 0 0 0 0) = x3 (ix4 0 0 0 0) := by pointwise
theorem slope1 : View.ld x3 r0_7 (ix4 0 0 0 0) = x3 (ix4 0 1 0 0) := by pointwise
theorem slope2 : View.ld x3 r0_8 (ix4 0 0 0 0) = x3 (ix4 0 2 0 0) := by pointwise
theorem slope3 : View.ld x3 r0_9 (ix4 0 0 0 0) = x3 (ix4 0 3 0 0) := by pointwise

theorem pay74_at (n : Fin 128) (t : Fin 512) : k0_pay74 (F := Ideal) i x0 x1 x2 x3 x4 (ix2 n t) =
    IntOp.cmpi .sle (IntOp.addi (IntOp.muli 16#32 (BitVec.ofNat 32 n)) 31#32) (BitVec.ofNat 32 (place i t)) := by
  unfold k0_pay74
  rw [← vis_words, ← place_word]
  pointwise [k0_pay5, k0_pay4]

theorem pay76_at (n : Fin 128) (t : Fin 512) : k0_pay76 (F := Ideal) i x0 x1 x2 x3 x4 (ix2 n t) =
    FloatOps.sitofp (F := Ideal) .f32 (BitVec.ofNat 32 (place i t))
      - (FloatOps.sitofp (F := Ideal) .f32 (BitVec.ofNat 32 n) * Ideal.ofBits .f32 0x41800000#32 + Ideal.ofBits .f32 0x41780000#32) := by
  unfold k0_pay76 k0_pay75 k0_pay70
  rw [← place_word]
  pointwise [k0_pay7, k0_pay6, k0_pay4]

theorem column_at (h : Fin 4) (w : Vec Ideal S1x1x1x1 .f32) (hw : w (ix4 0 0 0 0) = x3 (ix4 0 h 0 0)) (t : Fin 512) :
    column (k0_pay71 i x0 x1 x2 x3 x4) (k0_pay72 i x0 x1 x2 x3 x4) (k0_pay74 (F := Ideal) i x0 x1 x2 x3 x4) (k0_pay76 i x0 x1 x2 x3 x4) w h t
      = tileLogits i x0 x1 x3 h t := by
  funext n
  unfold column tileLogits logit
  rw [pay74_at, pay76_at, hw]
  simp only [pay71_at, pay72_at]

theorem pay81_at (h : Fin 4) (d : Fin 64) (t : Fin 512) :
    k0_pay81 i x0 x1 x2 x3 x4 (ix2 ⟨h * 64 + d, by omega⟩ t) = ∑ n : Fin 128, x2 (ix4 0 0 d n) * prob (tileLogits i x0 x1 x3 h t) n := by
  unfold k0_pay81 k0_pay77 k0_pay79 k0_pay80 k0_pay78
  rw [out_at (v34 := k0_pay76 i x0 x1 x2 x3 x4) (hv := rfl)]
  refine Finset.sum_congr rfl fun n _ => ?_
  rw [pay73_at]
  have e : column (k0_pay71 i x0 x1 x2 x3 x4) (k0_pay72 i x0 x1 x2 x3 x4) (k0_pay74 (F := Ideal) i x0 x1 x2 x3 x4) (k0_pay76 i x0 x1 x2 x3 x4)
      (![View.ld x3 r0_6, View.ld x3 r0_7, View.ld x3 r0_8, View.ld x3 r0_9] h) h t = tileLogits i x0 x1 x3 h t := by
    apply column_at
    fin_cases h
    · exact slope0 x3
    · exact slope1 x3
    · exact slope2 x3
    · exact slope3 x3
  rw [e]

/-- The scores of the selection blocks for one of a tile's tokens. -/
def tileScores (t : Fin 512) (j : Fin 32) : EReal :=
  score (∑ n : Fin 128, x4 (ix2 j n) * (prob (tileLogits i x0 x1 x3 0 t) n + prob (tileLogits i x0 x1 x3 1 t) n + prob (tileLogits i x0 x1 x3 2 t) n
    + prob (tileLogits i x0 x1 x3 3 t) n)) (own (place i t)) (BitVec.ofNat 32 (place i t)) (BitVec.ofNat 32 j)

theorem pay83_at (t : Fin 512) (j : Fin 32) : k0_pay83 i x0 x1 x2 x3 x4 (ix2 j t) =
    ∑ n : Fin 128, x4 (ix2 j n) * (prob (tileLogits i x0 x1 x3 0 t) n + prob (tileLogits i x0 x1 x3 1 t) n + prob (tileLogits i x0 x1 x3 2 t) n
      + prob (tileLogits i x0 x1 x3 3 t) n) := by
  unfold k0_pay83 k0_pay78 k0_pay80
  rw [show View.ld x4 r0_10 = x4 from View.ld_unit_zero (by decide) _ _, imp_at]
  refine Finset.sum_congr rfl fun n _ => ?_
  rw [psum_at (v34 := k0_pay76 i x0 x1 x2 x3 x4) (hv := rfl), column_at i x0 x1 x2 x3 x4 0 _ (slope0 x3), column_at i x0 x1 x2 x3 x4 1 _ (slope1 x3),
    column_at i x0 x1 x2 x3 x4 2 _ (slope2 x3), column_at i x0 x1 x2 x3 x4 3 _ (slope3 x3)]

theorem pay82_at (t : Fin 512) (j : Fin 32) : k0_pay82 (F := Ideal) i x0 x1 x2 x3 x4 (ix2 j t) = BitVec.ofNat 32 j := by
  pointwise [k0_pay82]

theorem pay87_at (t : Fin 512) (j : Fin 32) : k0_pay87 i x0 x1 x2 x3 x4 (ix2 j t) = tileScores i x0 x1 x3 x4 t j := by
  unfold tileScores
  rw [← pay83_at i x0 x1 x2 x3 x4]
  unfold k0_pay87 k0_pay84 k0_pay85 k0_pay86
  exact score_at _ _ _ j t _ (pay82_at i x0 x1 x2 x3 x4 t j) (place_word i t)

open scoped Classical in
theorem sel_at (t : Fin 512) (j : Fin 32) :
    k0_pay65 (F := Ideal) (k0_pay88 i x0 x1 x2 x3 x4) (k0_pay89 i x0 x1 x2 x3 x4) (k0_pay90 i x0 x1 x2 x3 x4) (k0_pay91 i x0 x1 x2 x3 x4) (ix2 j t)
      = if (Finset.univ.filter fun a => Ahead (tileScores i x0 x1 x3 x4 t) a j).card < 8 then 1 else 0 := by
  have e : (fun j => k0_pay87 i x0 x1 x2 x3 x4 (ix2 j t)) = tileScores i x0 x1 x3 x4 t := funext fun j => pay87_at i x0 x1 x2 x3 x4 t j
  rw [← e, ← chosen]
  have hv := pay82_at i x0 x1 x2 x3 x4 t j
  unfold k0_pay89 k0_pay90 k0_pay91 k0_pay88
  exact chain6 _ _ _ j t hv (chain5 _ _ _ j t hv (chain4 _ _ _ j t hv (chain3 _ _ _ j t hv (chain2 _ _ _ j t hv (chain1 _ _ _ j t hv
    (chain0 _ _ _ _ _ _ _ _ _ j t hv rfl))))))

/-- What the body leaves in the block of the attention. -/
theorem out5_at (a : Fin 4) (h : Fin 4) (d : Fin 64) (l : Fin 128) :
    out0_5 i x0 x1 x2 x3 x4 (ix4 0 a ⟨h * 64 + d, by omega⟩ l) =
      ∑ n : Fin 128, x2 (ix4 0 0 d n) * prob (tileLogits i x0 x1 x3 h ⟨a * 128 + l, by omega⟩) n := by
  rw [← pay81_at i x0 x1 x2 x3 x4]
  have key : ∀ (r r' : Fin 256) (t t' : Fin 512), r.val = r'.val → t.val = t'.val →
      k0_pay81 i x0 x1 x2 x3 x4 (ix2 r t) = k0_pay81 i x0 x1 x2 x3 x4 (ix2 r' t') := by
    intro r r' t t' hr ht
    rw [Fin.ext hr, Fin.ext ht]
  unfold out0_5
  refine View.canon_apply_of_pieces (Val := Elt Ideal) (S := S1x4x256x128) (e := .f32)
    (fun y => k0_pay81 i x0 x1 x2 x3 x4 (ix2 (y 2 : Fin 256) (⟨(y 1).val * 128 + (y 3).val, by
      have h1 : (y 1).val < 4 := (y 1).isLt
      have h3 : (y 3).val < 128 := (y 3).isLt
      omega⟩ : Fin 512))) _ ?_ _ (cover0_5 _ _ _ _ _)
  refine List.forall_mem_cons.2 ⟨?_, List.forall_mem_cons.2 ⟨?_, List.forall_mem_cons.2 ⟨?_, List.forall_mem_cons.2 ⟨?_, fun _ h => by cases h⟩⟩⟩⟩
  · intro y
    change S1x1x256x128.Idx at y
    idx_vars y
    obtain rfl : y0 = 0 := Subsingleton.elim _ _
    obtain rfl : y1 = 0 := Subsingleton.elim _ _
    rw [(store5 _ y2 y3).2.2]
    exact key _ _ _ _ (by show y2.val = 0 + 1 * y2.val; omega) (by show 384 + y3.val = (3 + 1 * 0) * 128 + (0 + 1 * y3.val); omega)
  · intro y
    change S1x1x256x128.Idx at y
    idx_vars y
    obtain rfl : y0 = 0 := Subsingleton.elim _ _
    obtain rfl : y1 = 0 := Subsingleton.elim _ _
    rw [(store5 _ y2 y3).2.1]
    exact key _ _ _ _ (by show y2.val = 0 + 1 * y2.val; omega) (by show 256 + y3.val = (2 + 1 * 0) * 128 + (0 + 1 * y3.val); omega)
  · intro y
    change S1x1x256x128.Idx at y
    idx_vars y
    obtain rfl : y0 = 0 := Subsingleton.elim _ _
    obtain rfl : y1 = 0 := Subsingleton.elim _ _
    rw [(store5 _ y2 y3).1]
    exact key _ _ _ _ (by show y2.val = 0 + 1 * y2.val; omega) (by show 128 + y3.val = (1 + 1 * 0) * 128 + (0 + 1 * y3.val); omega)
  · intro y
    change S1x1x256x128.Idx at y
    idx_vars y
    obtain rfl : y0 = 0 := Subsingleton.elim _ _
    obtain rfl : y1 = 0 := Subsingleton.elim _ _
    rw [store0]
    exact key _ _ _ _ (by show y2.val = 0 + 1 * y2.val; omega) (by show y3.val = (0 + 1 * 0) * 128 + (0 + 1 * y3.val); omega)

open scoped Classical in
/-- What the body leaves in the block of the marks. -/
theorem out6_at (a : Fin 4) (j : Fin 32) (l : Fin 128) :
    out0_6 i x0 x1 x2 x3 x4 (ix5 0 0 a j l) =
      if (Finset.univ.filter fun k => Ahead (tileScores i x0 x1 x3 x4 ⟨a * 128 + l, by omega⟩) k j).card < 8 then 1 else 0 := by
  rw [← sel_at i x0 x1 x2 x3 x4]
  unfold out0_6
  have h6 := store6 (k0_pay88 i x0 x1 x2 x3 x4) (k0_pay89 i x0 x1 x2 x3 x4) (k0_pay90 i x0 x1 x2 x3 x4) (k0_pay91 i x0 x1 x2 x3 x4)
  generalize k0_pay65 (F := Ideal) (k0_pay88 i x0 x1 x2 x3 x4) (k0_pay89 i x0 x1 x2 x3 x4) (k0_pay90 i x0 x1 x2 x3 x4) (k0_pay91 i x0 x1 x2 x3 x4) = A at *
  have key : ∀ (r r' : Fin 32) (t t' : Fin 512), r.val = r'.val → t.val = t'.val → A (ix2 r t) = A (ix2 r' t') := by
    intro r r' t t' hr ht
    rw [Fin.ext hr, Fin.ext ht]
  refine View.canon_apply_of_pieces (Val := Elt Ideal) (S := S1x1x4x32x128) (e := .f32)
    (fun y => A (ix2 (y 3 : Fin 32) (⟨(y 2).val * 128 + (y 4).val, by
      have h1 : (y 2).val < 4 := (y 2).isLt
      have h3 : (y 4).val < 128 := (y 4).isLt
      omega⟩ : Fin 512))) _ ?_ _ (cover0_6 _ _ _ _ _)
  refine List.forall_mem_cons.2 ⟨?_, List.forall_mem_cons.2 ⟨?_, List.forall_mem_cons.2 ⟨?_, List.forall_mem_cons.2 ⟨?_, fun _ h => by cases h⟩⟩⟩⟩
  · intro y
    change S1x1x1x32x128.Idx at y
    idx_vars y
    obtain rfl : y0 = 0 := Subsingleton.elim _ _
    obtain rfl : y1 = 0 := Subsingleton.elim _ _
    obtain rfl : y2 = 0 := Subsingleton.elim _ _
    rw [(h6 y3 y4).2.2.2]
    exact key _ _ _ _ (by show y3.val = 0 + 1 * y3.val; omega) (by show 384 + y4.val = (3 + 1 * 0) * 128 + (0 + 1 * y4.val); omega)
  · intro y
    change S1x1x1x32x128.Idx at y
    idx_vars y
    obtain rfl : y0 = 0 := Subsingleton.elim _ _
    obtain rfl : y1 = 0 := Subsingleton.elim _ _
    obtain rfl : y2 = 0 := Subsingleton.elim _ _
    rw [(h6 y3 y4).2.2.1]
    exact key _ _ _ _ (by show y3.val = 0 + 1 * y3.val; omega) (by show 256 + y4.val = (2 + 1 * 0) * 128 + (0 + 1 * y4.val); omega)
  · intro y
    change S1x1x1x32x128.Idx at y
    idx_vars y
    obtain rfl : y0 = 0 := Subsingleton.elim _ _
    obtain rfl : y1 = 0 := Subsingleton.elim _ _
    obtain rfl : y2 = 0 := Subsingleton.elim _ _
    rw [(h6 y3 y4).2.1]
    exact key _ _ _ _ (by show y3.val = 0 + 1 * y3.val; omega) (by show 128 + y4.val = (1 + 1 * 0) * 128 + (0 + 1 * y4.val); omega)
  · intro y
    change S1x1x1x32x128.Idx at y
    idx_vars y
    obtain rfl : y0 = 0 := Subsingleton.elim _ _
    obtain rfl : y1 = 0 := Subsingleton.elim _ _
    obtain rfl : y2 = 0 := Subsingleton.elim _ _
    rw [(h6 y3 y4).1]
    exact key _ _ _ _ (by show y3.val = 0 + 1 * y3.val; omega) (by show y4.val = (0 + 1 * 0) * 128 + (0 + 1 * y4.val); omega)

end Tile

end Cert.CmpSelectIdeal.Layer
-- ==== Proof.SelectValue.lean ====
module

public import proofs.«01_k».proof.Defs
public import proofs.«01_k».proof.Proof.SelectReference
public import proofs.«01_k».proof.Proof.SelectKernel

/-! The attention over the compressed blocks and the marks of the eight best selection blocks. -/

@[expose] public section

set_option maxRecDepth 16384

noncomputable section

open Idealize.ShloMosaic Idealize.ShloMosaic.TcCoe Idealize.SL.Sem
open Idealize.ShloMosaic.Pipeline (Dat)

namespace Cert.CmpSelectIdeal.Layer

open Cert.CmpSelectIdeal Cert.CmpSelectIdeal.Gen Cert.Layer

theorem Gatt_at (q : FVec Ideal S8x16x1536x128 .bf16) (k : FVec Ideal S8x4x128x64 .f32) (v : FVec Ideal S8x4x64x128 .f32) (sl : FVec Ideal S4x4x1x1 .f32)
    (b : Fin 8) (c : Fin 16) (g h : Fin 4) (d : Fin 64) (l : Fin 128) :
    Gatt q k v sl (ix4 b c ⟨g * 256 + h * 64 + d, by omega⟩ l)
      = ∑ n : Fin 128, v (ix4 b g d n) * prob (logits q k sl b g h ⟨c * 128 + l, by omega⟩) n := by
  have eg : (⟨(g.val * 256 + h.val * 64 + d.val) / 256, by omega⟩ : Fin 4) = g := Fin.ext (by show (g.val * 256 + h.val * 64 + d.val) / 256 = g.val; omega)
  have eh : (⟨(g.val * 256 + h.val * 64 + d.val) / 64 % 4, by omega⟩ : Fin 4) = h := Fin.ext (by show (g.val * 256 + h.val * 64 + d.val) / 64 % 4 = h.val; omega)
  have ed : (⟨(g.val * 256 + h.val * 64 + d.val) % 64, by omega⟩ : Fin 64) = d := Fin.ext (by show (g.val * 256 + h.val * 64 + d.val) % 64 = d.val; omega)
  unfold Gatt
  refine Finset.sum_congr rfl fun n _ => ?_
  show v (ix4 b (⟨(g.val * 256 + h.val * 64 + d.val) / 256, _⟩ : Fin 4) (⟨(g.val * 256 + h.val * 64 + d.val) % 64, _⟩ : Fin 64) n)
    * prob (logits q k sl b (⟨(g.val * 256 + h.val * 64 + d.val) / 256, _⟩ : Fin 4) (⟨(g.val * 256 + h.val * 64 + d.val) / 64 % 4, _⟩ : Fin 4) _) n = _
  rw [eg, eh, ed]
  rfl

section Tile

variable {q : FVec Ideal S8x16x1536x128 .bf16} {k : FVec Ideal S8x4x128x64 .f32} {sl : FVec Ideal S4x4x1x1 .f32}
  {x0 : Vec Ideal S1x4x256x128 .bf16} {x1 : Vec Ideal S1x1x128x64 .f32} {x3 : Vec Ideal S1x4x1x1 .f32} {x4 : Vec Ideal S32x128 .f32}
  {b : Fin 8} {g j : Fin 4} {i : grid0.Coords}

theorem tile_logits (hp : (i 2).val = j.val)
    (hq : ∀ (a : Fin 4) (r : Fin 256) (l : Fin 128), x0 (ix4 0 a r l) = q (ix4 b ⟨4 * j + a, by omega⟩ ⟨g * 256 + r, by omega⟩ l))
    (hk : ∀ (n : Fin 128) (x : Fin 64), x1 (ix4 0 0 n x) = k (ix4 b g n x)) (hs : ∀ h : Fin 4, x3 (ix4 0 h 0 0) = sl (ix4 g h 0 0))
    (h a : Fin 4) (l : Fin 128) :
    tileLogits i x0 x1 x3 h ⟨a * 128 + l, by omega⟩ = logits q k sl b g h ⟨(4 * j + a) * 128 + l, by omega⟩ := by
  funext n
  unfold tileLogits logits
  have e1 : (fun x : Fin 64 => x0 (ix4 0 (⟨(a.val * 128 + l.val) / 128, by omega⟩ : Fin 4) (⟨h * 64 + x, by omega⟩ : Fin 256) (⟨(a.val * 128 + l.val) % 128, by omega⟩ : Fin 128)))
      = fun x : Fin 64 => q (ix4 b (⟨((4 * j.val + a.val) * 128 + l.val) / 128, by omega⟩ : Fin 16) (⟨g * 256 + h * 64 + x, by omega⟩ : Fin 1536) (⟨((4 * j.val + a.val) * 128 + l.val) % 128, by omega⟩ : Fin 128)) := by
    funext x
    rw [hq]
    have key : ∀ (c c' : Fin 16) (r r' : Fin 1536) (l l' : Fin 128), c.val = c'.val → r.val = r'.val → l.val = l'.val → q (ix4 b c r l) = q (ix4 b c' r' l') := by
      intro c c' r r' l l' hc hr hl
      rw [Fin.ext hc, Fin.ext hr, Fin.ext hl]
    exact key _ _ _ _ _ _ (by show 4 * j.val + (a.val * 128 + l.val) / 128 = ((4 * j.val + a.val) * 128 + l.val) / 128; omega)
      (by show g.val * 256 + (h.val * 64 + x.val) = g.val * 256 + h.val * 64 + x.val; omega)
      (by show (a.val * 128 + l.val) % 128 = ((4 * j.val + a.val) * 128 + l.val) % 128; omega)
  have e2 : (place i ⟨a * 128 + l, by omega⟩).val = (4 * j.val + a.val) * 128 + l.val := by
    show 512 * (i 2).val + (a.val * 128 + l.val) = _
    omega
  have e3 : (fun x : Fin 64 => x1 (ix4 0 0 n x)) = fun x => k (ix4 b g n x) := funext fun x => hk n x
  rw [e2, e3, hs]
  exact congrArg (fun f => logit f _ _ _ _) e1

theorem tile_scores (hp : (i 2).val = j.val)
    (hq : ∀ (a : Fin 4) (r : Fin 256) (l : Fin 128), x0 (ix4 0 a r l) = q (ix4 b ⟨4 * j + a, by omega⟩ ⟨g * 256 + r, by omega⟩ l))
    (hk : ∀ (n : Fin 128) (x : Fin 64), x1 (ix4 0 0 n x) = k (ix4 b g n x)) (hs : ∀ h : Fin 4, x3 (ix4 0 h 0 0) = sl (ix4 g h 0 0))
    (a : Fin 4) (l : Fin 128) :
    tileScores i x0 x1 x3 x4 ⟨a * 128 + l, by omega⟩ = scores q k sl x4 b g ⟨(4 * j + a) * 128 + l, by omega⟩ := by
  funext s
  unfold tileScores scores
  have e2 : (place i ⟨a * 128 + l, by omega⟩).val = (4 * j.val + a.val) * 128 + l.val := by
    show 512 * (i 2).val + (a.val * 128 + l.val) = _
    omega
  rw [e2]
  simp only [tile_logits hp hq hk hs]

end Tile

variable (m : (ℓ : Loc nD τ sig) → Buf (Elt Ideal) ℓ)

/-- Where each window's block lies at grid point `t`. -/
theorem idx : ∀ t : Fin cfg0.N, win0_0.index t = ![t.val / 16, t.val % 4, t.val / 4 % 4, 0] ∧ win0_1.index t = ![t.val / 16, t.val / 4 % 4, 0, 0]
    ∧ win0_2.index t = ![t.val / 16, t.val / 4 % 4, 0, 0] ∧ win0_3.index t = ![t.val / 4 % 4, 0, 0, 0] ∧ win0_4.index t = ![0, 0]
    ∧ win0_5.index t = ![t.val / 16, t.val % 4, t.val / 4 % 4, 0] ∧ win0_6.index t = ![t.val / 16, t.val / 4 % 4, t.val % 4, 0, 0] :=
  (by decide +kernel : ∀ t : Fin grid0.N, _)

theorem chunk : ∀ t : Fin cfg0.N, (grid0.coords t 2).val = t.val % 4 := (by decide +kernel : ∀ t : Fin grid0.N, _)

section Blocks

variable (c : Dev nD) (t : Fin cfg0.N)

def bt : Fin 8 := ⟨t.val / 16, by have h : t.val < 128 := t.isLt; omega⟩
def gt : Fin 4 := ⟨t.val / 4 % 4, by omega⟩
def jt : Fin 4 := ⟨t.val % 4, by omega⟩

theorem blk_q (a : Fin 4) (r : Fin 256) (l : Fin 128) :
    iblk m c 0 t (ix4 0 a r l) = m (c.tc.loc main_arg0) (ix4 (bt t) ⟨4 * jt t + a, by omega⟩ ⟨gt t * 256 + r, by omega⟩ l) := by
  unfold bt gt jt; blk_ext [iblk, V, idx t]

theorem blk_k (n : Fin 128) (x : Fin 64) : iblk m c 1 t (ix4 0 0 n x) = m (c.tc.loc main_arg1) (ix4 (bt t) (gt t) n x) := by
  unfold bt gt; blk_ext [iblk, V, idx t]

theorem blk_v (d : Fin 64) (n : Fin 128) : iblk m c 2 t (ix4 0 0 d n) = m (c.tc.loc main_arg2) (ix4 (bt t) (gt t) d n) := by
  unfold bt gt; blk_ext [iblk, V, idx t]

theorem blk_s (h : Fin 4) : iblk m c 3 t (ix4 0 h 0 0) = m (c.tc.loc main_arg3) (ix4 (gt t) h 0 0) := by
  unfold gt; blk_ext [iblk, V, idx t]

end Blocks

theorem final5 (c : Dev nD) : (dats m 0 c).arrAt 5 (cfgs 0).N = Gatt (m (c.tc.loc main_arg0)) (m (c.tc.loc main_arg1))
      (m (c.tc.loc main_arg2)) (m (c.tc.loc main_arg3)) := by
  refine (dats m 0 c).arrAt_eq_of_covers 5 _ (by decide +kernel) fun t _ y => ?_
  blk_simp
  rw [after0_5]
  idx_vars y
  obtain rfl : y0 = 0 := Subsingleton.elim _ _
  have split : ∀ r : Fin 256, ∃ (h : Fin 4) (d : Fin 64), r = ⟨h * 64 + d, by omega⟩ := fun r =>
    ⟨⟨r / 64, by omega⟩, ⟨r % 64, by omega⟩, Fin.ext (by show r.val = r.val / 64 * 64 + r.val % 64; omega)⟩
  obtain ⟨h, d, rfl⟩ := split y2
  rw [out5_at]
  generalize hi : ((View.whole main_v0_0).slice (win0_5.rect t)).emb (ix4 0 y1 ⟨h * 64 + d, by omega⟩ y3) = i
  change S8x16x1024x128.Idx at i
  have ei : i = ix4 (bt t) ⟨4 * jt t + y1, by omega⟩ ⟨gt t * 256 + h * 64 + d, by omega⟩ y3 := by
    subst hi
    unfold bt gt jt
    funext a
    fin_cases a
    · exact Fin.ext (by blk_simp [idx t]; try simp)
    · exact Fin.ext (by blk_simp [idx t]; try simp; try omega)
    · exact Fin.ext (by blk_simp [idx t]; try simp; try omega)
    · exact Fin.ext (by blk_simp [idx t]; try simp)
  rw [ei, Gatt_at, tile_logits (chunk t) (blk_q m c t) (blk_k m c t) (blk_s m c t)]
  simp only [blk_v]

theorem final6 (c : Dev nD) : (dats m 0 c).arrAt 6 (cfgs 0).N = Gsel (m (c.tc.loc main_arg0)) (m (c.tc.loc main_arg1))
      (m (c.tc.loc main_arg3)) (m (c.tc.loc main_arg4)) := by
  refine (dats m 0 c).arrAt_eq_of_covers 6 _ (by decide +kernel) fun t _ y => ?_
  blk_simp
  have e4 : iblk m c 4 t = m (c.tc.loc main_arg4) := by blk_ext! [iblk, V, idx t]
  rw [after0_6]
  idx_vars y
  obtain rfl : y0 = 0 := Subsingleton.elim _ _
  obtain rfl : y1 = 0 := Subsingleton.elim _ _
  rw [out6_at, e4]
  generalize hi : ((View.whole main_v0_1).slice (win0_6.rect t)).emb (ix5 0 0 y2 y3 y4) = i
  change S8x4x16x32x128.Idx at i
  have ei : i = ix5 (bt t) (gt t) ⟨4 * jt t + y2, by omega⟩ y3 y4 := by
    subst hi
    unfold bt gt jt
    funext a
    fin_cases a
    · exact Fin.ext (by blk_simp [idx t]; try simp)
    · exact Fin.ext (by blk_simp [idx t]; try simp)
    · exact Fin.ext (by blk_simp [idx t]; try simp; try omega)
    · exact Fin.ext (by blk_simp [idx t]; try simp)
    · exact Fin.ext (by blk_simp [idx t]; try simp)
  rw [ei, tile_scores (chunk t) (blk_q m c t) (blk_k m c t) (blk_s m c t)]
  rfl

end Cert.CmpSelectIdeal.Layer

namespace Cert.Proof

theorem select_value : Cert.algebraic_CmpSelectIdeal_CmpSelectRefIdeal := by
  pair_intro
  · run_from Cert.CmpSelectIdeal.Gen.run_main m g
  · run_from Cert.CmpSelectRefIdeal.Value.run m' g'
    · rw [Cert.CmpSelectIdeal.Layer.final5 m c, Cert.CmpSelectRefIdeal.Read.val_main_v87_eq, Cert.CmpSelectRefIdeal.Layer.att_eq]
      simp only [hagree c]
    · rw [Cert.CmpSelectIdeal.Layer.final6 m c, Cert.CmpSelectRefIdeal.Read.val_main_v89_eq, Cert.CmpSelectRefIdeal.Layer.sel_eq]
      simp only [hagree c]

end Cert.Proof
-- ==== Proof.lean ====
module

public import proofs.«01_k».proof.Defs
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.Gen.FfnRefIdeal.Run
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjRefIdeal
public import proofs.«01_k».proof.Proof.Gen.InProjRefIdeal.Run
public import proofs.«01_k».proof.Proof.Gen.InProjT
public import proofs.«01_k».proof.Proof.Gen.InProjT.Frame
public import proofs.«01_k».proof.Proof.Gen.InProjTIdeal
public import proofs.«01_k».proof.Proof.Gen.InProjTIdeal.Frame
public import proofs.«01_k».proof.Proof.Gen.InProjTRefIdeal
public import proofs.«01_k».proof.Proof.Gen.InProjTRefIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeRefIdeal
public import proofs.«01_k».proof.Proof.Gen.MergeRefIdeal.Run
public import proofs.«01_k».proof.Proof.Gen.Xattn
public import proofs.«01_k».proof.Proof.Gen.Xattn.Frame
public import proofs.«01_k».proof.Proof.Gen.XattnIdeal
public import proofs.«01_k».proof.Proof.Gen.XattnIdeal.Frame
public import proofs.«01_k».proof.Proof.Gen.XattnRefIdeal
public import proofs.«01_k».proof.Proof.Gen.XattnRefIdeal.Run
public import proofs.«01_k».proof.Proof.Gen.MemKv
public import proofs.«01_k».proof.Proof.Gen.MemKv.Frame
public import proofs.«01_k».proof.Proof.Gen.MemKvIdeal
public import proofs.«01_k».proof.Proof.Gen.MemKvIdeal.Frame
public import proofs.«01_k».proof.Proof.Gen.MemKvRefIdeal
public import proofs.«01_k».proof.Proof.Gen.MemKvRefIdeal.Run
public import proofs.«01_k».proof.Proof.Gen.Hgrn
public import proofs.«01_k».proof.Proof.Gen.Hgrn.Frame
public import proofs.«01_k».proof.Proof.Gen.HgrnIdeal
public import proofs.«01_k».proof.Proof.Gen.HgrnIdeal.Frame
public import proofs.«01_k».proof.Proof.Gen.HgrnRefIdeal
public import proofs.«01_k».proof.Proof.Gen.HgrnRefIdeal.Run
public import proofs.«01_k».proof.Proof.Gen.HgrnRefIdeal.Step
public import proofs.«01_k».proof.Proof.Gen.HgrnRefIdeal.StepRun
public import proofs.«01_k».proof.Proof.Gen.Compress
public import proofs.«01_k».proof.Proof.Gen.Compress.Frame
public import proofs.«01_k».proof.Proof.Gen.CompressIdeal
public import proofs.«01_k».proof.Proof.Gen.CompressIdeal.Frame
public import proofs.«01_k».proof.Proof.Gen.CompressRefIdeal
public import proofs.«01_k».proof.Proof.Gen.CompressRefIdeal.Run
public import proofs.«01_k».proof.Proof.Gen.CmpSelect
public import proofs.«01_k».proof.Proof.Gen.CmpSelect.Frame
public import proofs.«01_k».proof.Proof.Gen.CmpSelectIdeal
public import proofs.«01_k».proof.Proof.Gen.CmpSelectIdeal.Frame
public import proofs.«01_k».proof.Proof.Gen.CmpSelectRefIdeal
public import proofs.«01_k».proof.Proof.Gen.CmpSelectRefIdeal.Run
public import proofs.«01_k».proof.Proof.Gen.Sparse
public import proofs.«01_k».proof.Proof.Gen.Sparse.Frame
public import proofs.«01_k».proof.Proof.Gen.SparseIdeal
public import proofs.«01_k».proof.Proof.Gen.SparseIdeal.Frame
public import proofs.«01_k».proof.Proof.FfnValue
public import proofs.«01_k».proof.Proof.InProjValue
public import proofs.«01_k».proof.Proof.InProjTValue
public import proofs.«01_k».proof.Proof.MergeValue
public import proofs.«01_k».proof.Proof.XattnValue
public import proofs.«01_k».proof.Proof.MemKvValue
public import proofs.«01_k».proof.Proof.HgrnValue
public import proofs.«01_k».proof.Proof.CompressValue
public import proofs.«01_k».proof.Proof.SelectValue
public import Idealize.ShloMosaic.Adequacy
public import Idealize.ShloMosaic.Init

@[expose] public section

noncomputable section

namespace Cert.Proof

open Idealize.ShloMosaic Idealize.SL.Sem

/-- The reference of the `Ffn` call leaves its arguments as they were and its semaphores at zero. -/
theorem ref_frame_ffn : Cert.quiescent_FfnRefIdeal := fun m g _ =>
  (θ_run (Cert.FfnRefIdeal.defs (F := Ideal)) (onTc (τ := Cert.FfnRefIdeal.τ) (Cert.FfnRefIdeal.main (F := Ideal))) ⟨m, fun _ => 0, g⟩).mono
    (fun r h => ⟨fun c => (h c).2, sem_eq_zero_of_no_sems (by decide) r.2⟩) (Cert.FfnRefIdeal.Value.run m g)

/-- The reference of the `InProj` call leaves its arguments as they were and its semaphores at zero. -/
theorem ref_frame_inproj : Cert.quiescent_InProjRefIdeal := fun m g _ =>
  (θ_run (Cert.InProjRefIdeal.defs (F := Ideal)) (onTc (τ := Cert.InProjRefIdeal.τ) (Cert.InProjRefIdeal.main (F := Ideal))) ⟨m, fun _ => 0, g⟩).mono
    (fun r h => ⟨fun c => (h c).2, sem_eq_zero_of_no_sems (by decide) r.2⟩) (Cert.InProjRefIdeal.Value.run m g)

/-- The reference of the `InProjT` call leaves its arguments as they were and its semaphores at zero. -/
theorem ref_frame_inprojt : Cert.quiescent_InProjTRefIdeal := fun m g _ =>
  (θ_run (Cert.InProjTRefIdeal.defs (F := Ideal)) (onTc (τ := Cert.InProjTRefIdeal.τ) (Cert.InProjTRefIdeal.main (F := Ideal))) ⟨m, fun _ => 0, g⟩).mono
    (fun r h => ⟨fun c => (h c).2.2, sem_eq_zero_of_no_sems (by decide) r.2⟩) (Cert.InProjTRefIdeal.Value.run m g)

/-- The reference of the `Merge` call leaves its arguments as they were and its semaphores at zero. -/
theorem ref_frame_merge : Cert.quiescent_MergeRefIdeal := fun m g _ =>
  (θ_run (Cert.MergeRefIdeal.defs (F := Ideal)) (onTc (τ := Cert.MergeRefIdeal.τ) (Cert.MergeRefIdeal.main (F := Ideal))) ⟨m, fun _ => 0, g⟩).mono
    (fun r h => ⟨fun c => (h c).2, sem_eq_zero_of_no_sems (by decide) r.2⟩) (Cert.MergeRefIdeal.Value.run m g)

/-- The reference of the `Xattn` call leaves its arguments as they were and its semaphores at zero. -/
theorem ref_frame_xattn : Cert.quiescent_XattnRefIdeal := fun m g _ =>
  (θ_run (Cert.XattnRefIdeal.defs (F := Ideal)) (onTc (τ := Cert.XattnRefIdeal.τ) (Cert.XattnRefIdeal.main (F := Ideal))) ⟨m, fun _ => 0, g⟩).mono
    (fun r h => ⟨fun c => (h c).2, sem_eq_zero_of_no_sems (by decide) r.2⟩) (Cert.XattnRefIdeal.Value.run m g)

/-- The reference of the `MemKv` call leaves its arguments as they were and its semaphores at zero. -/
theorem ref_frame_memkv : Cert.quiescent_MemKvRefIdeal := fun m g _ =>
  (θ_run (Cert.MemKvRefIdeal.defs (F := Ideal)) (onTc (τ := Cert.MemKvRefIdeal.τ) (Cert.MemKvRefIdeal.main (F := Ideal))) ⟨m, fun _ => 0, g⟩).mono
    (fun r h => ⟨fun c => (h c).2.2, sem_eq_zero_of_no_sems (by decide) r.2⟩) (Cert.MemKvRefIdeal.Value.run m g)

/-- The reference of the `Compress` call leaves its arguments as they were and its semaphores at zero. -/
theorem ref_frame_compress : Cert.quiescent_CompressRefIdeal := fun m g _ =>
  (θ_run (Cert.CompressRefIdeal.defs (F := Ideal)) (onTc (τ := Cert.CompressRefIdeal.τ) (Cert.CompressRefIdeal.main (F := Ideal))) ⟨m, fun _ => 0, g⟩).mono
    (fun r h => ⟨fun c => (h c).2.2, sem_eq_zero_of_no_sems (by decide) r.2⟩) (Cert.CompressRefIdeal.Value.run m g)

/-- The reference of the `CmpSelect` call leaves its arguments as they were and its semaphores at zero. -/
theorem ref_frame_cmpselect : Cert.quiescent_CmpSelectRefIdeal := fun m g _ =>
  (θ_run (Cert.CmpSelectRefIdeal.defs (F := Ideal)) (onTc (τ := Cert.CmpSelectRefIdeal.τ) (Cert.CmpSelectRefIdeal.main (F := Ideal))) ⟨m, fun _ => 0, g⟩).mono
    (fun r h => ⟨fun c => (h c).2.2, sem_eq_zero_of_no_sems (by decide) r.2⟩) (Cert.CmpSelectRefIdeal.Value.run m g)

theorem claim : Cert.Claim := ⟨Cert.Ffn.Gen.facts, Cert.FfnIdeal.Gen.facts, Cert.FfnRefIdeal.Gen.facts, Cert.InProj.Gen.facts, Cert.InProjIdeal.Gen.facts, Cert.InProjRefIdeal.Gen.facts, Cert.InProjT.Gen.facts, Cert.InProjTIdeal.Gen.facts, Cert.InProjTRefIdeal.Gen.facts, Cert.Merge.Gen.facts, Cert.MergeIdeal.Gen.facts, Cert.MergeRefIdeal.Gen.facts, Cert.Xattn.Gen.facts, Cert.XattnIdeal.Gen.facts, Cert.XattnRefIdeal.Gen.facts, Cert.MemKv.Gen.facts, Cert.MemKvIdeal.Gen.facts, Cert.MemKvRefIdeal.Gen.facts, Cert.Hgrn.Gen.facts, Cert.HgrnIdeal.Gen.facts, Cert.HgrnRefIdeal.Gen.facts, Cert.Compress.Gen.facts, Cert.CompressIdeal.Gen.facts, Cert.CompressRefIdeal.Gen.facts, Cert.CmpSelect.Gen.facts, Cert.CmpSelectIdeal.Gen.facts, Cert.CmpSelectRefIdeal.Gen.facts, Cert.Sparse.Gen.facts, Cert.SparseIdeal.Gen.facts,
  fun m g _ => Cert.Ffn.Gen.frame m g,
  fun m g _ => Cert.FfnIdeal.Gen.frame m g,
  ref_frame_ffn,
  fun m g _ => Cert.InProj.Gen.frame m g,
  fun m g _ => Cert.InProjIdeal.Gen.frame m g,
  ref_frame_inproj,
  fun m g _ => Cert.InProjT.Gen.frame m g,
  fun m g _ => Cert.InProjTIdeal.Gen.frame m g,
  ref_frame_inprojt,
  fun m g _ => Cert.Merge.Gen.frame m g,
  fun m g _ => Cert.MergeIdeal.Gen.frame m g,
  ref_frame_merge,
  fun m g _ => Cert.Xattn.Gen.frame m g,
  fun m g _ => Cert.XattnIdeal.Gen.frame m g,
  ref_frame_xattn,
  fun m g _ => Cert.MemKv.Gen.frame m g,
  fun m g _ => Cert.MemKvIdeal.Gen.frame m g,
  ref_frame_memkv,
  fun m g _ => Cert.Hgrn.Gen.frame m g,
  fun m g _ => Cert.HgrnIdeal.Gen.frame m g,
  hgrn_ref_frame,
  fun m g _ => Cert.Compress.Gen.frame m g,
  fun m g _ => Cert.CompressIdeal.Gen.frame m g,
  ref_frame_compress,
  fun m g _ => Cert.CmpSelect.Gen.frame m g,
  fun m g _ => Cert.CmpSelectIdeal.Gen.frame m g,
  ref_frame_cmpselect,
  fun m g _ => Cert.Sparse.Gen.frame m g,
  fun m g _ => Cert.SparseIdeal.Gen.frame m g,
  trivial,
  ffn_value,
  trivial,
  inproj_value,
  trivial,
  inproj_t_value,
  trivial,
  merge_value,
  IdealRules.named_const.statement Cert.XattnIdeal.κ "scale" .f32 0x3DB504F3#32 (((Real.sqrt 128)⁻¹ : ℝ) : EReal) rfl,
  xattn_value,
  trivial,
  memkv_value,
  trivial,
  hgrn_value,
  trivial,
  compress_value,
  trivial,
  select_value,
  IdealRules.named_const.statement Cert.SparseIdeal.κ "mask" .f32 0xF149F2CA#32 ⊥ rfl⟩

end Cert.Proof

end
